-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4096x256 : Shape := ⟨2, ![4096, 256]⟩
abbrev S256x2048 : Shape := ⟨2, ![256, 2048]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S4096x256 .f32) (main_arg1 : FVec F S256x2048 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== Pre_finite_ReferenceIdeal.lean ====
abbrev S4096x4096 : Shape := ⟨2, ![4096, 4096]⟩
abbrev S4096x2048 : Shape := ⟨2, ![4096, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x4096 .f32) (main_arg1 : FVec F S4096x2048 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x256 : Shape := ⟨2, ![4096, 256]⟩
abbrev S256x2048 : Shape := ⟨2, ![256, 2048]⟩
abbrev S16x128 : Shape := ⟨2, ![16, 128]⟩
abbrev S2x256x512 : Shape := ⟨3, ![2, 256, 512]⟩
abbrev S2 : Shape := ⟨1, ![2]⟩
abbrev S_ : Shape := ⟨0, ![]⟩
abbrev S16 : Shape := ⟨1, ![16]⟩
abbrev S256x256 : Shape := ⟨2, ![256, 256]⟩
abbrev S256x1024 : Shape := ⟨2, ![256, 1024]⟩
abbrev S256x512 : Shape := ⟨2, ![256, 512]⟩
abbrev S1x256x512 : Shape := ⟨3, ![1, 256, 512]⟩
abbrev S1 : Shape := ⟨1, ![1]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S256x2048, .f32⟩
  | .local _ .vmem, ⟨3, _⟩ => ⟨S256x2048, .bf16⟩
  | .local _ .vmem, ⟨4, _⟩ => ⟨S256x2048, .bf16⟩
  | .local _ .vmem, ⟨5, _⟩ => ⟨S16x128, .f32⟩
  | .local _ .vmem, ⟨6, _⟩ => ⟨S2x256x512, .i16⟩
  | .local _ .vmem, ⟨7, _⟩ => ⟨S2x256x512, .i16⟩
  | .local _ .vmem, ⟨8, _⟩ => ⟨S2x256x512, .i16⟩
  | .local _ .vmem, ⟨9, _⟩ => ⟨S2x256x512, .i16⟩
  | .local _ .vmem, ⟨10, _⟩ => ⟨S2x256x512, .i16⟩
  | .local _ .vmem, ⟨11, _⟩ => ⟨S2x256x512, .i16⟩
  | .local _ .vmem, ⟨12, _⟩ => ⟨S2x256x512, .i16⟩
  | .local _ .vmem, ⟨13, _⟩ => ⟨S2x256x512, .i16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 5 51 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_15 : BitVec 32 := 1#32
  let v27 : BitVec 32 := Scalar.subi v2 c1_i32_15
  let v28 : BitVec 32 := Scalar.subi v27 c0_i32_16
  let c32_i32 : BitVec 32 := 32#32
  let v29 : BitVec 32 := Scalar.addi v28 c32_i32
  let c16_i32_17 : BitVec 32 := 16#32
  let v30 : BitVec 32 := Scalar.remsi v29 c16_i32_17
  let c256_i32 : BitVec 32 := 256#32
  let v31 : BitVec 32 := Scalar.muli v30 c256_i32
  let v32 : Index := Scalar.indexCast v31
  let c0_18 : Index := 0#32
  ![v32.toNat, 0]
def k0_off2 (d0 : Dev nD) (c0_i32_27 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v46 : BitVec 32 := Scalar.addi v2 c1_i32_26
  let v47 : BitVec 32 := Scalar.addi v46 c0_i32_27
  let c16_i32_28 : BitVec 32 := 16#32
  let v48 : BitVec 32 := Scalar.remsi v47 c16_i32_28
  let c256_i32_29 : BitVec 32 := 256#32
  let v49 : BitVec 32 := Scalar.muli v48 c256_i32_29
  let v50 : Index := Scalar.indexCast v49
  let c0_30 : Index := 0#32
  ![v50.toNat, 0]
def k0_dev3 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_44 : BitVec 32 := 1#32
  let v70 : BitVec 32 := Scalar.muli v4 c1_i32_44
  let v71 : BitVec 32 := Scalar.addi c0_i32_45 v70
  v71.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_57 : BitVec 32 := 1#32
  let v86 : BitVec 32 := Scalar.muli v7 c1_i32_57
  let v87 : BitVec 32 := Scalar.addi c0_i32_58 v86
  v87.toNat
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_70 : BitVec 32 := 1#32
  let v102 : BitVec 32 := Scalar.muli v4 c1_i32_70
  let v103 : BitVec 32 := Scalar.addi c0_i32_71 v102
  v103.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_83 : BitVec 32 := 1#32
  let v118 : BitVec 32 := Scalar.muli v7 c1_i32_83
  let v119 : BitVec 32 := Scalar.addi c0_i32_84 v118
  v119.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_128 : BitVec 32 := 1#32
  let v179 : BitVec 32 := Scalar.muli v7 c1_i32_128
  let v180 : BitVec 32 := Scalar.addi c0_i32_129 v179
  v180.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_136 : BitVec 32 := 1#32
  let v184 : BitVec 32 := Scalar.muli v4 c1_i32_136
  let v185 : BitVec 32 := Scalar.addi c0_i32_137 v184
  v185.toNat
def k0_dev9 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_156 : BitVec 32 := 1#32
  let v208 : BitVec 32 := Scalar.muli v4 c1_i32_156
  let v209 : BitVec 32 := Scalar.addi c0_i32_157 v208
  v209.toNat
def k0_dev10 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_165 : BitVec 32 := 1#32
  let v213 : BitVec 32 := Scalar.muli v7 c1_i32_165
  let v214 : BitVec 32 := Scalar.addi c0_i32_166 v213
  v214.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_185 : BitVec 32 := 1#32
  let v237 : BitVec 32 := Scalar.muli v7 c1_i32_185
  let v238 : BitVec 32 := Scalar.addi c0_i32_186 v237
  v238.toNat
def k0_dev12 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_194 : BitVec 32 := 1#32
  let v242 : BitVec 32 := Scalar.muli v4 c1_i32_194
  let v243 : BitVec 32 := Scalar.addi c0_i32_195 v242
  v243.toNat
def k0_dev13 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_214 : BitVec 32 := 1#32
  let v266 : BitVec 32 := Scalar.muli v4 c1_i32_214
  let v267 : BitVec 32 := Scalar.addi c0_i32_215 v266
  v267.toNat
def k0_dev14 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_223 : BitVec 32 := 1#32
  let v271 : BitVec 32 := Scalar.muli v7 c1_i32_223
  let v272 : BitVec 32 := Scalar.addi c0_i32_224 v271
  v272.toNat
def k0_dev15 (d0 : Dev nD) : Nat :=
  let c0_i32_269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_268 : BitVec 32 := 1#32
  let v332 : BitVec 32 := Scalar.muli v7 c1_i32_268
  let v333 : BitVec 32 := Scalar.addi c0_i32_269 v332
  v333.toNat
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_288 : BitVec 32 := 1#32
  let v343 : BitVec 32 := Scalar.muli v4 c1_i32_288
  let v344 : BitVec 32 := Scalar.addi c0_i32_289 v343
  v344.toNat
def k0_dev17 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_308 : BitVec 32 := 1#32
  let v367 : BitVec 32 := Scalar.muli v4 c1_i32_308
  let v368 : BitVec 32 := Scalar.addi c0_i32_309 v367
  v368.toNat
def k0_dev18 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_328 : BitVec 32 := 1#32
  let v378 : BitVec 32 := Scalar.muli v7 c1_i32_328
  let v379 : BitVec 32 := Scalar.addi c0_i32_329 v378
  v379.toNat
def k0_dev19 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_348 : BitVec 32 := 1#32
  let v402 : BitVec 32 := Scalar.muli v7 c1_i32_348
  let v403 : BitVec 32 := Scalar.addi c0_i32_349 v402
  v403.toNat
def k0_dev20 (d0 : Dev nD) : Nat :=
  let c0_i32_369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_368 : BitVec 32 := 1#32
  let v413 : BitVec 32 := Scalar.muli v4 c1_i32_368
  let v414 : BitVec 32 := Scalar.addi c0_i32_369 v413
  v414.toNat
def k0_dev21 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_388 : BitVec 32 := 1#32
  let v437 : BitVec 32 := Scalar.muli v4 c1_i32_388
  let v438 : BitVec 32 := Scalar.addi c0_i32_389 v437
  v438.toNat
def k0_dev22 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_408 : BitVec 32 := 1#32
  let v448 : BitVec 32 := Scalar.muli v7 c1_i32_408
  let v449 : BitVec 32 := Scalar.addi c0_i32_409 v448
  v449.toNat
def k0_dev23 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_452 : BitVec 32 := 1#32
  let v509 : BitVec 32 := Scalar.muli v7 c1_i32_452
  let v510 : BitVec 32 := Scalar.addi c0_i32_453 v509
  v510.toNat
def k0_dev24 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_472 : BitVec 32 := 1#32
  let v520 : BitVec 32 := Scalar.muli v4 c1_i32_472
  let v521 : BitVec 32 := Scalar.addi c0_i32_473 v520
  v521.toNat
def k0_dev25 (d0 : Dev nD) : Nat :=
  let c0_i32_493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_492 : BitVec 32 := 1#32
  let v544 : BitVec 32 := Scalar.muli v4 c1_i32_492
  let v545 : BitVec 32 := Scalar.addi c0_i32_493 v544
  v545.toNat
def k0_dev26 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_512 : BitVec 32 := 1#32
  let v555 : BitVec 32 := Scalar.muli v7 c1_i32_512
  let v556 : BitVec 32 := Scalar.addi c0_i32_513 v555
  v556.toNat
def k0_dev27 (d0 : Dev nD) : Nat :=
  let c0_i32_533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_532 : BitVec 32 := 1#32
  let v579 : BitVec 32 := Scalar.muli v7 c1_i32_532
  let v580 : BitVec 32 := Scalar.addi c0_i32_533 v579
  v580.toNat
def k0_dev28 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_552 : BitVec 32 := 1#32
  let v590 : BitVec 32 := Scalar.muli v4 c1_i32_552
  let v591 : BitVec 32 := Scalar.addi c0_i32_553 v590
  v591.toNat
def k0_dev29 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_572 : BitVec 32 := 1#32
  let v614 : BitVec 32 := Scalar.muli v4 c1_i32_572
  let v615 : BitVec 32 := Scalar.addi c0_i32_573 v614
  v615.toNat
def k0_dev30 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_592 : BitVec 32 := 1#32
  let v625 : BitVec 32 := Scalar.muli v7 c1_i32_592
  let v626 : BitVec 32 := Scalar.addi c0_i32_593 v625
  v626.toNat
def k0_dev31 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_636 : BitVec 32 := 1#32
  let v686 : BitVec 32 := Scalar.muli v7 c1_i32_636
  let v687 : BitVec 32 := Scalar.addi c0_i32_637 v686
  v687.toNat
def k0_dev32 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_656 : BitVec 32 := 1#32
  let v697 : BitVec 32 := Scalar.muli v4 c1_i32_656
  let v698 : BitVec 32 := Scalar.addi c0_i32_657 v697
  v698.toNat
def k0_dev33 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_676 : BitVec 32 := 1#32
  let v721 : BitVec 32 := Scalar.muli v4 c1_i32_676
  let v722 : BitVec 32 := Scalar.addi c0_i32_677 v721
  v722.toNat
def k0_dev34 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_696 : BitVec 32 := 1#32
  let v732 : BitVec 32 := Scalar.muli v7 c1_i32_696
  let v733 : BitVec 32 := Scalar.addi c0_i32_697 v732
  v733.toNat
def k0_dev35 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_716 : BitVec 32 := 1#32
  let v756 : BitVec 32 := Scalar.muli v7 c1_i32_716
  let v757 : BitVec 32 := Scalar.addi c0_i32_717 v756
  v757.toNat
def k0_dev36 (d0 : Dev nD) : Nat :=
  let c0_i32_737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_736 : BitVec 32 := 1#32
  let v767 : BitVec 32 := Scalar.muli v4 c1_i32_736
  let v768 : BitVec 32 := Scalar.addi c0_i32_737 v767
  v768.toNat
def k0_dev37 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_756 : BitVec 32 := 1#32
  let v791 : BitVec 32 := Scalar.muli v4 c1_i32_756
  let v792 : BitVec 32 := Scalar.addi c0_i32_757 v791
  v792.toNat
def k0_dev38 (d0 : Dev nD) : Nat :=
  let c0_i32_777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_776 : BitVec 32 := 1#32
  let v802 : BitVec 32 := Scalar.muli v7 c1_i32_776
  let v803 : BitVec 32 := Scalar.addi c0_i32_777 v802
  v803.toNat
def k0_dev39 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_820 : BitVec 32 := 1#32
  let v863 : BitVec 32 := Scalar.muli v7 c1_i32_820
  let v864 : BitVec 32 := Scalar.addi c0_i32_821 v863
  v864.toNat
def k0_dev40 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_840 : BitVec 32 := 1#32
  let v874 : BitVec 32 := Scalar.muli v4 c1_i32_840
  let v875 : BitVec 32 := Scalar.addi c0_i32_841 v874
  v875.toNat
def k0_dev41 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_860 : BitVec 32 := 1#32
  let v898 : BitVec 32 := Scalar.muli v4 c1_i32_860
  let v899 : BitVec 32 := Scalar.addi c0_i32_861 v898
  v899.toNat
def k0_dev42 (d0 : Dev nD) : Nat :=
  let c0_i32_881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_880 : BitVec 32 := 1#32
  let v909 : BitVec 32 := Scalar.muli v7 c1_i32_880
  let v910 : BitVec 32 := Scalar.addi c0_i32_881 v909
  v910.toNat
def k0_dev43 (d0 : Dev nD) : Nat :=
  let c0_i32_901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_900 : BitVec 32 := 1#32
  let v933 : BitVec 32 := Scalar.muli v7 c1_i32_900
  let v934 : BitVec 32 := Scalar.addi c0_i32_901 v933
  v934.toNat
def k0_dev44 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_920 : BitVec 32 := 1#32
  let v944 : BitVec 32 := Scalar.muli v4 c1_i32_920
  let v945 : BitVec 32 := Scalar.addi c0_i32_921 v944
  v945.toNat
def k0_dev45 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_940 : BitVec 32 := 1#32
  let v968 : BitVec 32 := Scalar.muli v4 c1_i32_940
  let v969 : BitVec 32 := Scalar.addi c0_i32_941 v968
  v969.toNat
def k0_dev46 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_960 : BitVec 32 := 1#32
  let v979 : BitVec 32 := Scalar.muli v7 c1_i32_960
  let v980 : BitVec 32 := Scalar.addi c0_i32_961 v979
  v980.toNat
def k0_dev47 (d0 : Dev nD) : Nat :=
  let c0_i32_1005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1004 : BitVec 32 := 1#32
  let v1040 : BitVec 32 := Scalar.muli v7 c1_i32_1004
  let v1041 : BitVec 32 := Scalar.addi c0_i32_1005 v1040
  v1041.toNat
def k0_dev48 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1024 : BitVec 32 := 1#32
  let v1051 : BitVec 32 := Scalar.muli v4 c1_i32_1024
  let v1052 : BitVec 32 := Scalar.addi c0_i32_1025 v1051
  v1052.toNat
def k0_dev49 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1044 : BitVec 32 := 1#32
  let v1075 : BitVec 32 := Scalar.muli v4 c1_i32_1044
  let v1076 : BitVec 32 := Scalar.addi c0_i32_1045 v1075
  v1076.toNat
def k0_dev50 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1064 : BitVec 32 := 1#32
  let v1086 : BitVec 32 := Scalar.muli v7 c1_i32_1064
  let v1087 : BitVec 32 := Scalar.addi c0_i32_1065 v1086
  v1087.toNat
def k0_dev51 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1084 : BitVec 32 := 1#32
  let v1110 : BitVec 32 := Scalar.muli v7 c1_i32_1084
  let v1111 : BitVec 32 := Scalar.addi c0_i32_1085 v1110
  v1111.toNat
def k0_dev52 (d0 : Dev nD) : Nat :=
  let c0_i32_1105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1104 : BitVec 32 := 1#32
  let v1121 : BitVec 32 := Scalar.muli v4 c1_i32_1104
  let v1122 : BitVec 32 := Scalar.addi c0_i32_1105 v1121
  v1122.toNat
def k0_dev53 (d0 : Dev nD) : Nat :=
  let c0_i32_1125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1124 : BitVec 32 := 1#32
  let v1145 : BitVec 32 := Scalar.muli v4 c1_i32_1124
  let v1146 : BitVec 32 := Scalar.addi c0_i32_1125 v1145
  v1146.toNat
def k0_dev54 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1144 : BitVec 32 := 1#32
  let v1156 : BitVec 32 := Scalar.muli v7 c1_i32_1144
  let v1157 : BitVec 32 := Scalar.addi c0_i32_1145 v1156
  v1157.toNat
def k0_dev55 (d0 : Dev nD) : Nat :=
  let c0_i32_1189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1188 : BitVec 32 := 1#32
  let v1217 : BitVec 32 := Scalar.muli v7 c1_i32_1188
  let v1218 : BitVec 32 := Scalar.addi c0_i32_1189 v1217
  v1218.toNat
def k0_dev56 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1208 : BitVec 32 := 1#32
  let v1228 : BitVec 32 := Scalar.muli v4 c1_i32_1208
  let v1229 : BitVec 32 := Scalar.addi c0_i32_1209 v1228
  v1229.toNat
def k0_dev57 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1228 : BitVec 32 := 1#32
  let v1252 : BitVec 32 := Scalar.muli v4 c1_i32_1228
  let v1253 : BitVec 32 := Scalar.addi c0_i32_1229 v1252
  v1253.toNat
def k0_dev58 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1248 : BitVec 32 := 1#32
  let v1263 : BitVec 32 := Scalar.muli v7 c1_i32_1248
  let v1264 : BitVec 32 := Scalar.addi c0_i32_1249 v1263
  v1264.toNat
def k0_dev59 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1268 : BitVec 32 := 1#32
  let v1287 : BitVec 32 := Scalar.muli v7 c1_i32_1268
  let v1288 : BitVec 32 := Scalar.addi c0_i32_1269 v1287
  v1288.toNat
def k0_dev60 (d0 : Dev nD) : Nat :=
  let c0_i32_1289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1288 : BitVec 32 := 1#32
  let v1298 : BitVec 32 := Scalar.muli v4 c1_i32_1288
  let v1299 : BitVec 32 := Scalar.addi c0_i32_1289 v1298
  v1299.toNat
def k0_dev61 (d0 : Dev nD) : Nat :=
  let c0_i32_1309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1308 : BitVec 32 := 1#32
  let v1322 : BitVec 32 := Scalar.muli v4 c1_i32_1308
  let v1323 : BitVec 32 := Scalar.addi c0_i32_1309 v1322
  v1323.toNat
def k0_dev62 (d0 : Dev nD) : Nat :=
  let c0_i32_1329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1328 : BitVec 32 := 1#32
  let v1333 : BitVec 32 := Scalar.muli v7 c1_i32_1328
  let v1334 : BitVec 32 := Scalar.addi c0_i32_1329 v1333
  v1334.toNat
def k0_dev63 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1372 : BitVec 32 := 1#32
  let v1394 : BitVec 32 := Scalar.muli v7 c1_i32_1372
  let v1395 : BitVec 32 := Scalar.addi c0_i32_1373 v1394
  v1395.toNat
def k0_dev64 (d0 : Dev nD) : Nat :=
  let c0_i32_1393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1392 : BitVec 32 := 1#32
  let v1405 : BitVec 32 := Scalar.muli v4 c1_i32_1392
  let v1406 : BitVec 32 := Scalar.addi c0_i32_1393 v1405
  v1406.toNat
def k0_dev65 (d0 : Dev nD) : Nat :=
  let c0_i32_1413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1412 : BitVec 32 := 1#32
  let v1429 : BitVec 32 := Scalar.muli v4 c1_i32_1412
  let v1430 : BitVec 32 := Scalar.addi c0_i32_1413 v1429
  v1430.toNat
def k0_dev66 (d0 : Dev nD) : Nat :=
  let c0_i32_1433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1432 : BitVec 32 := 1#32
  let v1440 : BitVec 32 := Scalar.muli v7 c1_i32_1432
  let v1441 : BitVec 32 := Scalar.addi c0_i32_1433 v1440
  v1441.toNat
def k0_dev67 (d0 : Dev nD) : Nat :=
  let c0_i32_1453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1452 : BitVec 32 := 1#32
  let v1464 : BitVec 32 := Scalar.muli v7 c1_i32_1452
  let v1465 : BitVec 32 := Scalar.addi c0_i32_1453 v1464
  v1465.toNat
def k0_dev68 (d0 : Dev nD) : Nat :=
  let c0_i32_1473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1472 : BitVec 32 := 1#32
  let v1475 : BitVec 32 := Scalar.muli v4 c1_i32_1472
  let v1476 : BitVec 32 := Scalar.addi c0_i32_1473 v1475
  v1476.toNat
def k0_dev69 (d0 : Dev nD) : Nat :=
  let c0_i32_1493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1492 : BitVec 32 := 1#32
  let v1499 : BitVec 32 := Scalar.muli v4 c1_i32_1492
  let v1500 : BitVec 32 := Scalar.addi c0_i32_1493 v1499
  v1500.toNat
def k0_dev70 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1512 : BitVec 32 := 1#32
  let v1510 : BitVec 32 := Scalar.muli v7 c1_i32_1512
  let v1511 : BitVec 32 := Scalar.addi c0_i32_1513 v1510
  v1511.toNat
def k0_dev71 (d0 : Dev nD) : Nat :=
  let c0_i32_1557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1556 : BitVec 32 := 1#32
  let v1571 : BitVec 32 := Scalar.muli v7 c1_i32_1556
  let v1572 : BitVec 32 := Scalar.addi c0_i32_1557 v1571
  v1572.toNat
def k0_dev72 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1576 : BitVec 32 := 1#32
  let v1582 : BitVec 32 := Scalar.muli v4 c1_i32_1576
  let v1583 : BitVec 32 := Scalar.addi c0_i32_1577 v1582
  v1583.toNat
def k0_dev73 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1596 : BitVec 32 := 1#32
  let v1606 : BitVec 32 := Scalar.muli v4 c1_i32_1596
  let v1607 : BitVec 32 := Scalar.addi c0_i32_1597 v1606
  v1607.toNat
def k0_dev74 (d0 : Dev nD) : Nat :=
  let c0_i32_1617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1616 : BitVec 32 := 1#32
  let v1617 : BitVec 32 := Scalar.muli v7 c1_i32_1616
  let v1618 : BitVec 32 := Scalar.addi c0_i32_1617 v1617
  v1618.toNat
def k0_dev75 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1636 : BitVec 32 := 1#32
  let v1641 : BitVec 32 := Scalar.muli v7 c1_i32_1636
  let v1642 : BitVec 32 := Scalar.addi c0_i32_1637 v1641
  v1642.toNat
def k0_dev76 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1656 : BitVec 32 := 1#32
  let v1652 : BitVec 32 := Scalar.muli v4 c1_i32_1656
  let v1653 : BitVec 32 := Scalar.addi c0_i32_1657 v1652
  v1653.toNat
def k0_dev77 (d0 : Dev nD) : Nat :=
  let c0_i32_1677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1676 : BitVec 32 := 1#32
  let v1676 : BitVec 32 := Scalar.muli v4 c1_i32_1676
  let v1677 : BitVec 32 := Scalar.addi c0_i32_1677 v1676
  v1677.toNat
def k0_dev78 (d0 : Dev nD) : Nat :=
  let c0_i32_1697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1696 : BitVec 32 := 1#32
  let v1687 : BitVec 32 := Scalar.muli v7 c1_i32_1696
  let v1688 : BitVec 32 := Scalar.addi c0_i32_1697 v1687
  v1688.toNat
def k0_dev79 (d0 : Dev nD) : Nat :=
  let c0_i32_1741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1740 : BitVec 32 := 1#32
  let v1748 : BitVec 32 := Scalar.muli v7 c1_i32_1740
  let v1749 : BitVec 32 := Scalar.addi c0_i32_1741 v1748
  v1749.toNat
def k0_dev80 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1760 : BitVec 32 := 1#32
  let v1759 : BitVec 32 := Scalar.muli v4 c1_i32_1760
  let v1760 : BitVec 32 := Scalar.addi c0_i32_1761 v1759
  v1760.toNat
def k0_dev81 (d0 : Dev nD) : Nat :=
  let c0_i32_1781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1780 : BitVec 32 := 1#32
  let v1783 : BitVec 32 := Scalar.muli v4 c1_i32_1780
  let v1784 : BitVec 32 := Scalar.addi c0_i32_1781 v1783
  v1784.toNat
def k0_dev82 (d0 : Dev nD) : Nat :=
  let c0_i32_1801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1800 : BitVec 32 := 1#32
  let v1794 : BitVec 32 := Scalar.muli v7 c1_i32_1800
  let v1795 : BitVec 32 := Scalar.addi c0_i32_1801 v1794
  v1795.toNat
def k0_dev83 (d0 : Dev nD) : Nat :=
  let c0_i32_1821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1820 : BitVec 32 := 1#32
  let v1818 : BitVec 32 := Scalar.muli v7 c1_i32_1820
  let v1819 : BitVec 32 := Scalar.addi c0_i32_1821 v1818
  v1819.toNat
def k0_dev84 (d0 : Dev nD) : Nat :=
  let c0_i32_1841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1840 : BitVec 32 := 1#32
  let v1829 : BitVec 32 := Scalar.muli v4 c1_i32_1840
  let v1830 : BitVec 32 := Scalar.addi c0_i32_1841 v1829
  v1830.toNat
def k0_dev85 (d0 : Dev nD) : Nat :=
  let c0_i32_1861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1860 : BitVec 32 := 1#32
  let v1853 : BitVec 32 := Scalar.muli v4 c1_i32_1860
  let v1854 : BitVec 32 := Scalar.addi c0_i32_1861 v1853
  v1854.toNat
def k0_dev86 (d0 : Dev nD) : Nat :=
  let c0_i32_1881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1880 : BitVec 32 := 1#32
  let v1864 : BitVec 32 := Scalar.muli v7 c1_i32_1880
  let v1865 : BitVec 32 := Scalar.addi c0_i32_1881 v1864
  v1865.toNat
def k0_dev87 (d0 : Dev nD) : Nat :=
  let c0_i32_1925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1924 : BitVec 32 := 1#32
  let v1925 : BitVec 32 := Scalar.muli v7 c1_i32_1924
  let v1926 : BitVec 32 := Scalar.addi c0_i32_1925 v1925
  v1926.toNat
def k0_dev88 (d0 : Dev nD) : Nat :=
  let c0_i32_1945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1944 : BitVec 32 := 1#32
  let v1936 : BitVec 32 := Scalar.muli v4 c1_i32_1944
  let v1937 : BitVec 32 := Scalar.addi c0_i32_1945 v1936
  v1937.toNat
def k0_dev89 (d0 : Dev nD) : Nat :=
  let c0_i32_1965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1964 : BitVec 32 := 1#32
  let v1960 : BitVec 32 := Scalar.muli v4 c1_i32_1964
  let v1961 : BitVec 32 := Scalar.addi c0_i32_1965 v1960
  v1961.toNat
def k0_dev90 (d0 : Dev nD) : Nat :=
  let c0_i32_1985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1984 : BitVec 32 := 1#32
  let v1971 : BitVec 32 := Scalar.muli v7 c1_i32_1984
  let v1972 : BitVec 32 := Scalar.addi c0_i32_1985 v1971
  v1972.toNat
def k0_dev91 (d0 : Dev nD) : Nat :=
  let c0_i32_2005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2004 : BitVec 32 := 1#32
  let v1995 : BitVec 32 := Scalar.muli v7 c1_i32_2004
  let v1996 : BitVec 32 := Scalar.addi c0_i32_2005 v1995
  v1996.toNat
def k0_dev92 (d0 : Dev nD) : Nat :=
  let c0_i32_2025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2024 : BitVec 32 := 1#32
  let v2006 : BitVec 32 := Scalar.muli v4 c1_i32_2024
  let v2007 : BitVec 32 := Scalar.addi c0_i32_2025 v2006
  v2007.toNat
def k0_dev93 (d0 : Dev nD) : Nat :=
  let c0_i32_2045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2044 : BitVec 32 := 1#32
  let v2030 : BitVec 32 := Scalar.muli v4 c1_i32_2044
  let v2031 : BitVec 32 := Scalar.addi c0_i32_2045 v2030
  v2031.toNat
def k0_dev94 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2064 : BitVec 32 := 1#32
  let v2041 : BitVec 32 := Scalar.muli v7 c1_i32_2064
  let v2042 : BitVec 32 := Scalar.addi c0_i32_2065 v2041
  v2042.toNat
def k0_dev95 (d0 : Dev nD) : Nat :=
  let c0_i32_2109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2108 : BitVec 32 := 1#32
  let v2102 : BitVec 32 := Scalar.muli v7 c1_i32_2108
  let v2103 : BitVec 32 := Scalar.addi c0_i32_2109 v2102
  v2103.toNat
def k0_dev96 (d0 : Dev nD) : Nat :=
  let c0_i32_2129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2128 : BitVec 32 := 1#32
  let v2113 : BitVec 32 := Scalar.muli v4 c1_i32_2128
  let v2114 : BitVec 32 := Scalar.addi c0_i32_2129 v2113
  v2114.toNat
def k0_dev97 (d0 : Dev nD) : Nat :=
  let c0_i32_2149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2148 : BitVec 32 := 1#32
  let v2137 : BitVec 32 := Scalar.muli v4 c1_i32_2148
  let v2138 : BitVec 32 := Scalar.addi c0_i32_2149 v2137
  v2138.toNat
def k0_dev98 (d0 : Dev nD) : Nat :=
  let c0_i32_2169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2168 : BitVec 32 := 1#32
  let v2148 : BitVec 32 := Scalar.muli v7 c1_i32_2168
  let v2149 : BitVec 32 := Scalar.addi c0_i32_2169 v2148
  v2149.toNat
def k0_dev99 (d0 : Dev nD) : Nat :=
  let c0_i32_2189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2188 : BitVec 32 := 1#32
  let v2172 : BitVec 32 := Scalar.muli v7 c1_i32_2188
  let v2173 : BitVec 32 := Scalar.addi c0_i32_2189 v2172
  v2173.toNat
def k0_dev100 (d0 : Dev nD) : Nat :=
  let c0_i32_2209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2208 : BitVec 32 := 1#32
  let v2183 : BitVec 32 := Scalar.muli v4 c1_i32_2208
  let v2184 : BitVec 32 := Scalar.addi c0_i32_2209 v2183
  v2184.toNat
def k0_dev101 (d0 : Dev nD) : Nat :=
  let c0_i32_2229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2228 : BitVec 32 := 1#32
  let v2207 : BitVec 32 := Scalar.muli v4 c1_i32_2228
  let v2208 : BitVec 32 := Scalar.addi c0_i32_2229 v2207
  v2208.toNat
def k0_dev102 (d0 : Dev nD) : Nat :=
  let c0_i32_2249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2248 : BitVec 32 := 1#32
  let v2218 : BitVec 32 := Scalar.muli v7 c1_i32_2248
  let v2219 : BitVec 32 := Scalar.addi c0_i32_2249 v2218
  v2219.toNat
def k0_dev103 (d0 : Dev nD) : Nat :=
  let c0_i32_2293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2292 : BitVec 32 := 1#32
  let v2279 : BitVec 32 := Scalar.muli v7 c1_i32_2292
  let v2280 : BitVec 32 := Scalar.addi c0_i32_2293 v2279
  v2280.toNat
def k0_dev104 (d0 : Dev nD) : Nat :=
  let c0_i32_2313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2312 : BitVec 32 := 1#32
  let v2290 : BitVec 32 := Scalar.muli v4 c1_i32_2312
  let v2291 : BitVec 32 := Scalar.addi c0_i32_2313 v2290
  v2291.toNat
def k0_dev105 (d0 : Dev nD) : Nat :=
  let c0_i32_2333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2332 : BitVec 32 := 1#32
  let v2314 : BitVec 32 := Scalar.muli v4 c1_i32_2332
  let v2315 : BitVec 32 := Scalar.addi c0_i32_2333 v2314
  v2315.toNat
def k0_dev106 (d0 : Dev nD) : Nat :=
  let c0_i32_2353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2352 : BitVec 32 := 1#32
  let v2325 : BitVec 32 := Scalar.muli v7 c1_i32_2352
  let v2326 : BitVec 32 := Scalar.addi c0_i32_2353 v2325
  v2326.toNat
def k0_dev107 (d0 : Dev nD) : Nat :=
  let c0_i32_2373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2372 : BitVec 32 := 1#32
  let v2349 : BitVec 32 := Scalar.muli v7 c1_i32_2372
  let v2350 : BitVec 32 := Scalar.addi c0_i32_2373 v2349
  v2350.toNat
def k0_dev108 (d0 : Dev nD) : Nat :=
  let c0_i32_2393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2392 : BitVec 32 := 1#32
  let v2360 : BitVec 32 := Scalar.muli v4 c1_i32_2392
  let v2361 : BitVec 32 := Scalar.addi c0_i32_2393 v2360
  v2361.toNat
def k0_dev109 (d0 : Dev nD) : Nat :=
  let c0_i32_2413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2412 : BitVec 32 := 1#32
  let v2384 : BitVec 32 := Scalar.muli v4 c1_i32_2412
  let v2385 : BitVec 32 := Scalar.addi c0_i32_2413 v2384
  v2385.toNat
def k0_dev110 (d0 : Dev nD) : Nat :=
  let c0_i32_2433 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2432 : BitVec 32 := 1#32
  let v2395 : BitVec 32 := Scalar.muli v7 c1_i32_2432
  let v2396 : BitVec 32 := Scalar.addi c0_i32_2433 v2395
  v2396.toNat
def k0_dev111 (d0 : Dev nD) : Nat :=
  let c0_i32_2494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2493 : BitVec 32 := 1#32
  let v2465 : BitVec 32 := Scalar.muli v4 c1_i32_2493
  let v2466 : BitVec 32 := Scalar.addi c0_i32_2494 v2465
  v2466.toNat
def k0_dev112 (d0 : Dev nD) : Nat :=
  let c0_i32_2531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2530 : BitVec 32 := 1#32
  let v2498 : BitVec 32 := Scalar.muli v7 c1_i32_2530
  let v2499 : BitVec 32 := Scalar.addi c0_i32_2531 v2498
  v2499.toNat
def k0_dev113 (d0 : Dev nD) : Nat :=
  let c0_i32_2568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2567 : BitVec 32 := 1#32
  let v2531 : BitVec 32 := Scalar.muli v4 c1_i32_2567
  let v2532 : BitVec 32 := Scalar.addi c0_i32_2568 v2531
  v2532.toNat
def k0_dev114 (d0 : Dev nD) : Nat :=
  let c0_i32_2605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_2604 : BitVec 32 := 1#32
  let v2564 : BitVec 32 := Scalar.muli v7 c1_i32_2604
  let v2565 : BitVec 32 := Scalar.addi c0_i32_2605 v2564
  v2565.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_2610 : BitVec 32 := 256#32
  let v2574 : BitVec 32 := Scalar.muli v2 c256_i32_2610
  let v2575 : Index := Scalar.indexCast v2574
  let c0_2611 : Index := 0#32
  ![v2575.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2736 : Index := Scalar.indexCast v2
  let c0_2756 : Index := 0#32
  ![v2736.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_2763 : BitVec 32 := 0#32
  ![v2.toNat, 0]
def k0_dev115 (d0 : Dev nD) : Nat :=
  let c0_i32_2762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2757 : BitVec 32 := 1#32
  let v2740 : BitVec 32 := Scalar.addi v2 c1_i32_2757
  let c16_i32_2758 : BitVec 32 := 16#32
  let v2741 : BitVec 32 := Scalar.remsi v2740 c16_i32_2758
  let c1_i32_2761 : BitVec 32 := 1#32
  let v2742 : BitVec 32 := Scalar.muli v2741 c1_i32_2761
  let v2743 : BitVec 32 := Scalar.addi c0_i32_2762 v2742
  v2743.toNat
def k0_dev116 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2765 : BitVec 32 := 2#32
  let v2750 : BitVec 32 := Scalar.addi v2 c2_i32_2765
  let c16_i32_2766 : BitVec 32 := 16#32
  let v2751 : BitVec 32 := Scalar.remsi v2750 c16_i32_2766
  let c1_i32_2769 : BitVec 32 := 1#32
  let v2752 : BitVec 32 := Scalar.muli v2751 c1_i32_2769
  let v2753 : BitVec 32 := Scalar.addi c0_i32_2770 v2752
  v2753.toNat
def k0_dev117 (d0 : Dev nD) : Nat :=
  let c0_i32_2778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2773 : BitVec 32 := 3#32
  let v2760 : BitVec 32 := Scalar.addi v2 c3_i32_2773
  let c16_i32_2774 : BitVec 32 := 16#32
  let v2761 : BitVec 32 := Scalar.remsi v2760 c16_i32_2774
  let c1_i32_2777 : BitVec 32 := 1#32
  let v2762 : BitVec 32 := Scalar.muli v2761 c1_i32_2777
  let v2763 : BitVec 32 := Scalar.addi c0_i32_2778 v2762
  v2763.toNat
def k0_dev118 (d0 : Dev nD) : Nat :=
  let c0_i32_2786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2781 : BitVec 32 := 4#32
  let v2770 : BitVec 32 := Scalar.addi v2 c4_i32_2781
  let c16_i32_2782 : BitVec 32 := 16#32
  let v2771 : BitVec 32 := Scalar.remsi v2770 c16_i32_2782
  let c1_i32_2785 : BitVec 32 := 1#32
  let v2772 : BitVec 32 := Scalar.muli v2771 c1_i32_2785
  let v2773 : BitVec 32 := Scalar.addi c0_i32_2786 v2772
  v2773.toNat
def k0_dev119 (d0 : Dev nD) : Nat :=
  let c0_i32_2794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2789 : BitVec 32 := 5#32
  let v2780 : BitVec 32 := Scalar.addi v2 c5_i32_2789
  let c16_i32_2790 : BitVec 32 := 16#32
  let v2781 : BitVec 32 := Scalar.remsi v2780 c16_i32_2790
  let c1_i32_2793 : BitVec 32 := 1#32
  let v2782 : BitVec 32 := Scalar.muli v2781 c1_i32_2793
  let v2783 : BitVec 32 := Scalar.addi c0_i32_2794 v2782
  v2783.toNat
def k0_dev120 (d0 : Dev nD) : Nat :=
  let c0_i32_2802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2797 : BitVec 32 := 6#32
  let v2790 : BitVec 32 := Scalar.addi v2 c6_i32_2797
  let c16_i32_2798 : BitVec 32 := 16#32
  let v2791 : BitVec 32 := Scalar.remsi v2790 c16_i32_2798
  let c1_i32_2801 : BitVec 32 := 1#32
  let v2792 : BitVec 32 := Scalar.muli v2791 c1_i32_2801
  let v2793 : BitVec 32 := Scalar.addi c0_i32_2802 v2792
  v2793.toNat
def k0_dev121 (d0 : Dev nD) : Nat :=
  let c0_i32_2810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2805 : BitVec 32 := 7#32
  let v2800 : BitVec 32 := Scalar.addi v2 c7_i32_2805
  let c16_i32_2806 : BitVec 32 := 16#32
  let v2801 : BitVec 32 := Scalar.remsi v2800 c16_i32_2806
  let c1_i32_2809 : BitVec 32 := 1#32
  let v2802 : BitVec 32 := Scalar.muli v2801 c1_i32_2809
  let v2803 : BitVec 32 := Scalar.addi c0_i32_2810 v2802
  v2803.toNat
def k0_dev122 (d0 : Dev nD) : Nat :=
  let c0_i32_2818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2813 : BitVec 32 := 8#32
  let v2810 : BitVec 32 := Scalar.addi v2 c8_i32_2813
  let c16_i32_2814 : BitVec 32 := 16#32
  let v2811 : BitVec 32 := Scalar.remsi v2810 c16_i32_2814
  let c1_i32_2817 : BitVec 32 := 1#32
  let v2812 : BitVec 32 := Scalar.muli v2811 c1_i32_2817
  let v2813 : BitVec 32 := Scalar.addi c0_i32_2818 v2812
  v2813.toNat
def k0_dev123 (d0 : Dev nD) : Nat :=
  let c0_i32_2826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2821 : BitVec 32 := 9#32
  let v2820 : BitVec 32 := Scalar.addi v2 c9_i32_2821
  let c16_i32_2822 : BitVec 32 := 16#32
  let v2821 : BitVec 32 := Scalar.remsi v2820 c16_i32_2822
  let c1_i32_2825 : BitVec 32 := 1#32
  let v2822 : BitVec 32 := Scalar.muli v2821 c1_i32_2825
  let v2823 : BitVec 32 := Scalar.addi c0_i32_2826 v2822
  v2823.toNat
def k0_dev124 (d0 : Dev nD) : Nat :=
  let c0_i32_2834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2829 : BitVec 32 := 10#32
  let v2830 : BitVec 32 := Scalar.addi v2 c10_i32_2829
  let c16_i32_2830 : BitVec 32 := 16#32
  let v2831 : BitVec 32 := Scalar.remsi v2830 c16_i32_2830
  let c1_i32_2833 : BitVec 32 := 1#32
  let v2832 : BitVec 32 := Scalar.muli v2831 c1_i32_2833
  let v2833 : BitVec 32 := Scalar.addi c0_i32_2834 v2832
  v2833.toNat
def k0_dev125 (d0 : Dev nD) : Nat :=
  let c0_i32_2842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2837 : BitVec 32 := 11#32
  let v2840 : BitVec 32 := Scalar.addi v2 c11_i32_2837
  let c16_i32_2838 : BitVec 32 := 16#32
  let v2841 : BitVec 32 := Scalar.remsi v2840 c16_i32_2838
  let c1_i32_2841 : BitVec 32 := 1#32
  let v2842 : BitVec 32 := Scalar.muli v2841 c1_i32_2841
  let v2843 : BitVec 32 := Scalar.addi c0_i32_2842 v2842
  v2843.toNat
def k0_dev126 (d0 : Dev nD) : Nat :=
  let c0_i32_2850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2845 : BitVec 32 := 12#32
  let v2850 : BitVec 32 := Scalar.addi v2 c12_i32_2845
  let c16_i32_2846 : BitVec 32 := 16#32
  let v2851 : BitVec 32 := Scalar.remsi v2850 c16_i32_2846
  let c1_i32_2849 : BitVec 32 := 1#32
  let v2852 : BitVec 32 := Scalar.muli v2851 c1_i32_2849
  let v2853 : BitVec 32 := Scalar.addi c0_i32_2850 v2852
  v2853.toNat
def k0_dev127 (d0 : Dev nD) : Nat :=
  let c0_i32_2858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2853 : BitVec 32 := 13#32
  let v2860 : BitVec 32 := Scalar.addi v2 c13_i32_2853
  let c16_i32_2854 : BitVec 32 := 16#32
  let v2861 : BitVec 32 := Scalar.remsi v2860 c16_i32_2854
  let c1_i32_2857 : BitVec 32 := 1#32
  let v2862 : BitVec 32 := Scalar.muli v2861 c1_i32_2857
  let v2863 : BitVec 32 := Scalar.addi c0_i32_2858 v2862
  v2863.toNat
def k0_dev128 (d0 : Dev nD) : Nat :=
  let c0_i32_2866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2861 : BitVec 32 := 14#32
  let v2870 : BitVec 32 := Scalar.addi v2 c14_i32_2861
  let c16_i32_2862 : BitVec 32 := 16#32
  let v2871 : BitVec 32 := Scalar.remsi v2870 c16_i32_2862
  let c1_i32_2865 : BitVec 32 := 1#32
  let v2872 : BitVec 32 := Scalar.muli v2871 c1_i32_2865
  let v2873 : BitVec 32 := Scalar.addi c0_i32_2866 v2872
  v2873.toNat
def k0_dev129 (d0 : Dev nD) : Nat :=
  let c0_i32_2873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v2880 : BitVec 32 := Scalar.addi v2 c15_i32
  let c16_i32_2869 : BitVec 32 := 16#32
  let v2881 : BitVec 32 := Scalar.remsi v2880 c16_i32_2869
  let c1_i32_2872 : BitVec 32 := 1#32
  let v2882 : BitVec 32 := Scalar.muli v2881 c1_i32_2872
  let v2883 : BitVec 32 := Scalar.addi c0_i32_2873 v2882
  v2883.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S4096x256 : Shape := ⟨2, ![4096, 256]⟩
abbrev S256x2048 : Shape := ⟨2, ![256, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Ring.Text.lean ====
/- The kernel's body as one text: the fifteen steps of the four flows are one definition each, at a step number and a
   flow number, in continuation form. `body_eq` says that the printed body is this text. -/
module

public import proofs.«01_k».proof.Proof.Gen.KernelIdeal.Skeleton
public import Idealize.ShloMosaic.Lib.Tactic

@[expose] public section

noncomputable section

namespace Cert.KernelIdeal.Ring

open Idealize.ShloMosaic Idealize.ShloMosaic.TcCoe Idealize.ShloMosaic.Tactic
open Idealize.SL.Sem
open Cert.KernelIdeal Cert.KernelIdeal.Gen

variable {F : FTy → Type} [FloatOps F]

/-- The programs of a core's body. -/
abbrev BP (F : FTy → Type) : Type 1 := Prog (TpuEff nD τ sig (Elt F) Λ₀ .tc) PUnit

/-! ## The operands of a flow -/

/-- The two landing slots of flow `f`. -/
abbrev comm : Fin 4 → Memref sig .tc .vmem S2x256x512 .i16 := fun
  | 0 => Memref.whole cc0_scratch3 | 1 => Memref.whole cc0_scratch4 | 2 => Memref.whole cc0_scratch5 | 3 => Memref.whole cc0_scratch6
theorem comm_whole : ∀ f, (comm f).IsWhole := fun
  | 0 => Memref.isWhole_whole _ | 1 => Memref.isWhole_whole _ | 2 => Memref.isWhole_whole _ | 3 => Memref.isWhole_whole _
/-- The two outgoing slots of flow `f`. -/
abbrev sbuf : Fin 4 → Memref sig .tc .vmem S2x256x512 .i16 := fun
  | 0 => Memref.whole cc0_scratch7 | 1 => Memref.whole cc0_scratch8 | 2 => Memref.whole cc0_scratch9 | 3 => Memref.whole cc0_scratch10
theorem sbuf_whole : ∀ f, (sbuf f).IsWhole := fun
  | 0 => Memref.isWhole_whole _ | 1 => Memref.isWhole_whole _ | 2 => Memref.isWhole_whole _ | 3 => Memref.isWhole_whole _
/-- The send semaphores of flow `f`, one a slot. -/
abbrev ssems : Fin 4 → DmaSems sig S2 := fun | 0 => cc0_scratch11 | 1 => cc0_scratch12 | 2 => cc0_scratch13 | 3 => cc0_scratch14
/-- The receive semaphores of flow `f`, one a slot. -/
abbrev rsems : Fin 4 → DmaSems sig S2 := fun | 0 => cc0_scratch15 | 1 => cc0_scratch16 | 2 => cc0_scratch17 | 3 => cc0_scratch18
/-- The credit semaphore of flow `f`. -/
abbrev crds : Fin 4 → Sems sig S_ := fun | 0 => cc0_scratch19 | 1 => cc0_scratch20 | 2 => cc0_scratch21 | 3 => cc0_scratch22

theorem inb_slot : ∀ (p : Fin 2) (a : Fin 3), (![p.val, 0, 0] : Fin 3 → ℕ) a + S1x256x512.size a ≤ S2x256x512.size a := by decide
theorem inb_sem2 : ∀ (p : Fin 2) (a : Fin 1), (![p.val] : Fin 1 → ℕ) a + S1.size a ≤ S2.size a := by decide
theorem inb_sem16 : ∀ (o : Fin 16) (a : Fin 1), (![o.val] : Fin 1 → ℕ) a + S1.size a ≤ S16.size a := by decide
theorem words_slot : ∀ p : Fin 2, (Rect.unit (s := S2x256x512) ![p.val, 0, 0] S1x256x512.size (inb_slot p)).WholeWords (EltTy.packing .i16) := fun
  | 0 => wordsi16_S2x256x512_S1x256x512_0_0_0 | 1 => wordsi16_S2x256x512_S1x256x512_1_0_0
theorem packed_slot : ∀ p : Fin 2, (Rect.unit (s := S2x256x512) ![p.val, 0, 0] S1x256x512.size (inb_slot p)).PackedRows (EltTy.packing .i16) := fun
  | 0 => packedi16_S2x256x512_S1x256x512_0_0_0 | 1 => packedi16_S2x256x512_S1x256x512_1_0_0

/-- The rectangle of slot `p`. -/
abbrev slotRect (p : Fin 2) : Rect S2x256x512 := Rect.unit (s := S2x256x512) ![p.val, 0, 0] S1x256x512.size (inb_slot p)
/-- Landing slot `p` of flow `f`, as the copies name it. -/
abbrev commS (f : Fin 4) (p : Fin 2) : Memref sig .tc .vmem S256x512 .i16 :=
  ((comm f).slice (slotRect p) (fun _ => rfl)).squeeze S256x512 squeezes_S1x256x512_S256x512
/-- Outgoing slot `p` of flow `f`. -/
abbrev sbufS (f : Fin 4) (p : Fin 2) : Memref sig .tc .vmem S256x512 .i16 :=
  ((sbuf f).slice (slotRect p) (fun _ => rfl)).squeeze S256x512 squeezes_S1x256x512_S256x512
theorem commS_words (f : Fin 4) (p : Fin 2) : (commS f p).view.WordExact :=
  ((comm_whole f).wordExact_slice rfl _ (words_slot p)).reshape _ _
theorem sbufS_words (f : Fin 4) (p : Fin 2) : (sbufS f p).view.WordExact :=
  ((sbuf_whole f).wordExact_slice rfl _ (words_slot p)).reshape _ _
/-- The send semaphore of slot `p` of flow `f`. -/
abbrev ssem (f : Fin 4) (p : Fin 2) : DmaSem sig := (((ssems f).slice (Rect.unit (s := S2) ![p.val] S1.size (inb_sem2 p))).squeeze S_ squeezes_S1_S_).sem
/-- The receive semaphore of slot `p` of flow `f`. -/
abbrev rsem (f : Fin 4) (p : Fin 2) : DmaSem sig := (((rsems f).slice (Rect.unit (s := S2) ![p.val] S1.size (inb_sem2 p))).squeeze S_ squeezes_S1_S_).sem
/-- The credit semaphore of flow `f`. -/
abbrev crd (f : Fin 4) : Sem sig := (crds f).sem
/-- The send and receive semaphores of the copy of the maxima at distance `o`. -/
abbrev asem (o : Fin 16) : DmaSem sig := ((cc0_scratch23.slice (Rect.unit (s := S16) ![o.val] S1.size (inb_sem16 o))).squeeze S_ squeezes_S1_S_).sem
abbrev arsem (o : Fin 16) : DmaSem sig := ((cc0_scratch24.slice (Rect.unit (s := S16) ![o.val] S1.size (inb_sem16 o))).squeeze S_ squeezes_S1_S_).sem
/-- The barrier's semaphore. -/
abbrev barS : Sem sig := (SemArray.scalar (sig.barrier 0 rfl) : Sems sig S_).sem

/-! ## The devices a device addresses -/

/-- The device before `d` in the ring. -/
abbrev left (d : Dev nD) : Dev nD := ⟨k0_dev1 d, k0_dev1_lt d⟩
/-- The device after `d` in the ring. -/
abbrev right (d : Dev nD) : Dev nD := ⟨k0_dev2 d, k0_dev2_lt d⟩
/-- Whether flow `f` runs to the right. -/
abbrev toRight : Fin 4 → Bool := fun | 0 => true | 1 => false | 2 => true | 3 => false
/-- The device flow `f` sends to. -/
abbrev dst (d : Dev nD) : Fin 4 → Dev nD := fun | 0 => right d | 1 => left d | 2 => right d | 3 => left d
/-- The device flow `f` receives from. -/
abbrev src (d : Dev nD) : Fin 4 → Dev nD := fun | 0 => left d | 1 => right d | 2 => left d | 3 => right d

/-- The device at distance `o` after `d`, as the kernel computes its number. -/
def peerNat (d0 : Dev nD) (o : ℕ) : ℕ :=
  (Scalar.addi 0#32 (Scalar.muli (Scalar.remsi (Scalar.addi (Scalar.remsi (Scalar.divsi (Dev.word d0) 1#32) 16#32) (BitVec.ofNat 32 o)) 16#32) 1#32)).toNat
theorem peerNat_lt : ∀ (d0 : Dev nD) (o : Fin 16), peerNat d0 o.val < nD := by decide +kernel
abbrev peer (d : Dev nD) (o : Fin 16) : Dev nD := ⟨peerNat d o.val, peerNat_lt d o⟩

/-! ## The values of a step -/

/-- One product of a row block with a half of the weights, in split precision. -/
abbrev gemm (x : Vec F S256x256 .f32) (h l : Vec F S256x1024 .bf16) : FVec F S256x1024 .f32 := k0_pay6 x h l
/-- The half of the product that flow `f` carries, rounded to the wire's integers. -/
def wireOf (f : Fin 4) (g : FVec F S256x1024 .f32) : IVec S256x512 16 :=
  match f with
  | 0 | 1 => fptosi 16 (roundeven (extractStridedSlice S256x512 ![0, 0] g slices_S256x1024_o0_0_S256x512))
  | 2 | 3 => fptosi 16 (roundeven (extractStridedSlice S256x512 ![0, 512] g slices_S256x1024_o0_512_S256x512))

/-! ## One step of one flow -/

abbrev par (s : ℕ) : Fin 2 := ⟨s % 2, Nat.mod_lt _ (by decide)⟩

/-- Add what arrived at the step before, and give the slot back. -/
def recvPart (d : Dev nD) (s : ℕ) (f : Fin 4) (v : IVec S256x512 16) (k : IVec S256x512 16 → BP F) : BP F :=
  if s = 0 then k v else
  Prog.op (.waitDma2 (rsem f (par (s - 1))) (sbufS f (par (s - 1))) (commS f (par (s - 1))) (sbufS_words f _) (commS_words f _)) fun _ =>
  Prog.op (.load (comm f) (slotRect (par (s - 1))).toLoadRect (View.loadsAt_vmem h_S1x256x512)) fun w =>
  if s ≤ 13 then Prog.op (.semSignal (src d f, .tc) (crd f) (1#32 : BitVec 32).toInt) fun _ => k (addi v (shapeCast S256x512 w shapeCasts_S1x256x512_S256x512))
  else k (addi v (shapeCast S256x512 w shapeCasts_S1x256x512_S256x512))

/-- Wait for the copy of two steps before out of the outgoing slot. -/
def drainPart (s : ℕ) (f : Fin 4) (k : BP F) : BP F :=
  if s ≤ 1 then k else
  Prog.op (.waitDma2 (ssem f (par s)) (commS f (par s)) (sbufS f (par s)) (commS_words f _) (sbufS_words f _)) fun _ => k

/-- Write the sum in the outgoing slot. -/
def storePart (s : ℕ) (f : Fin 4) (v : IVec S256x512 16) (k : BP F) : BP F :=
  Prog.op (.load (sbuf f) (slotRect (par s)).toLoadRect (View.loadsAt_vmem h_S1x256x512)) fun _ =>
  Prog.op (.store (sbuf f) (slotRect (par s)) (shapeCast S1x256x512 v shapeCasts_S256x512_S1x256x512) Finset.univ
    (View.stores_vmem h_S1x256x512 ((sbuf_whole f).storeExact_slice rfl _ (packed_slot (par s))) (fun _ => rfl)) (.inl rfl)) fun _ => k

/-- Wait for the destination's credit. -/
def creditPart (s : ℕ) (f : Fin 4) (k : BP F) : BP F :=
  if s ≤ 1 then k else Prog.op (.semWait (crd f) (1#32 : BitVec 32).toInt) fun _ => k

/-- Send the outgoing slot. -/
def sendPart (d : Dev nD) (s : ℕ) (f : Fin 4) (k : BP F) : BP F :=
  Prog.op (.enqueueDma (sbufS f (par s)) (.remote (Dev.tc (dst d f)) (commS f (par s)) (.dma (ssem f (par s)))) (.dma (rsem f (par s)))
    (sbufS_words f _) (commS_words f _) ⟨⟨rfl, Or.inl rfl⟩, trivial⟩) fun _ => k

/-- Step `s` of flow `f`. -/
def flowStep (d : Dev nD) (s : ℕ) (f : Fin 4) (g : FVec F S256x1024 .f32) (k : BP F) : BP F :=
  recvPart d s f (wireOf f g) fun v => drainPart s f <| storePart s f v <| creditPart s f <| sendPart d s f k

variable (stx : Memref sig .tc .vmem S4096x256 .f32) (stw sto : Memref sig .tc .vmem S256x2048 .f32)

/-- Row block at `off` of the activations against a half of the weights. -/
def gemmPart (off : Fin 2 → ℕ) (hoff : ∀ a, off a + S256x256.size a ≤ S4096x256.size a) (h : Bool) (k : FVec F S256x1024 .f32 → BP F) : BP F :=
  Prog.op (.load stx (Rect.unit (s := S4096x256) off S256x256.size hoff).toLoadRect (View.loadsAt_vmem h_S256x256)) fun x =>
  match h with
  | true =>
    Prog.op (.load (Memref.whole cc0_scratch0) (Rect.unit (s := S256x2048) ![0, 0] S256x1024.size inb_S256x2048_S256x1024_0_0).toLoadRect (View.loadsAt_vmem h_S256x1024)) fun hi =>
    Prog.op (.load (Memref.whole cc0_scratch1) (Rect.unit (s := S256x2048) ![0, 0] S256x1024.size inb_S256x2048_S256x1024_0_0).toLoadRect (View.loadsAt_vmem h_S256x1024)) fun lo =>
    k (gemm x hi lo)
  | false =>
    Prog.op (.load (Memref.whole cc0_scratch0) (Rect.unit (s := S256x2048) ![0, 1024] S256x1024.size inb_S256x2048_S256x1024_0_1024).toLoadRect (View.loadsAt_vmem h_S256x1024)) fun hi =>
    Prog.op (.load (Memref.whole cc0_scratch1) (Rect.unit (s := S256x2048) ![0, 1024] S256x1024.size inb_S256x2048_S256x1024_0_1024).toLoadRect (View.loadsAt_vmem h_S256x1024)) fun lo =>
    k (gemm x hi lo)

/-- Step `s`: the two products, and the four flows. -/
def step (d : Dev nD) (s : ℕ) (hs : s < 15) (k : BP F) : BP F :=
  gemmPart stx (k0_off1 d (BitVec.ofNat 32 s)) (k0_off1_inb d ⟨s, hs⟩) true fun g₀ =>
  gemmPart stx (k0_off2 d (BitVec.ofNat 32 s)) (k0_off2_inb d ⟨s, hs⟩) false fun g₁ =>
  flowStep d s 0 g₀ <| flowStep d s 1 g₁ <| flowStep d s 2 g₀ <| flowStep d s 3 g₁ k

/-- The last `n` steps. -/
def steps (d : Dev nD) : ℕ → BP F → BP F
  | 0, k => k
  | n + 1, k => step stx d (14 - n) (by omega) (steps d n k)

/-! ## After the steps -/

/-- The last sum of flow `f`: the own block's product and what arrived at the last step. -/
def lastPart (f : Fin 4) (g : FVec F S256x1024 .f32) (k : IVec S256x512 16 → BP F) : BP F :=
  Prog.op (.waitDma2 (rsem f 0) (sbufS f 0) (commS f 0) (sbufS_words f _) (commS_words f _)) fun _ =>
  Prog.op (.load (comm f) (slotRect 0).toLoadRect (View.loadsAt_vmem h_S1x256x512)) fun w =>
  Prog.op (.waitDma2 (ssem f 1) (commS f 1) (sbufS f 1) (commS_words f _) (sbufS_words f _)) fun _ =>
  Prog.op (.waitDma2 (ssem f 0) (commS f 0) (sbufS f 0) (commS_words f _) (sbufS_words f _)) fun _ =>
  k (addi (shapeCast S256x512 w shapeCasts_S1x256x512_S256x512) (wireOf f g))

/-- The array of the devices' maxima. -/
abbrev amax : Memref sig .tc .vmem S16x128 .f32 := Memref.whole cc0_scratch2
/-- Device `d`'s row of it. -/
abbrev amaxRow (d : Dev nD) : Memref sig .tc .vmem S1x128 .f32 :=
  amax.slice (Rect.unit (s := S16x128) (k0_off5 d) S1x128.size (k0_off5_inb d)) (fun _ => rfl)

/-- Send the own row to the device at each distance `15 - n + …`: the last `n` of the fifteen. -/
def amaxSends (d : Dev nD) : ℕ → BP F → BP F
  | 0, k => k
  | n + 1, k =>
    Prog.op (.enqueueDma (amaxRow d) (.remote (Dev.tc (peer d ⟨(15 - n) % 16, Nat.mod_lt _ (by decide)⟩)) (amaxRow d) (.dma (asem ⟨(15 - n) % 16, Nat.mod_lt _ (by decide)⟩)))
      (.dma (arsem ⟨(15 - n) % 16, Nat.mod_lt _ (by decide)⟩)) (View.wordExact_bits rfl) (View.wordExact_bits rfl) ⟨⟨rfl, Or.inl rfl⟩, trivial⟩) fun _ =>
    amaxSends d n k

/-- Wait for the last `n` of the copies named by `sem`. -/
def amaxWaits (d : Dev nD) (sem : Fin 16 → DmaSem sig) : ℕ → BP F → BP F
  | 0, k => k
  | n + 1, k =>
    Prog.op (.waitDma2 (sem ⟨(15 - n) % 16, Nat.mod_lt _ (by decide)⟩) (amaxRow d) (amaxRow d) (View.wordExact_bits rfl) (View.wordExact_bits rfl)) fun _ =>
    amaxWaits d sem n k

/-- Store `v` in the output at the columns from `o`. -/
def outPart (o : ℕ) (ho : ∀ a, (![0, o] : Fin 2 → ℕ) a + S256x512.size a ≤ S256x2048.size a) (v : FVec F S256x512 .f32) (k : BP F) : BP F :=
  Prog.op (.load sto (Rect.unit (s := S256x2048) ![0, o] S256x512.size ho).toLoadRect (View.loadsAt_vmem h_S256x512)) fun _ =>
  Prog.op (.store sto (Rect.unit (s := S256x2048) ![0, o] S256x512.size ho) v Finset.univ (View.stores_vmem_bits_univ h_S256x512 rfl) (.inl rfl)) fun _ => k

/-- One quarter of the output, from the last sum and the array of the maxima. -/
abbrev outOf (a : IVec S256x512 16) (A : Vec F S16x128 .f32) : FVec F S256x512 .f32 := k0_pay192 a A

/-- The maxima and the output. -/
def tailPart (d : Dev nD) (a₀ a₁ a₂ a₃ : IVec S256x512 16) : BP F :=
  Prog.op (.load amax (Rect.unit (s := S16x128) (k0_off4 d) S1x128.size (k0_off4_inb d)).toLoadRect (View.loadsAt_vmem h_S1x128)) fun _ =>
  Prog.op (.store amax (Rect.unit (s := S16x128) (k0_off4 d) S1x128.size (k0_off4_inb d)) (k0_pay188 (F := F) a₀ a₁ a₂ a₃) Finset.univ (View.stores_vmem_bits_univ h_S1x128 rfl) (.inl rfl)) fun _ =>
  amaxSends d 15 <| amaxWaits d asem 15 <| amaxWaits d arsem 15 <|
  Prog.op (.load amax (Rect.unit (s := S16x128) ![0, 0] S16x128.size inb_S16x128_S16x128_0_0).toLoadRect (View.loadsAt_vmem h_S16x128)) fun A =>
  outPart sto 0 inb_S256x2048_S256x512_0_0 (outOf a₀ A) <| outPart sto 1024 inb_S256x2048_S256x512_0_1024 (outOf a₁ A) <|
  outPart sto 512 inb_S256x2048_S256x512_0_512 (outOf a₂ A) <| outPart sto 1536 inb_S256x2048_S256x512_0_1536 (outOf a₃ A) <| .ret ⟨⟩

/-- The last block of rows, and the tail. -/
def lastStep (d : Dev nD) : BP F :=
  gemmPart stx (k0_off3 d) (k0_off3_inb d) true fun g₀ =>
  gemmPart stx (k0_off3 d) (k0_off3_inb d) false fun g₁ =>
  lastPart 0 g₀ fun a₀ => lastPart 1 g₁ fun a₁ => lastPart 2 g₀ fun a₂ => lastPart 3 g₁ fun a₃ => tailPart sto d a₀ a₁ a₂ a₃

/-- The split of the scaled weights. -/
def splitPart (k : BP F) : BP F :=
  Prog.op (.load stw (Rect.unit (s := S256x2048) ![0, 0] S256x2048.size inb_S256x2048_S256x2048_0_0).toLoadRect (View.loadsAt_vmem h_S256x2048)) fun w =>
  Prog.op (.load (Memref.whole cc0_scratch0) (Rect.unit (s := S256x2048) ![0, 0] S256x2048.size inb_S256x2048_S256x2048_0_0).toLoadRect (View.loadsAt_vmem h_S256x2048)) fun _ =>
  Prog.op (.store (Memref.whole cc0_scratch0) (Rect.unit (s := S256x2048) ![0, 0] S256x2048.size inb_S256x2048_S256x2048_0_0) (k0_pay4 w) Finset.univ
    (View.stores_vmem h_S256x2048 ((Memref.isWhole_whole _).storeExact_slice rfl _ packedbf16_S256x2048_S256x2048_0_0) (fun _ => rfl)) (.inl rfl)) fun _ =>
  Prog.op (.load (Memref.whole cc0_scratch1) (Rect.unit (s := S256x2048) ![0, 0] S256x2048.size inb_S256x2048_S256x2048_0_0).toLoadRect (View.loadsAt_vmem h_S256x2048)) fun _ =>
  Prog.op (.store (Memref.whole cc0_scratch1) (Rect.unit (s := S256x2048) ![0, 0] S256x2048.size inb_S256x2048_S256x2048_0_0) (k0_pay5 w) Finset.univ
    (View.stores_vmem h_S256x2048 ((Memref.isWhole_whole _).storeExact_slice rfl _ packedbf16_S256x2048_S256x2048_0_0) (fun _ => rfl)) (.inl rfl)) fun _ => k

/-- The entry barrier of the two neighbours. -/
def barrierPart (d : Dev nD) (k : BP F) : BP F :=
  Prog.op (.semSignal (left d, .tc) barS (1#32 : BitVec 32).toInt) fun _ =>
  Prog.op (.semSignal (right d, .tc) barS (1#32 : BitVec 32).toInt) fun _ =>
  Prog.op (.semWait barS (2#32 : BitVec 32).toInt) fun _ => k

/-- The body. -/
def text : BP F := Prog.op .deviceId fun d => barrierPart d <| splitPart stw <| steps stx d 15 <| lastStep stx sto d

end Cert.KernelIdeal.Ring
-- ==== Proof.Ring.Wire.lean ====
/- What travels: the rounded partial products, their sums along a flow, and the array of the maxima. -/
module

public import proofs.«01_k».proof.Proof.Ring.Text

@[expose] public section

noncomputable section

namespace Cert.KernelIdeal.Ring

open Idealize.ShloMosaic Idealize.ShloMosaic.TcCoe
open Idealize.SL.Sem
open Cert.KernelIdeal Cert.KernelIdeal.Gen

variable {F : FTy → Type} [FloatOps F]

/-- The activations' block and the weights' block of a device, as its staging buffers hold them. -/
abbrev XC (F : FTy → Type) : Type := (cc0_stg0_0 : Ref sig .tc).ty.Contents (Elt F)
abbrev WC (F : FTy → Type) : Type := (cc0_stg1_0 : Ref sig .tc).ty.Contents (Elt F)

/-- The product of the row block at `off` with the left (`true`) or right half of the scaled weights. -/
def prod (x : XC F) (w : WC F) (off : Fin 2 → ℕ) (hoff : ∀ a, off a + S256x256.size a ≤ S4096x256.size a) (h : Bool) : FVec F S256x1024 .f32 :=
  match h with
  | true => gemm ((Memref.whole cc0_stg0_0).view.readAt (Elt F) (Rect.unit (s := S4096x256) off S256x256.size hoff).toLoadRect x)
      ((Memref.whole cc0_scratch0).view.readAt (Elt F) (Rect.unit (s := S256x2048) ![0, 0] S256x1024.size inb_S256x2048_S256x1024_0_0).toLoadRect (k0_pay4 w))
      ((Memref.whole cc0_scratch1).view.readAt (Elt F) (Rect.unit (s := S256x2048) ![0, 0] S256x1024.size inb_S256x2048_S256x1024_0_0).toLoadRect (k0_pay5 w))
  | false => gemm ((Memref.whole cc0_stg0_0).view.readAt (Elt F) (Rect.unit (s := S4096x256) off S256x256.size hoff).toLoadRect x)
      ((Memref.whole cc0_scratch0).view.readAt (Elt F) (Rect.unit (s := S256x2048) ![0, 1024] S256x1024.size inb_S256x2048_S256x1024_0_1024).toLoadRect (k0_pay4 w))
      ((Memref.whole cc0_scratch1).view.readAt (Elt F) (Rect.unit (s := S256x2048) ![0, 1024] S256x1024.size inb_S256x2048_S256x1024_0_1024).toLoadRect (k0_pay5 w))

variable (xs : Dev nD → XC F) (ws : Dev nD → WC F)

/-- The two products of device `c` at step `s`: the right-going flows', the left-going flows'. -/
def prodAt (c : Dev nD) (s : Fin 15) (h : Bool) : FVec F S256x1024 .f32 :=
  match h with
  | true => prod (xs c) (ws c) (k0_off1 c (BitVec.ofNat 32 s.val)) (k0_off1_inb c s) true
  | false => prod (xs c) (ws c) (k0_off2 c (BitVec.ofNat 32 s.val)) (k0_off2_inb c s) false
/-- The two products of device `c` with its own row block. -/
def prodOwn (c : Dev nD) (h : Bool) : FVec F S256x1024 .f32 := prod (xs c) (ws c) (k0_off3 c) (k0_off3_inb c) h

/-- Device `c`'s part of what flow `f` carries at step `s`. -/
def part (c : Dev nD) (f : Fin 4) (s : ℕ) : IVec S256x512 16 :=
  if h : s < 15 then wireOf f (prodAt xs ws c ⟨s, h⟩ (toRight f)) else wireOf f (prodOwn xs ws c (toRight f))

/-- What device `c` sends on flow `f` at step `s`. -/
def wire (f : Fin 4) : ℕ → Dev nD → IVec S256x512 16
  | 0, c => part xs ws c f 0
  | s + 1, c => addi (part xs ws c f (s + 1)) (wire f s (src c f))

/-- The final sum of flow `f` on device `c`. -/
def accOf (f : Fin 4) (c : Dev nD) : IVec S256x512 16 := addi (wire xs ws f 14 (src c f)) (wireOf f (prodOwn xs ws c (toRight f)))

/-- Device `c`'s row of the array of the maxima. -/
def amaxVal (c : Dev nD) : FVec F S1x128 .f32 := k0_pay188 (F := F) (accOf xs ws 0 c) (accOf xs ws 1 c) (accOf xs ws 2 c) (accOf xs ws 3 c)
/-- The array of the maxima, complete. -/
def amaxAll : (cc0_scratch2 : Ref sig .tc).ty.Contents (Elt F) := fun i =>
  amaxVal xs ws (⟨(i (0 : Fin 2)).val, (i (0 : Fin 2)).isLt⟩ : Dev nD) ((fun a => match a with | ⟨0, _⟩ => (⟨0, by decide⟩ : Fin 1) | ⟨1, _⟩ => (⟨(i (1 : Fin 2)).val, (i (1 : Fin 2)).isLt⟩ : Fin 128)) : S1x128.Idx)

/-- The result block of device `c`. -/
def outAll (c : Dev nD) (f₀ : (cc0_stg2_0 : Ref sig .tc).ty.Contents (Elt F)) : (cc0_stg2_0 : Ref sig .tc).ty.Contents (Elt F) :=
  let wr (o : ℕ) (ho : ∀ a, (![0, o] : Fin 2 → ℕ) a + S256x512.size a ≤ S256x2048.size a) (v : FVec F S256x512 .f32) (g : (cc0_stg2_0 : Ref sig .tc).ty.Contents (Elt F)) :=
    ((Memref.whole cc0_stg2_0).access (Rect.unit (s := S256x2048) ![0, o] S256x512.size ho)).write (Elt F) g v Finset.univ
  wr 1536 inb_S256x2048_S256x512_0_1536 (outOf (accOf xs ws 3 c) (amaxAll xs ws)) <|
  wr 512 inb_S256x2048_S256x512_0_512 (outOf (accOf xs ws 2 c) (amaxAll xs ws)) <|
  wr 1024 inb_S256x2048_S256x512_0_1024 (outOf (accOf xs ws 1 c) (amaxAll xs ws)) <|
  wr 0 inb_S256x2048_S256x512_0_0 (outOf (accOf xs ws 0 c) (amaxAll xs ws)) f₀

end Cert.KernelIdeal.Ring
-- ==== Proof.Ring.Protocol.lean ====
/- The protocol: the cells, what each of their duties pays over, the levels, and what a device owes at each point. -/
module

public import proofs.«01_k».proof.Proof.Ring.Wire
public import proofs.«01_k».proof.Proof.Gen.KernelIdeal.Launch
public import Idealize.ShloMosaic.Lib.Pipeline.Launch
public import Idealize.ShloMosaic.Lib.Pipeline.Kit
public import Idealize.ShloMosaic.Lib.Release

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv)
open Cert.KernelIdeal Cert.KernelIdeal.Gen

variable {F : FTy → Type} [FloatOps F]

/-! ## The resource algebra -/

/-- A landing slot: its reader, its flow, its number. -/
abbrev SK : Type := Dev nD × Fin 4 × Fin 2
abbrev UB : Type := URounds (GSem nD τ sig) ℕ × USlots SK
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := (Emb.inl : Emb _ UB).trans embR
abbrev ES : Emb (USlots SK) (MT nD τ sig ℕ (Elt F) ℕ UU ℕ) := (Emb.inr : Emb _ UB).trans embR

/-! ## The cells -/

/-- The device `n` places after `c`, and the one `n` places before it. -/
def fwd (c : Dev nD) (n : ℕ) : Dev nD := ⟨(c.val + n) % 16, Nat.mod_lt _ (by decide)⟩
def back (c : Dev nD) (n : ℕ) : Dev nD := ⟨(c.val + 15 * n) % 16, Nat.mod_lt _ (by decide)⟩

/-- The kernel's own scoped semaphores, by what they are for. -/
abbrev CK : Type := Fin 4 ⊕ ((Fin 4 × Fin 2) ⊕ ((Fin 4 × Fin 2) ⊕ (Fin 16 ⊕ Fin 16)))
def osem : CK → SemLoc sig
  | .inl f => .reg (crd f)
  | .inr (.inl (f, p)) => .dma (ssem f p)
  | .inr (.inr (.inl (f, p))) => .dma (rsem f p)
  | .inr (.inr (.inr (.inl o))) => .dma (asem o)
  | .inr (.inr (.inr (.inr o))) => .dma (arsem o)
/-- The same with the barrier's. -/
abbrev KK : Type := Unit ⊕ CK
def csem : KK → SemLoc sig
  | .inl _ => .reg barS
  | .inr k => osem k

theorem csem_inj : Function.Injective csem := by decide +kernel
theorem osem_inj : Function.Injective osem := fun a b h => Sum.inr_injective (csem_inj h)

/-- What a semaphore is for. -/
def role (sm : SemLoc sig) : Option KK := open Classical in if h : ∃ k, csem k = sm then some (Classical.choose h) else none
theorem role_csem (k : KK) : role (csem k) = some k := by
  have h : ∃ k', csem k' = csem k := ⟨k, rfl⟩
  unfold role
  rw [dif_pos h]
  exact congrArg some (csem_inj (Classical.choose_spec h))

abbrev cell (ck : Dev nD × KK) : GSem nD τ sig := ((ck.1 : Thread nD τ), csem ck.2)
abbrev barC (c : Dev nD) : GSem nD τ sig := ((c : Thread nD τ), .reg barS)
abbrev crdC (c : Dev nD) (f : Fin 4) : GSem nD τ sig := ((c : Thread nD τ), .reg (crd f))
abbrev sndC (c : Dev nD) (f : Fin 4) (p : Fin 2) : GSem nD τ sig := ((c : Thread nD τ), .dma (ssem f p))
abbrev rcvC (c : Dev nD) (f : Fin 4) (p : Fin 2) : GSem nD τ sig := ((c : Thread nD τ), .dma (rsem f p))
abbrev asndC (c : Dev nD) (o : Fin 16) : GSem nD τ sig := ((c : Thread nD τ), .dma (asem o))
abbrev arcvC (c : Dev nD) (o : Fin 16) : GSem nD τ sig := ((c : Thread nD τ), .dma (arsem o))

theorem cell_inj : Function.Injective cell := fun a b h => by
  obtain ⟨a1, a2⟩ := a; obtain ⟨b1, b2⟩ := b
  have h1 : a1 = b1 := congrArg (fun g : GSem nD τ sig => g.1.1) h
  have h2 : a2 = b2 := csem_inj (congrArg (fun g : GSem nD τ sig => g.2) h)
  rw [h1, h2]

/-- The credit of a copy of a slot, and of a row of the maxima. -/
abbrev NB : ℕ := (commS 0 0).view.dmaCredit
abbrev NA : ℕ := (amaxRow 0).view.dmaCredit
theorem NB_pos : 0 < NB := View.dmaCredit_pos _ (by decide)
theorem NA_pos : 0 < NA := View.dmaCredit_pos _ (by decide)
theorem commS_credit : ∀ (f : Fin 4) (p : Fin 2), (commS f p).view.dmaCredit = NB := fun
  | 0, _ => rfl | 1, _ => rfl | 2, _ => rfl | 3, _ => rfl
theorem sbufS_credit : ∀ (f : Fin 4) (p : Fin 2), (sbufS f p).view.dmaCredit = NB := fun
  | 0, _ => rfl | 1, _ => rfl | 2, _ => rfl | 3, _ => rfl
theorem row_credit (d : Dev nD) : (amaxRow d).view.dmaCredit = NA := rfl

/-! ## What is paid over -/

/-- A view's elements on device `c`, at any contents, or reading `X`. -/
abbrev anyAt {sp : Space} {s : Shape} {e : EltTy} (c : Dev nD) (m : Memref sig .tc sp s e) : sProp 𝕄 :=
  slot (m.view.loc (c : Thread nD τ)) m.view.set
def holdsAt {sp : Space} {s : Shape} {e : EltTy} (c : Dev nD) (m : Memref sig .tc sp s e) (X : s.Idx → Elt F e) : sProp 𝕄 :=
  iprop(∃ g, ⌜m.view.read (Elt F) g = X⌝ ∗ (m.view.loc (c : Thread nD τ) ↦[m.view.set]{fullShare} g))

/-- Reader `c` is ready for the write of step `n` on flow `f`. -/
def ready (c : Dev nD) (f : Fin 4) (n : ℕ) : sProp 𝕄 :=
  iprop(released ES (c, f, par n) (n / 2 + 1) ∗ reached ER (rcvC c f (par n)) (n / 2))
/-- The readers' facts a credit carries: readiness for the steps from 2 to `n + 1`. -/
def acc (c : Dev nD) (f : Fin 4) (n : ℕ) : sProp 𝕄 := bigSep (Finset.range n) fun j => ready c f (j + 2)

/-- Rows of other devices' arrays of the maxima that arrive on device `c` with flow 0 at step `s`. -/
def bund (c : Dev nD) (s : ℕ) : sProp 𝕄 := bigSep (Finset.range (15 - s)) fun i => anyAt (back c (s + 1)) (amaxRow (fwd c i))
def bundF (c : Dev nD) (f : Fin 4) (s : ℕ) : sProp 𝕄 := if f = 0 then bund c s else iprop(emp)

/-- Device `j`'s row of the array of the maxima on device `c`, at share `q`. -/
def rowPts (xs : Dev nD → XC F) (ws : Dev nD → WC F) (c j : Dev nD) (q : PosShare TreeShare) : sProp 𝕄 :=
  (amaxRow j).view.loc (c : Thread nD τ) ↦[(amaxRow j).view.set]{q} amaxAll xs ws

/-- What is left of a full share after `n` copies have taken theirs, and what copy `n` takes. -/
def rem : ℕ → PosShare TreeShare
  | 0 => fullShare
  | n + 1 => (rem n).right
def shr (n : ℕ) : PosShare TreeShare := (rem n).left

variable (xs : Dev nD → XC F) (ws : Dev nD → WC F)

def barPay (c : Dev nD) (d : ℕ) : sProp 𝕄 :=
  if d = 0 then iprop((ready (right c) 0 0 ∗ ready (right c) 0 1) ∗ (ready (right c) 2 0 ∗ ready (right c) 2 1))
  else iprop((ready (left c) 1 0 ∗ ready (left c) 1 1) ∗ (ready (left c) 3 0 ∗ ready (left c) 3 1))
def crdPay (c : Dev nD) (f : Fin 4) (d : ℕ) : sProp 𝕄 := acc (dst c f) f (d + 1)
def sndPay (c : Dev nD) (f : Fin 4) (p : Fin 2) : sProp 𝕄 := anyAt c (sbufS f p)
def rcvPay (c : Dev nD) (f : Fin 4) (s : ℕ) : sProp 𝕄 :=
  iprop(holdsAt c (commS f (par s)) (wire xs ws f s (src c f)) ∗ bundF c f s)
def asndPay (c : Dev nD) (o : Fin 16) : sProp 𝕄 := rowPts xs ws c c (shr (15 - o.val))
def arcvPay (c : Dev nD) (o : Fin 16) : sProp 𝕄 := rowPts xs ws c (back c o.val) fullShare

omit [FloatOps F] in
instance ready_storable (c : Dev nD) (f : Fin 4) (n : ℕ) : BI.Storable (upEmb : UEmb _ 𝕄) (ready (F := F) c f n) := by unfold ready; infer_instance
omit [FloatOps F] in
instance acc_storable (c : Dev nD) (f : Fin 4) (n : ℕ) : BI.Storable (upEmb : UEmb _ 𝕄) (acc (F := F) c f n) := by unfold acc; infer_instance
omit [FloatOps F] in
instance bund_storable (c : Dev nD) (s : ℕ) : BI.Storable (upEmb : UEmb _ 𝕄) (bund (F := F) c s) := by unfold bund; infer_instance
omit [FloatOps F] in
instance bundF_storable (c : Dev nD) (f : Fin 4) (s : ℕ) : BI.Storable (upEmb : UEmb _ 𝕄) (bundF (F := F) c f s) := by
  unfold bundF; split <;> infer_instance
instance barPay_storable (c : Dev nD) (d : ℕ) : BI.Storable (upEmb : UEmb _ 𝕄) (barPay (F := F) c d) := by
  unfold barPay; split <;> infer_instance
instance crdPay_storable (c : Dev nD) (f : Fin 4) (d : ℕ) : BI.Storable (upEmb : UEmb _ 𝕄) (crdPay (F := F) c f d) := by
  unfold crdPay; infer_instance
instance sndPay_storable (c : Dev nD) (f : Fin 4) (p : Fin 2) : BI.Storable (upEmb : UEmb _ 𝕄) (sndPay (F := F) c f p) := by
  unfold sndPay; infer_instance
instance rcvPay_storable (c : Dev nD) (f : Fin 4) (s : ℕ) : BI.Storable (upEmb : UEmb _ 𝕄) (rcvPay xs ws c f s) := by
  unfold rcvPay holdsAt; infer_instance
instance asndPay_storable (c : Dev nD) (o : Fin 16) : BI.Storable (upEmb : UEmb _ 𝕄) (asndPay xs ws c o) := by
  unfold asndPay rowPts; infer_instance
instance arcvPay_storable (c : Dev nD) (o : Fin 16) : BI.Storable (upEmb : UEmb _ 𝕄) (arcvPay xs ws c o) := by
  unfold arcvPay rowPts; infer_instance

/-! ## The schedule -/

def dutiesOf : Option KK → ℕ → Finset ℕ
  | some (.inl _), r => if r = 0 then {0, 1} else ∅
  | some (.inr (.inl _)), r => if r = 0 then Finset.range 13 else ∅
  | some (.inr (.inr (.inl (_, p)))), r => if 2 * r + p.val < 15 then {0} else ∅
  | some (.inr (.inr (.inr (.inl (_, p))))), r => if 2 * r + p.val < 15 then {0} else ∅
  | some (.inr (.inr (.inr (.inr (.inl o))))), r => if r = 0 ∧ 1 ≤ o.val then {0} else ∅
  | some (.inr (.inr (.inr (.inr (.inr o))))), r => if r = 0 ∧ 1 ≤ o.val then {0} else ∅
  | none, _ => ∅
def amountOfRole : Option KK → ℕ
  | some (.inl _) => 1
  | some (.inr (.inl _)) => 1
  | some (.inr (.inr (.inl _))) => NB
  | some (.inr (.inr (.inr (.inl _)))) => NB
  | some (.inr (.inr (.inr (.inr _)))) => NA
  | none => 1
def payOf (c : Dev nD) : Option KK → ℕ → ℕ → sProp 𝕄
  | some (.inl _), _, d => barPay c d
  | some (.inr (.inl f)), _, d => crdPay c f d
  | some (.inr (.inr (.inl (f, p)))), _, _ => sndPay c f p
  | some (.inr (.inr (.inr (.inl (f, p))))), r, _ => rcvPay xs ws c f (2 * r + p.val)
  | some (.inr (.inr (.inr (.inr (.inl o))))), _, _ => asndPay xs ws c o
  | some (.inr (.inr (.inr (.inr (.inr o))))), _, _ => arcvPay xs ws c o
  | none, _, _ => iprop(emp)

def Rd : Rounds.Schedule (GSem nD τ sig) ℕ 𝕄 where
  duties g r := if g.1.2 = .tc then dutiesOf (role g.2) r else ∅
  unitless _ := False
  amount g _ _ := amountOfRole (role g.2)
  payload g r d := payOf xs ws g.1.1 (role g.2) r d
  amount_pos g _ _ _ := by
    rcases role g.2 with _ | _ | _ | _ | _ | _ | _
    · exact Nat.one_pos
    · exact Nat.one_pos
    · exact Nat.one_pos
    · exact NB_pos
    · exact NB_pos
    · exact NA_pos
    · exact NA_pos

instance Rd_payload_storable (g : GSem nD τ sig) (r : ℕ) (d : ℕ) : BI.Storable (upEmb : UEmb _ 𝕄) ((Rd xs ws).payload g r d) := by
  show BI.Storable upEmb (payOf xs ws g.1.1 (role g.2) r d)
  rcases role g.2 with _ | _ | _ | ⟨_, _⟩ | ⟨_, _⟩ | _ | _ <;> unfold payOf <;> infer_instance

section Sched
variable (c : Dev nD)

theorem duties_cell (k : KK) (r : ℕ) : (Rd xs ws).duties (cell (c, k)) r = dutiesOf (some k) r := by
  dsimp only [Rd, cell]
  rw [if_pos rfl, role_csem]
theorem amount_cell (k : KK) (r d : ℕ) : (Rd xs ws).amount (cell (c, k)) r d = amountOfRole (some k) := by
  show amountOfRole (role (csem k)) = _
  rw [role_csem]
theorem payload_cell (k : KK) (r d : ℕ) : (Rd xs ws).payload (cell (c, k)) r d = payOf xs ws c (some k) r d := by
  show payOf xs ws c (role (csem k)) r d = _
  rw [role_csem]

theorem duties_bar : (Rd xs ws).duties (barC c) 0 = {0, 1} := duties_cell xs ws c (.inl ()) 0
theorem duties_crd (f : Fin 4) : (Rd xs ws).duties (crdC c f) 0 = Finset.range 13 := duties_cell xs ws c (.inr (.inl f)) 0
theorem par_round (n : ℕ) : 2 * (n / 2) + (par n).val = n := Nat.div_add_mod n 2
theorem duties_snd (f : Fin 4) {n : ℕ} (hn : n < 15) : (Rd xs ws).duties (sndC c f (par n)) (n / 2) = {0} :=
  (duties_cell xs ws c (.inr (.inr (.inl (f, par n)))) (n / 2)).trans (if_pos (by rw [par_round]; exact hn))
theorem duties_rcv (f : Fin 4) {n : ℕ} (hn : n < 15) : (Rd xs ws).duties (rcvC c f (par n)) (n / 2) = {0} :=
  (duties_cell xs ws c (.inr (.inr (.inr (.inl (f, par n))))) (n / 2)).trans (if_pos (by rw [par_round]; exact hn))
theorem duties_asnd {o : Fin 16} (ho : 1 ≤ o.val) : (Rd xs ws).duties (asndC c o) 0 = {0} :=
  (duties_cell xs ws c (.inr (.inr (.inr (.inr (.inl o))))) 0).trans (if_pos ⟨rfl, ho⟩)
theorem duties_arcv {o : Fin 16} (ho : 1 ≤ o.val) : (Rd xs ws).duties (arcvC c o) 0 = {0} :=
  (duties_cell xs ws c (.inr (.inr (.inr (.inr (.inr o))))) 0).trans (if_pos ⟨rfl, ho⟩)
theorem amount_bar (r d : ℕ) : (Rd xs ws).amount (barC c) r d = 1 := amount_cell xs ws c (.inl ()) r d
theorem amount_crd (f : Fin 4) (r d : ℕ) : (Rd xs ws).amount (crdC c f) r d = 1 := amount_cell xs ws c (.inr (.inl f)) r d
theorem amount_snd (f : Fin 4) (p : Fin 2) (r d : ℕ) : (Rd xs ws).amount (sndC c f p) r d = NB := amount_cell xs ws c (.inr (.inr (.inl (f, p)))) r d
theorem amount_rcv (f : Fin 4) (p : Fin 2) (r d : ℕ) : (Rd xs ws).amount (rcvC c f p) r d = NB := amount_cell xs ws c (.inr (.inr (.inr (.inl (f, p))))) r d
theorem amount_asnd (o : Fin 16) (r d : ℕ) : (Rd xs ws).amount (asndC c o) r d = NA := amount_cell xs ws c (.inr (.inr (.inr (.inr (.inl o))))) r d
theorem amount_arcv (o : Fin 16) (r d : ℕ) : (Rd xs ws).amount (arcvC c o) r d = NA := amount_cell xs ws c (.inr (.inr (.inr (.inr (.inr o))))) r d
theorem pay_bar (d : ℕ) : (Rd xs ws).payload (barC c) 0 d = barPay c d := payload_cell xs ws c (.inl ()) 0 d
theorem pay_crd (f : Fin 4) (d : ℕ) : (Rd xs ws).payload (crdC c f) 0 d = crdPay c f d := payload_cell xs ws c (.inr (.inl f)) 0 d
theorem pay_snd (f : Fin 4) (n d : ℕ) : (Rd xs ws).payload (sndC c f (par n)) (n / 2) d = sndPay c f (par n) :=
  payload_cell xs ws c (.inr (.inr (.inl (f, par n)))) (n / 2) d
theorem pay_rcv (f : Fin 4) (n d : ℕ) : (Rd xs ws).payload (rcvC c f (par n)) (n / 2) d = rcvPay xs ws c f n :=
  (payload_cell xs ws c (.inr (.inr (.inr (.inl (f, par n))))) (n / 2) d).trans (by show rcvPay xs ws c f (2 * (n / 2) + (par n).val) = _; rw [par_round])
theorem pay_asnd (o : Fin 16) (d : ℕ) : (Rd xs ws).payload (asndC c o) 0 d = asndPay xs ws c o := payload_cell xs ws c (.inr (.inr (.inr (.inr (.inl o))))) 0 d
theorem pay_arcv (o : Fin 16) (d : ℕ) : (Rd xs ws).payload (arcvC c o) 0 d = arcvPay xs ws c o := payload_cell xs ws c (.inr (.inr (.inr (.inr (.inr o))))) 0 d

theorem expect_bar : (Rd xs ws).expect (barC c) 0 = 2 := by
  unfold Schedule.expect Schedule.amountOf
  rw [duties_bar, Finset.sum_congr rfl fun d _ => amount_bar xs ws c 0 d]; rfl
theorem expect_crd (f : Fin 4) : (Rd xs ws).expect (crdC c f) 0 = 13 := by
  unfold Schedule.expect Schedule.amountOf
  rw [duties_crd, Finset.sum_congr rfl fun d _ => amount_crd xs ws c f 0 d]; rfl
theorem expect_snd (f : Fin 4) {n : ℕ} (hn : n < 15) : (Rd xs ws).expect (sndC c f (par n)) (n / 2) = NB := by
  unfold Schedule.expect Schedule.amountOf
  rw [duties_snd xs ws c f hn, Finset.sum_singleton, amount_snd]
theorem expect_rcv (f : Fin 4) {n : ℕ} (hn : n < 15) : (Rd xs ws).expect (rcvC c f (par n)) (n / 2) = NB := by
  unfold Schedule.expect Schedule.amountOf
  rw [duties_rcv xs ws c f hn, Finset.sum_singleton, amount_rcv]
theorem expect_asnd {o : Fin 16} (ho : 1 ≤ o.val) : (Rd xs ws).expect (asndC c o) 0 = NA := by
  unfold Schedule.expect Schedule.amountOf
  rw [duties_asnd xs ws c ho, Finset.sum_singleton, amount_asnd]
theorem expect_arcv {o : Fin 16} (ho : 1 ≤ o.val) : (Rd xs ws).expect (arcvC c o) 0 = NA := by
  unfold Schedule.expect Schedule.amountOf
  rw [duties_arcv xs ws c ho, Finset.sum_singleton, amount_arcv]

end Sched

/-! ## The levels -/

/-- The indices a core's cells may have: the time stamps. -/
def L : GSem nD τ sig → Finset ℕ := fun g => if g.1.2 = .tc then Finset.range 200 else ∅
def lv : GSem nD τ sig → ℕ → ℕ := fun _ i => i
theorem L_of_ne : ∀ g : GSem nD τ sig, g.1.2 ≠ .tc → L g = ∅ := fun g h => if_neg h

/-- Everything owed is owed at stamp `b` or later. -/
def Above (b : ℕ) (O : CellTallies nD τ sig ℕ) : Prop := ∀ g i, 0 < O g i → g.1.2 = .tc ∧ b ≤ i ∧ i < 200
theorem above_zero (b : ℕ) : Above b 0 := fun g i h => absurd h (Nat.lt_irrefl 0)
theorem above_add {b : ℕ} {O O' : CellTallies nD τ sig ℕ} (h : Above b O) (h' : Above b O') : Above b (O + O') := fun g i hp => by
  rw [Pi.add_apply, Finsupp.add_apply] at hp
  rcases Nat.eq_zero_or_pos (O g i) with h0 | h0
  · exact h' g i (by omega)
  · exact h g i h0
theorem above_mono {b b' : ℕ} {O : CellTallies nD τ sig ℕ} (hb : b' ≤ b) (h : Above b O) : Above b' O := fun g i hp =>
  ⟨(h g i hp).1, hb.trans (h g i hp).2.1, (h g i hp).2.2⟩
theorem above_tally {b i n : ℕ} (c : Dev nD) (sm : SemLoc sig) (h : b ≤ i) (hi : i < 200) : Above b (tallyAt ((c : Thread nD τ), sm) i n) := fun g j hp => by
  rw [tallyAt_apply] at hp
  by_cases hg : g = ((c : Thread nD τ), sm) ∧ j = i
  · obtain ⟨rfl, rfl⟩ := hg; exact ⟨rfl, h, hi⟩
  · first
      | (rw [if_neg hg] at hp; exact absurd hp (Nat.lt_irrefl 0))
      | (rw [if_neg (fun h => hg ⟨h.1.symm, h.2.symm⟩)] at hp; exact absurd hp (Nat.lt_irrefl 0))
theorem above_sum {ι : Type} {b : ℕ} {s : Finset ι} {O : ι → CellTallies nD τ sig ℕ} (h : ∀ k ∈ s, Above b (O k)) : Above b (∑ k ∈ s, O k) := by
  classical
  induction s using Finset.induction_on with
  | empty => rw [Finset.sum_empty]; exact above_zero b
  | insert k s hk ih =>
    rw [Finset.sum_insert hk]
    exact above_add (h k (Finset.mem_insert_self _ _)) (ih fun j hj => h j (Finset.mem_insert_of_mem hj))

theorem mayWait_above {b i : ℕ} {c : Dev nD} {sm : SemLoc sig} {O : CellTallies nD τ sig ℕ} (hO : Above b O) (hi : i < b) (hi' : i < 200) :
    (levAts L lv : sProp 𝕄) ⊢ MayWait (c : Thread nD τ) sm i O :=
  Pipeline.mayWait_of_levAts (by show i ∈ (if _ then Finset.range 200 else ∅); rw [if_pos rfl]; exact Finset.mem_range.mpr hi')
    fun g j hg => ⟨by show j ∈ (if _ then _ else _); rw [if_pos (hO g j hg).1]; exact Finset.mem_range.mpr (hO g j hg).2.2,
      lt_of_lt_of_le hi (hO g j hg).2.1⟩

/-- The level facts. -/
def levs : sProp 𝕄 := levAts L lv
instance levs_persistent : BI.Persistent (levs (F := F)) := by unfold levs; infer_instance
theorem mayWait_levs {b i : ℕ} {c : Dev nD} {sm : SemLoc sig} {O : CellTallies nD τ sig ℕ} (hO : Above b O) (hi : i < b) (hi' : i < 200) :
    levs ⊢ (MayWait (c : Thread nD τ) sm i O : sProp 𝕄) := mayWait_above hO hi hi'

/-! ## What is owed -/

/-- The unit of the credit paid at step `s`, and the copy of step `s`. -/
def cT (c : Dev nD) (f : Fin 4) (s : ℕ) : CellTallies nD τ sig ℕ := if 1 ≤ s ∧ s ≤ 13 then tallyAt (crdC (src c f) f) (2 * s + 1) 1 else 0
def rT (c : Dev nD) (f : Fin 4) (s : ℕ) : CellTallies nD τ sig ℕ := tallyAt (rcvC (dst c f) f (par s)) (2 * s + 2) NB
def obl (c : Dev nD) (f : Fin 4) (s : ℕ) : CellTallies nD τ sig ℕ := rT c f s + cT c f s
/-- The steps from `s` on. -/
def oS (c : Dev nD) (s : ℕ) : CellTallies nD τ sig ℕ := ∑ j ∈ Finset.Ico s 15, ∑ f : Fin 4, obl c f j
/-- The last `n` copies of the maxima. -/
def dist (n : ℕ) : Fin 16 := ⟨(15 - n) % 16, Nat.mod_lt _ (by decide)⟩
def aT (c : Dev nD) (n : ℕ) : CellTallies nD τ sig ℕ := tallyAt (arcvC (peer c (dist n)) (dist n)) 100 NA
def oA (c : Dev nD) (n : ℕ) : CellTallies nD τ sig ℕ := ∑ k ∈ Finset.range n, aT c k
def O₁ (c : Dev nD) : CellTallies nD τ sig ℕ := oA c 15 + oS c 0
def O₀ (c : Dev nD) : CellTallies nD τ sig ℕ := (O₁ c + tallyAt (barC (right c)) 1 1) + tallyAt (barC (left c)) 1 1

theorem above_cT (c : Dev nD) (f : Fin 4) (s : ℕ) : Above (2 * s + 1) (cT c f s) := by
  unfold cT; split
  · exact above_tally _ _ le_rfl (by omega)
  · exact above_zero _
theorem above_rT (c : Dev nD) (f : Fin 4) {s : ℕ} (hs : s < 15) : Above (2 * s + 1) (rT c f s) := above_tally _ _ (by omega) (by omega)
theorem above_oS (c : Dev nD) (s : ℕ) : Above (2 * s + 1) (oS c s) :=
  above_sum fun j hj => above_sum fun f _ => above_mono (by have := (Finset.mem_Ico.mp hj).1; omega)
    (above_add (above_rT c f (Finset.mem_Ico.mp hj).2) (above_cT c f j))
theorem above_oA (c : Dev nD) (n : ℕ) : Above 100 (oA c n) := above_sum fun k _ => above_tally _ _ le_rfl (by decide)

end Cert.KernelIdeal.Ring
-- ==== Proof.Ring.Steps.lean ====
/- The records every device holds, and the rules of the waits, signals and copies at this protocol's cells. -/
module

public import proofs.«01_k».proof.Proof.Ring.Protocol
public import Idealize.ShloMosaic.Lib.Tactic
public import Idealize.ShloMosaic.Lib.ViewIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

abbrev 𝒱₀ : Variants := Variants.none
/-- The body's rest `p` runs on device `c` to `Q`. -/
abbrev WP (c : Dev nD) (p : BP F) (Q : PUnit → sProp 𝕄) : sProp 𝕄 :=
  wp frame (wpE (defs₀ (F := F)) 𝒱₀ (c : Thread nD τ) none) Set.univ p Q
/-- Device `c` owes `O`, whatever waits it has recorded. -/
def owesE (c : Dev nD) (O : CellTallies nD τ sig ℕ) : sProp 𝕄 := iprop(∃ W, owes (c : Thread nD τ) O W)

variable (xs : Dev nD → XC F) (ws : Dev nD → WC F)

/-! ## The records -/

abbrev invE (g : GSem nD τ sig) : sProp 𝕄 := iprop(∃ κ : ℕ, cellInv ER (Rd xs ws) κ g)
abbrev sinvE (k : SK) : sProp 𝕄 := iprop(∃ ι : ℕ, slotInv ES ι k (anyAt (F := F) k.1 (commS k.2.1 k.2.2)))

/-- The landing slots' invariants. -/
def sinvs : sProp 𝕄 := bigSep Finset.univ fun k : SK => sinvE k
instance sinvs_persistent : BI.Persistent (sinvs (F := F)) := by unfold sinvs; infer_instance
/-- Every cell's invariant, every cell's round 0, every landing slot's invariant, and the levels. -/
def Rec : sProp 𝕄 :=
  iprop((bigSep Finset.univ fun ck : Dev nD × KK => invE xs ws (cell ck))
    ∗ (bigSep Finset.univ fun ck : Dev nD × KK => reached ER (cell ck) 0)
    ∗ sinvs
    ∗ levs)

instance decKK1 : DecidableEq (Fin 16 ⊕ Fin 16) := inferInstance
instance decKK2 : DecidableEq ((Fin 4 × Fin 2) ⊕ (Fin 16 ⊕ Fin 16)) := inferInstance
instance decKK3 : DecidableEq ((Fin 4 × Fin 2) ⊕ ((Fin 4 × Fin 2) ⊕ (Fin 16 ⊕ Fin 16))) := inferInstance
instance decCK : DecidableEq CK := inferInstance
instance decKK : DecidableEq KK := inferInstance
instance decCell : DecidableEq (Dev nD × KK) := instDecidableEqProd
instance Rec_persistent : BI.Persistent (Rec xs ws) := by unfold Rec; infer_instance

theorem rec_inv (c : Dev nD) (k : KK) : Rec xs ws ⊢ invE xs ws (cell (c, k)) := by
  unfold Rec; iintro ⟨H, -⟩
  iapply (show (bigSep Finset.univ fun ck : Dev nD × KK => invE xs ws (cell ck) : sProp 𝕄) ⊢ invE xs ws (cell (c, k)) from bigSep_elim (Finset.mem_univ ((c, k) : Dev nD × KK))); iexact H
theorem rec_reached (c : Dev nD) (k : KK) : Rec xs ws ⊢ (reached ER (cell (c, k)) 0 : sProp 𝕄) := by
  unfold Rec; iintro ⟨-, H, -⟩
  iapply (show (bigSep Finset.univ fun ck : Dev nD × KK => reached ER (cell ck) 0 : sProp 𝕄) ⊢ reached ER (cell (c, k)) 0 from bigSep_elim (Finset.mem_univ ((c, k) : Dev nD × KK))); iexact H
theorem rec_slot (k : SK) : Rec xs ws ⊢ (sinvE (F := F) k : sProp 𝕄) := by
  unfold Rec; iintro ⟨-, -, H, -⟩
  unfold sinvs
  iapply (show (bigSep Finset.univ fun k : SK => sinvE (F := F) k : sProp 𝕄) ⊢ sinvE k from bigSep_elim (Finset.mem_univ k)); iexact H
set_option maxRecDepth 10000 in
theorem rec_lev : Rec xs ws ⊢ levs (F := F) := by
  unfold Rec; iintro ⟨-, -, -, H⟩; iexact H
set_option maxRecDepth 10000 in
theorem rec_mayWait {b i : ℕ} {c : Dev nD} {sm : SemLoc sig} {O : CellTallies nD τ sig ℕ} (hO : Above b O) (hi : i < b) (hi' : i < 200) :
    Rec xs ws ⊢ (MayWait (c : Thread nD τ) sm i O : sProp 𝕄) := (rec_lev xs ws).trans (mayWait_levs hO hi hi')

/-! ## The rules -/

/-- A wait for a whole round of one duty. -/
theorem wp_waitOne (c : Dev nD) {w : TpuEff nD τ sig (Elt F) Λ₀ .tc PUnit} {sm : SemLoc sig} {k' k'' : ℕ} (hk : k' = k'')
    (hw : ∀ K : PUnit → sProp 𝕄, wpE (defs₀ (F := F)) 𝒱₀ (c : Thread nD τ) none Set.univ w K = waitSpec (c : Thread nD τ) Set.univ sm k' K)
    {k : PUnit → BP F} {Q : PUnit → sProp 𝕄} (i : ℕ) {O : CellTallies nD τ sig ℕ} {R : ℕ}
    (hd : (Rd xs ws).duties ((c : Thread nD τ), sm) R = {0}) (hx : (Rd xs ws).expect ((c : Thread nD τ), sm) R = k'') :
    iprop(invE xs ws ((c : Thread nD τ), sm) ∗ cred (tallyAt ((c : Thread nD τ), sm) i k'') ∗ owesE c O ∗ MayWait (c : Thread nD τ) sm i O
        ∗ atPos ER ((c : Thread nD τ), sm) R ∅ 0)
      ⊢ iprop(((owesE c O ∗ atPos ER ((c : Thread nD τ), sm) (R + 1) ∅ 0 ∗ reached ER ((c : Thread nD τ), sm) (R + 1)
            ∗ (Rd xs ws).payload ((c : Thread nD τ), sm) R 0) -∗ WP c (k ⟨⟩) Q) -∗ WP c (.op w k) Q) := by
  subst hk
  unfold owesE
  iintro ⟨⟨%κ, Hi⟩, Hc, ⟨%W, HO⟩, Hm, Hat⟩ Hk
  iapply (Rounds.wp_wait_rest_token 𝒱₀ ER (Rd xs ws) (c : Thread nD τ) none (κ := κ) hw (Set.mem_univ _) i (O := O) (W := W) (R := R) (m := 0) (T := ∅)
    (by rw [hx, Nat.zero_add])) $$ [Hi Hc HO Hm Hat]
  · isplitl [Hi]; · iexact Hi
    isplitl [Hc]; · iexact Hc
    isplitl [HO]; · iexact HO
    isplitl [Hm] <;> iassumption
  iintro ⟨HO, Hat, Hr, Hpay⟩
  ihave Hp := (show (bigSep ((Rd xs ws).duties ((c : Thread nD τ), sm) R \ ∅) (fun d => (Rd xs ws).payload ((c : Thread nD τ), sm) R d) : sProp 𝕄)
      ⊢ (Rd xs ws).payload ((c : Thread nD τ), sm) R 0 from Entails.of_eq (by rw [hd, Finset.sdiff_empty, bigSep_singleton])) $$ Hpay
  iapply Hk
  isplitl [HO]; · iexists _; iexact HO
  isplitl [Hat]; · iexact Hat
  isplitl [Hr] <;> iassumption

/-- A signal of one unit. -/
theorem wp_signalOne (c c' : Dev nD) {sem : Sem sig} {k : PUnit → BP F} {Q : PUnit → sProp 𝕄} (i d : ℕ) {O₀ : CellTallies nD τ sig ℕ} (O : CellTallies nD τ sig ℕ)
    (hO : O₀ = O + tallyAt ((c' : Thread nD τ), .reg sem) i 1)
    (hd : d ∈ (Rd xs ws).duties ((c' : Thread nD τ), .reg sem) 0) (ha : (Rd xs ws).amount ((c' : Thread nD τ), .reg sem) 0 d = 1) :
    iprop(invE xs ws ((c' : Thread nD τ), .reg sem) ∗ owesE c O₀ ∗ dutyTok ER ((c' : Thread nD τ), .reg sem) 0 d
        ∗ (Rd xs ws).payload ((c' : Thread nD τ), .reg sem) 0 d ∗ reached ER ((c' : Thread nD τ), .reg sem) 0)
      ⊢ iprop((owesE c O -∗ WP c (k ⟨⟩) Q) -∗ WP c (.op (.semSignal (c', .tc) sem (1#32 : BitVec 32).toInt) k) Q) := by
  unfold owesE
  iintro ⟨⟨%κ, Hi⟩, ⟨%W, HO⟩, Ht, Hp, Hr⟩ Hk
  iapply (Rounds.wp_signal 𝒱₀ ER (Rd xs ws) (c : Thread nD τ) none (dst := (c' : Thread nD τ)) (κ := κ) (r := 0) (d := d) hd (ha.trans (by decide)) i O hO (W := W))
    $$ [Hi HO Ht Hp Hr]
  · isplitl [Hi]; · iexact Hi
    isplitl [HO]; · iexact HO
    isplitl [Ht]; · iexact Ht
    isplitl [Hp] <;> iassumption
  iintro HO
  iapply Hk
  iexists _; iexact HO

end Cert.KernelIdeal.Ring
-- ==== Proof.Ring.Flow.lean ====
/- What a device holds of one flow before a step, and the parts of a step of a flow. -/
module

public import proofs.«01_k».proof.Proof.Ring.Steps
public import Idealize.SL.BI.BigOpNat

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

/-! ## The ring's arithmetic -/

theorem src_dst (c : Dev nD) (f : Fin 4) : src (dst c f) f = c := by
  revert c f; decide +kernel
theorem dst_src (c : Dev nD) (f : Fin 4) : dst (src c f) f = c := by
  revert c f; decide +kernel
theorem right_eq (c : Dev nD) : right c = fwd c 1 := by revert c; decide +kernel
theorem back_right (c : Dev nD) (s : ℕ) : back (right c) (s + 1) = back c s := by
  rw [right_eq]; unfold fwd back; apply Fin.ext; simp only; omega
theorem fwd_right (c : Dev nD) (i : ℕ) : fwd (right c) i = fwd c (i + 1) := by
  rw [right_eq]; unfold fwd; apply Fin.ext; simp only; omega
theorem fwd_zero (c : Dev nD) : fwd c 0 = c := by
  unfold fwd; apply Fin.ext; have := c.isLt; simp only [nD] at this ⊢; omega
theorem par_add_two (n : ℕ) : par (n + 2) = par n := Fin.ext (by show (n + 2) % 2 = n % 2; omega)

/-! ## The persistent facts -/

instance ready_persistent (c : Dev nD) (f : Fin 4) (n : ℕ) : BI.Persistent (ready (F := F) c f n) := by unfold ready; infer_instance
instance acc_persistent (c : Dev nD) (f : Fin 4) (n : ℕ) : BI.Persistent (acc (F := F) c f n) := by unfold acc; infer_instance

variable (xs : Dev nD → XC F) (ws : Dev nD → WC F)

theorem rec_bar (c : Dev nD) : Rec xs ws ⊢ invE xs ws (barC c) := rec_inv xs ws c (.inl ())
theorem rec_crd (c : Dev nD) (f : Fin 4) : Rec xs ws ⊢ invE xs ws (crdC c f) := rec_inv xs ws c (.inr (.inl f))
theorem rec_snd (c : Dev nD) (f : Fin 4) (p : Fin 2) : Rec xs ws ⊢ invE xs ws (sndC c f p) := rec_inv xs ws c (.inr (.inr (.inl (f, p))))
theorem rec_rcv (c : Dev nD) (f : Fin 4) (p : Fin 2) : Rec xs ws ⊢ invE xs ws (rcvC c f p) := rec_inv xs ws c (.inr (.inr (.inr (.inl (f, p)))))
theorem rec_asnd (c : Dev nD) (o : Fin 16) : Rec xs ws ⊢ invE xs ws (asndC c o) := rec_inv xs ws c (.inr (.inr (.inr (.inr (.inl o)))))
theorem rec_arcv (c : Dev nD) (o : Fin 16) : Rec xs ws ⊢ invE xs ws (arcvC c o) := rec_inv xs ws c (.inr (.inr (.inr (.inr (.inr o)))))
theorem rec_bar0 (c : Dev nD) : Rec xs ws ⊢ (reached ER (barC c) 0 : sProp 𝕄) := rec_reached xs ws c (.inl ())
theorem rec_crd0 (c : Dev nD) (f : Fin 4) : Rec xs ws ⊢ (reached ER (crdC c f) 0 : sProp 𝕄) := rec_reached xs ws c (.inr (.inl f))
theorem rec_snd0 (c : Dev nD) (f : Fin 4) (p : Fin 2) : Rec xs ws ⊢ (reached ER (sndC c f p) 0 : sProp 𝕄) := rec_reached xs ws c (.inr (.inr (.inl (f, p))))
theorem rec_rcv0 (c : Dev nD) (f : Fin 4) (p : Fin 2) : Rec xs ws ⊢ (reached ER (rcvC c f p) 0 : sProp 𝕄) := rec_reached xs ws c (.inr (.inr (.inr (.inl (f, p)))))
theorem rec_asnd0 (c : Dev nD) (o : Fin 16) : Rec xs ws ⊢ (reached ER (asndC c o) 0 : sProp 𝕄) := rec_reached xs ws c (.inr (.inr (.inr (.inr (.inl o)))))
theorem rec_arcv0 (c : Dev nD) (o : Fin 16) : Rec xs ws ⊢ (reached ER (arcvC c o) 0 : sProp 𝕄) := rec_reached xs ws c (.inr (.inr (.inr (.inr (.inr o)))))

/-! ## The slots -/

theorem slot_nonempty (f : Fin 4) (p : Fin 2) : (commS f p).view.set.Nonempty := by
  rw [← Finset.card_pos, View.card_set]; decide
theorem read_commS (f : Fin 4) (p : Fin 2) (g : (comm f).view.ref.ty.Contents (Elt F)) :
    (commS f p).view.read (Elt F) g = shapeCast S256x512 ((comm f).view.readAt (Elt F) (slotRect p).toLoadRect g) shapeCasts_S1x256x512_S256x512 := rfl
theorem commS_set (f : Fin 4) (p : Fin 2) : (comm f).view.setOn (slotRect p).toLoadRect.set ⊆ (commS f p).view.set := by
  rw [show (commS f p).view.set = ((comm f).access (slotRect p)).set from View.set_reshape _ _, View.set_slice]; exact subset_rfl
theorem sbufS_set' (f : Fin 4) (p : Fin 2) : (sbufS f p).view.set = ((sbuf f).access (slotRect p)).set := View.set_reshape _ _

theorem anyAt_intro {sp : Space} {s : Shape} {e : EltTy} (c : Dev nD) (m : Memref sig .tc sp s e) (g : Buf (Elt F) (m.view.loc (c : Thread nD τ))) :
    (m.view.loc (c : Thread nD τ) ↦[m.view.set]{fullShare} g : sProp 𝕄) ⊢ anyAt c m := by
  show _ ⊢ slot _ _
  unfold slot
  iintro H; iexists g; iexact H
theorem anyAt_twice (c : Dev nD) (f : Fin 4) (p : Fin 2) : (iprop(anyAt c (commS f p) ∗ anyAt c (commS f p)) : sProp 𝕄) ⊢ (False : sProp 𝕄) :=
  slot_slot_false (ℓ := (commS f p).view.loc (c : Thread nD τ)) (I := (commS f p).view.set)
    (show Finset.Nonempty (α := Idx ((commS f p).view.loc (c : Thread nD τ))) (commS f p).view.set from slot_nonempty f p)

/-! ## Receiving -/

/-- Before the wait for message `n`, for the slot it lands in: the position, and the reader's hold of the slot, which is out of
    the writer's hands again after message 12. -/
def V (c : Dev nD) (f : Fin 4) (n : ℕ) : sProp 𝕄 :=
  iprop(atPos ER (rcvC c f (par n)) (n / 2) ∅ 0
    ∗ if n ≤ 14 then readerAt ES ((c, f, par n) : SK) (n / 2 + 1) else anyAt c (commS f (par n)))
/-- Readiness for message `n`, if there is one that is written after a release. -/
def readyIf (c : Dev nD) (f : Fin 4) (n : ℕ) : sProp 𝕄 := if n ≤ 14 then ready c f n else iprop(emp)

theorem V_lo (c : Dev nD) (f : Fin 4) {n : ℕ} (h : n ≤ 14) :
    V (F := F) c f n = iprop(atPos ER (rcvC c f (par n)) (n / 2) ∅ 0 ∗ readerAt ES ((c, f, par n) : SK) (n / 2 + 1)) := by unfold V; rw [if_pos h]
theorem V_hi (c : Dev nD) (f : Fin 4) {n : ℕ} (h : ¬ n ≤ 14) :
    V (F := F) c f n = iprop(atPos ER (rcvC c f (par n)) (n / 2) ∅ 0 ∗ anyAt c (commS f (par n))) := by unfold V; rw [if_neg h]

/-- The release of the slot message `n` landed in, when a later message lands there. -/
theorem recv_release (c : Dev nD) (f : Fin 4) {n : ℕ} (hn : n < 15) {g : Buf (Elt F) ((commS f (par n)).view.loc (c : Thread nD τ))} :
    iprop(Rec xs ws ∗ atPos ER (rcvC c f (par n)) (n / 2 + 1) ∅ 0 ∗ reached ER (rcvC c f (par n)) (n / 2 + 1)
        ∗ readerAt ES ((c, f, par n) : SK) (n / 2 + 1) ∗ ((commS f (par n)).view.loc (c : Thread nD τ) ↦[(commS f (par n)).view.set]{fullShare} g))
      ⊢ (|={Set.univ}=> (V c f (n + 2) ∗ readyIf c f (n + 2)) : sProp 𝕄) := by
  have e1 : par (n + 2) = par n := par_add_two n
  have e2 : (n + 2) / 2 = n / 2 + 1 := by omega
  by_cases h14 : n + 2 ≤ 14
  · rw [V_lo c f h14]; unfold readyIf ready; rw [if_pos h14, e1, e2]
    iintro ⟨#Hrec, Hat, #Hr, Hrd, Hg⟩
    ihave Hs := (rec_slot xs ws (c, f, par n)) $$ Hrec
    icases Hs with ⟨%ι, Hs⟩
    imod (slot_release ES (Set.mem_univ ι) (anyAt_twice c f (par n)) (n / 2 + 1)) $$ [Hs Hrd Hg] with ⟨Hrd, #Hrel⟩
    · isplitl [Hs]; · iexact Hs
      isplitl [Hrd]; · iexact Hrd
      iapply anyAt_intro; iexact Hg
    imodintro
    isplitl [Hat Hrd]
    · isplitl [Hat]; · iexact Hat
      iexact Hrd
    isplitr; · iexact Hrel
    iexact Hr
  · rw [V_hi c f h14]; unfold readyIf; rw [if_neg h14, e1, e2]
    iintro ⟨#Hrec, Hat, #Hr, Hrd, Hg⟩
    imodintro
    isplitl [Hat Hg]
    · isplitl [Hat]; · iexact Hat
      iapply anyAt_intro; iexact Hg
    iempintro

/-- The wait for message `n` and the load of what landed, then the release of the slot. -/
theorem recv_core (c : Dev nD) (f : Fin 4) {n : ℕ} (hn : n < 15) {O : CellTallies nD τ sig ℕ} (hO : Above (2 * n + 3) O)
    {k : Vec F S1x256x512 .i16 → BP F} {Q : PUnit → sProp 𝕄} :
    iprop(Rec xs ws ∗ V c f n ∗ cred (tallyAt (rcvC c f (par n)) (2 * n + 2) NB) ∗ owesE c O)
      ⊢ iprop((∀ w : Vec F S1x256x512 .i16, (⌜shapeCast S256x512 w shapeCasts_S1x256x512_S256x512 = wire xs ws f n (src c f)⌝
            ∗ owesE c O ∗ (V c f (n + 2) ∗ readyIf c f (n + 2)) ∗ bundF c f n) -∗ WP c (k w) Q)
          -∗ WP c (Prog.op (.waitDma2 (rsem f (par n)) (sbufS f (par n)) (commS f (par n)) (sbufS_words f _) (commS_words f _)) fun _ =>
            Prog.op (.load (comm f) (slotRect (par n)).toLoadRect (View.loadsAt_vmem h_S1x256x512)) k) Q) := by
  rw [V_lo c f (show n ≤ 14 by omega)]
  iintro ⟨#Hrec, ⟨Hat, Hrd⟩, Hc, HO⟩ Hk
  iapply (wp_waitOne xs ws c (k'' := NB) (commS_credit f (par n)) (wpE_waitDma2_eq 𝒱₀ (c : Thread nD τ) none Set.univ) (2 * n + 2) (O := O) (R := n / 2)
    (duties_rcv xs ws c f hn) (expect_rcv xs ws c f hn)) $$ [Hat Hc HO]
  · isplitr; · iapply (rec_rcv xs ws c f (par n)); iexact Hrec
    isplitl [Hc]; · iexact Hc
    isplitl [HO]; · iexact HO
    isplitr; · iapply (rec_mayWait xs ws hO (by omega) (by omega)); iexact Hrec
    iexact Hat
  iintro ⟨HO, Hat, #Hr, Hp⟩
  ihave Hp := (Entails.of_eq (pay_rcv xs ws c f n 0)) $$ Hp
  unfold rcvPay holdsAt
  icases Hp with ⟨⟨%g, %hg, Hg⟩, Hb⟩
  iapply (wp_load 𝒱₀ (c : Thread nD τ) none Set.univ (commS_set f (par n)) (m := comm f) (f := g)) $$ [Hg]
  · iexact Hg
  iintro Hg
  imod (recv_release xs ws c f hn (g := g)) $$ [Hat Hrd Hg] with Hv
  · isplitr; · iexact Hrec
    isplitl [Hat]; · iexact Hat
    isplitr; · iexact Hr
    isplitl [Hrd]; · iexact Hrd
    iexact Hg
  iapply Hk
  isplitr; · ipureintro; rw [← read_commS]; exact hg
  isplitl [HO]; · iexact HO
  isplitl [Hv]; · iexact Hv
  iexact Hb

/-- The first of a range of resources, and the rest. -/
theorem bigSep_range_front (A : ℕ → sProp 𝕄) (m : ℕ) : bigSep (Finset.range (m + 1)) A = iprop(A 0 ∗ bigSep (Finset.range m) fun i => A (i + 1)) := by
  have hI : Finset.Ico (0 + 1) (m + 1) = (Finset.range m).map (addRightEmbedding 1) := by
    ext x; simp only [Finset.mem_Ico, Finset.mem_map, Finset.mem_range, addRightEmbedding_apply]
    exact ⟨fun h => ⟨x - 1, by omega, by omega⟩, fun ⟨y, hy, e⟩ => by omega⟩
  rw [Finset.range_eq_Ico, bigSep_Ico_succ_bot (Nat.succ_pos m), hI, bigSep_map, Finset.range_eq_Ico]; rfl

/-- The rows of the maxima collected with the first `n` messages: device `c`'s row, on the devices before it. -/
def coll (c : Dev nD) (n : ℕ) : sProp 𝕄 := bigSep (Finset.range n) fun j => anyAt (back c (j + 1)) (amaxRow c)
def collF (c : Dev nD) (f : Fin 4) (n : ℕ) : sProp 𝕄 := if f = 0 then coll c n else iprop(emp)

theorem bund_step (c : Dev nD) {n : ℕ} (hn : n < 15) : bund (F := F) c n = iprop(anyAt (back c (n + 1)) (amaxRow c) ∗ bund (right c) (n + 1)) := by
  unfold bund
  have h : (bigSep (Finset.range (15 - (n + 1))) fun i => anyAt (F := F) (back (right c) (n + 1 + 1)) (amaxRow (fwd (right c) i)))
      = bigSep (Finset.range (15 - (n + 1))) fun i => anyAt (back c (n + 1)) (amaxRow (fwd c (i + 1))) :=
    bigSep_congr fun i _ => by rw [back_right, fwd_right]
  have h0 : (anyAt (F := F) (back c (n + 1)) (amaxRow (fwd c 0))) = anyAt (back c (n + 1)) (amaxRow c) := by rw [fwd_zero]
  rw [show 15 - n = (15 - (n + 1)) + 1 by omega, bigSep_range_front, h, h0]
theorem coll_step (c : Dev nD) (f : Fin 4) {n : ℕ} (hn : n < 15) :
    iprop(collF c f n ∗ bundF c f n) ⊢ (iprop(collF c f (n + 1) ∗ bundF (dst c f) f (n + 1)) : sProp 𝕄) := by
  unfold collF bundF
  by_cases hf : f = 0
  · subst hf
    rw [if_pos rfl, if_pos rfl, if_pos rfl, if_pos rfl, bund_step c hn]
    show iprop(_ ∗ _) ⊢ iprop(_ ∗ bund (right c) (n + 1))
    unfold coll
    rw [bigSep_range_succ]
    iintro ⟨HC, Hr, Hb⟩
    isplitl [HC Hr]
    · isplitl [Hr]; · iexact Hr
      iexact HC
    iexact Hb
  · rw [if_neg hf, if_neg hf, if_neg hf, if_neg hf]

theorem acc_step (c : Dev nD) (f : Fin 4) (n : ℕ) :
    iprop(acc c f (min n 13) ∗ readyIf c f (n + 2)) ⊢ (acc c f (min (n + 1) 13) : sProp 𝕄) := by
  by_cases h : n + 2 ≤ 14
  · unfold readyIf acc
    rw [if_pos h, show min n 13 = n by omega, show min (n + 1) 13 = n + 1 by omega, bigSep_range_succ]
    iintro ⟨HC, Hr⟩
    isplitl [Hr]; · iexact Hr
    iexact HC
  · rw [show min n 13 = min (n + 1) 13 by omega]; iintro ⟨H, -⟩; iexact H

/-- The receiving side of a flow, `n` messages received: the two next landing slots, the readiness facts so far, the rows
    collected, the tokens of the credits to pay, and the credits to wait with. -/
def RV (c : Dev nD) (f : Fin 4) (n : ℕ) : sProp 𝕄 :=
  iprop(V c f n ∗ V c f (n + 1) ∗ acc c f (min n 13) ∗ collF c f n
    ∗ (bigSep (Finset.Ico n 13) fun r => dutyTok ER (crdC (src c f) f) 0 r)
    ∗ (bigSep (Finset.Ico n 15) fun j => cred (tallyAt (rcvC c f (par j)) (2 * j + 2) NB)))
/-- The rows that leave with the first message. -/
def bund0 (c : Dev nD) (f : Fin 4) (s : ℕ) : sProp 𝕄 := if s = 0 then bundF (dst c f) f 0 else iprop(emp)

/-- The last receipt's shape: message `n` received, no credit paid. -/
theorem recv_next (c : Dev nD) (f : Fin 4) {n : ℕ} (hn : n < 15) {O : CellTallies nD τ sig ℕ} (hO : Above (2 * n + 3) O)
    {k : Vec F S1x256x512 .i16 → BP F} {Q : PUnit → sProp 𝕄} :
    iprop(Rec xs ws ∗ RV c f n ∗ owesE c O)
      ⊢ iprop((∀ w : Vec F S1x256x512 .i16, (⌜shapeCast S256x512 w shapeCasts_S1x256x512_S256x512 = wire xs ws f n (src c f)⌝
            ∗ owesE c O ∗ V c f (n + 1) ∗ V c f (n + 2) ∗ acc c f (min (n + 1) 13) ∗ (collF c f (n + 1) ∗ bundF (dst c f) f (n + 1))
            ∗ (bigSep (Finset.Ico n 13) fun r => dutyTok ER (crdC (src c f) f) 0 r)
            ∗ (bigSep (Finset.Ico (n + 1) 15) fun j => cred (tallyAt (rcvC c f (par j)) (2 * j + 2) NB))) -∗ WP c (k w) Q)
          -∗ WP c (Prog.op (.waitDma2 (rsem f (par n)) (sbufS f (par n)) (commS f (par n)) (sbufS_words f _) (commS_words f _)) fun _ =>
            Prog.op (.load (comm f) (slotRect (par n)).toLoadRect (View.loadsAt_vmem h_S1x256x512)) k) Q) := by
  unfold RV
  rw [bigSep_Ico_succ_bot hn]
  iintro ⟨#Hrec, ⟨HV, HV', #Hacc, Hcoll, Htk, Hc, Hcs⟩, HO⟩ Hk
  iapply (recv_core xs ws c f hn hO) $$ [HV Hc HO]
  · isplitr; · iexact Hrec
    isplitl [HV]; · iexact HV
    isplitl [Hc]; · iexact Hc
    iexact HO
  iintro %w ⟨%hw, HO, ⟨HV, Hr⟩, Hb⟩
  iapply Hk
  isplitr; · ipureintro; exact hw
  isplitl [HO]; · iexact HO
  isplitl [HV']; · iexact HV'
  isplitl [HV]; · iexact HV
  isplitl [Hr]
  · iapply (acc_step c f n)
    isplitr; · iexact Hacc
    iexact Hr
  isplitl [Hcoll Hb]
  · iapply (coll_step c f hn)
    isplitl [Hcoll]; · iexact Hcoll
    iexact Hb
  isplitl [Htk]; · iexact Htk
  iexact Hcs

theorem acc_crdPay (c : Dev nD) (f : Fin 4) {n : ℕ} (h : n < 13) :
    (acc c f (min (n + 1) 13) : sProp 𝕄) ⊢ (Rd xs ws).payload (crdC (src c f) f) 0 n := by
  rw [pay_crd, show min (n + 1) 13 = n + 1 by omega]; unfold crdPay; rw [dst_src]

/-- Step `s`'s receipt. -/
theorem wp_recvPart (c : Dev nD) (f : Fin 4) {s : ℕ} (hs : s < 15) (g : FVec F S256x1024 .f32) (hg : wireOf f g = part xs ws c f s)
    {O : CellTallies nD τ sig ℕ} (hO : Above (2 * s + 1) O) {k : IVec S256x512 16 → BP F} {Q : PUnit → sProp 𝕄} :
    iprop(Rec xs ws ∗ RV c f (s - 1) ∗ bund0 c f s ∗ owesE c (O + cT c f s))
      ⊢ iprop((owesE c O ∗ RV c f s ∗ bundF (dst c f) f s -∗ WP c (k (wire xs ws f s c)) Q) -∗ WP c (recvPart c s f (wireOf f g) k) Q) := by
  rcases s with _ | n
  · unfold bund0 recvPart cT
    rw [if_pos rfl, if_pos rfl, if_neg (by omega), add_zero, hg]
    iintro ⟨-, HR, Hb, HO⟩ Hk
    iapply Hk
    isplitl [HO]; · iexact HO
    isplitl [HR]; · iexact HR
    iexact Hb
  · have hw' (w : Vec F S1x256x512 .i16) (hw : shapeCast S256x512 w shapeCasts_S1x256x512_S256x512 = wire xs ws f n (src c f)) :
        addi (part xs ws c f (n + 1)) (shapeCast S256x512 w shapeCasts_S1x256x512_S256x512) = wire xs ws f (n + 1) c := by rw [hw]; rfl
    unfold bund0 recvPart
    rw [if_neg (Nat.succ_ne_zero n), if_neg (Nat.succ_ne_zero n), hg]
    dsimp only [Nat.add_one_sub_one]
    by_cases h13 : n + 1 ≤ 13
    · simp only [if_pos h13]
      iintro ⟨#Hrec, HR, -, HO⟩ Hk
      iapply (recv_next xs ws c f (show n < 15 by omega) (O := O + cT c f (n + 1)) (above_add hO (above_cT c f (n + 1)))) $$ [HR HO]
      · isplitr; · iexact Hrec
        isplitl [HR]; · iexact HR
        iexact HO
      iintro %w ⟨%hw, HO, HV, HV', #Hacc, ⟨HC, Hb⟩, Ht, Hcs⟩
      ihave Ht := (Entails.of_eq (bigSep_Ico_succ_bot (show n < 13 by omega) (fun r => (dutyTok ER (crdC (src c f) f) 0 r : sProp 𝕄)))) $$ Ht
      icases Ht with ⟨Ht, Hts⟩
      iapply (wp_signalOne xs ws c (src c f) (sem := crd f) (2 * (n + 1) + 1) n (O₀ := O + cT c f (n + 1)) O (by unfold cT; rw [if_pos ⟨by omega, h13⟩])
        (by rw [duties_crd]; exact Finset.mem_range.mpr (by omega)) (amount_crd xs ws (src c f) f 0 n)) $$ [HO Ht]
      · isplitr; · iapply (rec_crd xs ws (src c f) f); iexact Hrec
        isplitl [HO]; · iexact HO
        isplitl [Ht]; · iexact Ht
        isplitr; · iapply (acc_crdPay xs ws c f (show n < 13 by omega)); iexact Hacc
        iapply (rec_crd0 xs ws (src c f) f); iexact Hrec
      iintro HO
      ihave Hk := (show iprop(owesE c O ∗ RV c f (n + 1) ∗ bundF (dst c f) f (n + 1) -∗ WP c (k (wire xs ws f (n + 1) c)) Q)
        ⊢ iprop(owesE c O ∗ RV c f (n + 1) ∗ bundF (dst c f) f (n + 1) -∗ WP c (k (addi (part xs ws c f (n + 1)) (shapeCast S256x512 w shapeCasts_S1x256x512_S256x512))) Q)
        from Entails.of_eq (by rw [hw' w hw])) $$ Hk
      iapply Hk
      isplitl [HO]; · iexact HO
      isplitr [Hb]
      · unfold RV
        isplitl [HV]; · iexact HV
        isplitl [HV']; · iexact HV'
        isplitr; · iexact Hacc
        isplitl [HC]; · iexact HC
        isplitl [Hts]; · iexact Hts
        iexact Hcs
      iexact Hb
    · simp only [if_neg h13]
      rw [show cT c f (n + 1) = 0 from if_neg fun h => h13 h.2, add_zero]
      iintro ⟨#Hrec, HR, -, HO⟩ Hk
      iapply (recv_next xs ws c f (show n < 15 by omega) (O := O) hO) $$ [HR HO]
      · isplitr; · iexact Hrec
        isplitl [HR]; · iexact HR
        iexact HO
      iintro %w ⟨%hw, HO, HV, HV', #Hacc, ⟨HC, Hb⟩, Ht, Hcs⟩
      ihave Ht := (Entails.of_eq (show (bigSep (Finset.Ico n 13) fun r => (dutyTok ER (crdC (src c f) f) 0 r : sProp 𝕄))
          = bigSep (Finset.Ico (n + 1) 13) fun r => (dutyTok ER (crdC (src c f) f) 0 r : sProp 𝕄)
          by rw [Finset.Ico_eq_empty (by omega), Finset.Ico_eq_empty (by omega)])) $$ Ht
      ihave Hk := (show iprop(owesE c O ∗ RV c f (n + 1) ∗ bundF (dst c f) f (n + 1) -∗ WP c (k (wire xs ws f (n + 1) c)) Q)
        ⊢ iprop(owesE c O ∗ RV c f (n + 1) ∗ bundF (dst c f) f (n + 1) -∗ WP c (k (addi (part xs ws c f (n + 1)) (shapeCast S256x512 w shapeCasts_S1x256x512_S256x512))) Q)
        from Entails.of_eq (by rw [hw' w hw])) $$ Hk
      iapply Hk
      isplitl [HO]; · iexact HO
      isplitr [Hb]
      · unfold RV
        isplitl [HV]; · iexact HV
        isplitl [HV']; · iexact HV'
        isplitr; · iexact Hacc
        isplitl [HC]; · iexact HC
        isplitl [Ht]; · iexact Ht
        iexact Hcs
      iexact Hb

end Cert.KernelIdeal.Ring
-- ==== Proof.Ring.Send.lean ====
/- The sending side of a flow: the drain of the outgoing slot, its store, the credit's wait and the copy. -/
module

public import proofs.«01_k».proof.Proof.Ring.Flow

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

/-! ## The outgoing slot -/

/-- Before the drain of step `n`, for its outgoing slot: free in the first two steps, and after that in flight with the copy of two
    steps before. -/
def U (c : Dev nD) (f : Fin 4) (n : ℕ) : sProp 𝕄 :=
  if n < 2 then iprop(anyAt c (sbufS f (par n)) ∗ atPos ER (sndC c f (par n)) (n / 2) ∅ 0)
  else iprop(cred (tallyAt (sndC c f (par n)) 0 NB) ∗ atPos ER (sndC c f (par n)) (n / 2 - 1) ∅ 0)

theorem par_sub_two {n : ℕ} (h : 2 ≤ n) : par (n - 2) = par n := Fin.ext (by show (n - 2) % 2 = n % 2; omega)

/-- The wait for the copy of step `n - 2`. -/
theorem drain_core (c : Dev nD) (f : Fin 4) {n : ℕ} (h2 : 2 ≤ n) (hn : n < 17) {O : CellTallies nD τ sig ℕ} (hO : Above 1 O)
    {k : BP F} {Q : PUnit → sProp 𝕄} :
    iprop(Rec xs ws ∗ U c f n ∗ owesE c O)
      ⊢ iprop((owesE c O ∗ anyAt c (sbufS f (par n)) ∗ atPos ER (sndC c f (par n)) (n / 2) ∅ 0 ∗ reached ER (sndC c f (par n)) (n / 2) -∗ WP c k Q)
          -∗ WP c (Prog.op (.waitDma2 (ssem f (par n)) (commS f (par n)) (sbufS f (par n)) (commS_words f _) (sbufS_words f _)) fun _ => k) Q) := by
  have hq : (n - 2) / 2 = n / 2 - 1 := by omega
  have hd : (Rd xs ws).duties (sndC c f (par n)) (n / 2 - 1) = {0} := by
    have := duties_snd xs ws c f (n := n - 2) (by omega); rwa [par_sub_two h2, hq] at this
  have hx : (Rd xs ws).expect (sndC c f (par n)) (n / 2 - 1) = NB := by
    have := expect_snd xs ws c f (n := n - 2) (by omega); rwa [par_sub_two h2, hq] at this
  have hp : (Rd xs ws).payload (sndC c f (par n)) (n / 2 - 1) 0 = sndPay c f (par n) := by
    have := pay_snd xs ws c f (n - 2) 0; rwa [par_sub_two h2, hq] at this
  have hr : n / 2 - 1 + 1 = n / 2 := by omega
  unfold U
  rw [if_neg (by omega)]
  have hw := wp_waitOne xs ws c (k'' := NB) (sbufS_credit f (par n))
    (wpE_waitDma2_eq 𝒱₀ (c : Thread nD τ) none Set.univ (dst := sbufS f (par n)) (src := commS f (par n)) (hsrc := commS_words f _) (hdst := sbufS_words f _) (sem := ssem f (par n))) 0 (O := O) (R := n / 2 - 1) hd hx
    (k := fun _ => k) (Q := Q)
  rw [hp, hr] at hw
  iintro ⟨#Hrec, ⟨Hc, Hat⟩, HO⟩ Hk
  iapply hw $$ [Hat Hc HO]
  · isplitr; · iapply (rec_snd xs ws c f (par n)); iexact Hrec
    isplitl [Hc]; · iexact Hc
    isplitl [HO]; · iexact HO
    isplitr; · iapply (rec_mayWait xs ws hO (by omega) (by omega)); iexact Hrec
    iexact Hat
  iintro ⟨HO, Hat, Hr, Hp⟩
  iapply Hk
  isplitl [HO]; · iexact HO
  isplitl [Hp]; · unfold sndPay; iexact Hp
  isplitl [Hat]; · iexact Hat
  iexact Hr

/-- Step `s`'s drain: the outgoing slot is free. -/
theorem wp_drainPart (c : Dev nD) (f : Fin 4) {s : ℕ} (hs : s < 15) {O : CellTallies nD τ sig ℕ} (hO : Above 1 O)
    {k : BP F} {Q : PUnit → sProp 𝕄} :
    iprop(Rec xs ws ∗ U c f s ∗ owesE c O)
      ⊢ iprop((owesE c O ∗ anyAt c (sbufS f (par s)) ∗ atPos ER (sndC c f (par s)) (s / 2) ∅ 0 ∗ reached ER (sndC c f (par s)) (s / 2) -∗ WP c k Q)
          -∗ WP c (drainPart s f k) Q) := by
  unfold drainPart
  by_cases h : s ≤ 1
  · rw [if_pos h]; unfold U
    have h0 : s / 2 = 0 := by omega
    rw [if_pos (by omega), h0]
    iintro ⟨#Hrec, ⟨Ha, Hat⟩, HO⟩ Hk
    iapply Hk
    isplitl [HO]; · iexact HO
    isplitl [Ha]; · iexact Ha
    isplitl [Hat]; · iexact Hat
    iapply (rec_snd0 xs ws c f (par s)); iexact Hrec
  · rw [if_neg h]
    exact drain_core xs ws c f (by omega) (by omega) hO

theorem sbufS_set (f : Fin 4) (p : Fin 2) : (sbuf f).view.setOn (slotRect p).toLoadRect.set ⊆ (sbufS f p).view.set := by
  rw [sbufS_set', View.set_slice]; exact subset_rfl
theorem shapeCast_back {s t : Shape} {α : Type} (v : s.Idx → α) (h : s.ShapeCasts t) (h' : t.ShapeCasts s) : shapeCast s (shapeCast t v h) h' = v := by
  funext i
  show v (Shape.reshapeEquiv _ (Shape.reshapeEquiv _ i)) = v i
  rw [Shape.reshapeEquiv_reshapeEquiv, Shape.reshapeEquiv_self]
theorem read_store (f : Fin 4) (p : Fin 2) (g : (sbuf f).view.ref.ty.Contents (Elt F)) (v : IVec S256x512 16) :
    (sbufS f p).view.read (Elt F) (((sbuf f).access (slotRect p)).write (Elt F) g (shapeCast S1x256x512 v shapeCasts_S256x512_S1x256x512) Finset.univ) = v := by
  have h : (sbufS f p).view.read (Elt F) (((sbuf f).access (slotRect p)).write (Elt F) g (shapeCast S1x256x512 v shapeCasts_S256x512_S1x256x512) Finset.univ)
      = shapeCast S256x512 (((sbuf f).access (slotRect p)).read (Elt F) (((sbuf f).access (slotRect p)).write (Elt F) g (shapeCast S1x256x512 v shapeCasts_S256x512_S1x256x512) Finset.univ)) shapeCasts_S1x256x512_S256x512 := rfl
  rw [h, View.read_write_univ]
  exact shapeCast_back _ _ _

/-- The store of the sum in the outgoing slot. -/
theorem wp_storePart (c : Dev nD) (f : Fin 4) (s : ℕ) (v : IVec S256x512 16) {k : BP F} {Q : PUnit → sProp 𝕄} :
    (anyAt c (sbufS f (par s)) : sProp 𝕄) ⊢ iprop((holdsAt c (sbufS f (par s)) v -∗ WP c k Q) -∗ WP c (storePart s f v k) Q) := by
  unfold storePart
  show slot _ _ ⊢ _
  unfold slot holdsAt
  iintro ⟨%g, Hg⟩ Hk
  iapply (wp_load 𝒱₀ (c : Thread nD τ) none Set.univ (sbufS_set f (par s)) (m := sbuf f) (f := g)) $$ [Hg]
  · iexact Hg
  iintro Hg
  iapply (wp_store 𝒱₀ (c : Thread nD τ) none Set.univ (m := sbuf f) (r := slotRect (par s)) (S := (sbufS f (par s)).view.set) (Mk := Finset.univ) (f := g)
    (by rw [sbufS_set']; exact subset_rfl)) $$ [Hg]
  · iexact Hg
  iintro Hg
  iapply Hk
  iexists _
  isplitr; · ipureintro; exact read_store f (par s) g v
  iexact Hg

/-! ## The credit -/

/-- After `n` credits consumed: the position among the credits, with the payloads seen. -/
def CP (c : Dev nD) (f : Fin 4) (n : ℕ) : sProp 𝕄 :=
  iprop(∃ T : Finset ℕ, ⌜T ⊆ Finset.range 13 ∧ n ≤ T.card⌝ ∗ atPos ER (crdC c f) 0 T n ∗ bigSep T (fun d => crdPay c f d))
instance crdPay_persistent (c : Dev nD) (f : Fin 4) (d : ℕ) : BI.Persistent (crdPay (F := F) c f d) := by unfold crdPay; infer_instance
/-- The writer's side of the credits: the position, the credits to wait with, and readiness for the first two messages. -/
def CR (c : Dev nD) (f : Fin 4) (n : ℕ) : sProp 𝕄 :=
  iprop(CP c f n ∗ (bigSep (Finset.Ico n 13) fun r => cred (tallyAt (crdC c f) (2 * r + 3) 1))
    ∗ ready (dst c f) f 0 ∗ ready (dst c f) f 1)

theorem exists_late {n : ℕ} {S : Finset ℕ} (h : n + 1 ≤ S.card) : ∃ r ∈ S, n ≤ r := by
  by_contra hc
  have : S ⊆ Finset.range n := fun r hr => Finset.mem_range.mpr (Nat.lt_of_not_le fun hle => hc ⟨r, hr, hle⟩)
  have := Finset.card_le_card this
  rw [Finset.card_range] at this
  omega
theorem crdPay_ready (c : Dev nD) (f : Fin 4) {n r : ℕ} (h : n ≤ r) : (crdPay c f r : sProp 𝕄) ⊢ ready (dst c f) f (n + 2) := by
  unfold crdPay acc
  exact bigSep_elim (Φ := fun j => ready (dst c f) f (j + 2)) (Finset.mem_range.mpr (by omega))

/-- Step `s`'s wait for a credit. -/
theorem wp_creditPart (c : Dev nD) (f : Fin 4) {s : ℕ} (hs : s < 15) {O : CellTallies nD τ sig ℕ} (hO : Above (2 * s + 1) O)
    {k : BP F} {Q : PUnit → sProp 𝕄} :
    iprop(Rec xs ws ∗ CR c f (s - 2) ∗ owesE c O)
      ⊢ iprop((owesE c O ∗ CR c f (s - 1) ∗ ready (dst c f) f s -∗ WP c k Q) -∗ WP c (creditPart s f k) Q) := by
  unfold creditPart CR
  by_cases h : s ≤ 1
  · rw [if_pos h, show s - 2 = 0 by omega, show s - 1 = 0 by omega]
    iintro ⟨-, ⟨HP, HC, #H0, #H1⟩, HO⟩ Hk
    iapply Hk
    isplitl [HO]; · iexact HO
    isplitl [HP HC]
    · isplitl [HP]; · iexact HP
      isplitl [HC]; · iexact HC
      isplitr; · iexact H0
      iexact H1
    · rcases (show s = 0 ∨ s = 1 by omega) with rfl | rfl
      · iexact H0
      · iexact H1
  · obtain ⟨n, rfl⟩ : ∃ n, s = n + 2 := ⟨s - 2, by omega⟩
    rw [if_neg h, show n + 2 - 2 = n by omega, show n + 2 - 1 = n + 1 by omega, bigSep_Ico_succ_bot (show n < 13 by omega)]
    unfold CP owesE
    iintro ⟨#Hrec, ⟨⟨%T, %hT, Hat, #HT⟩, ⟨Hc, Hcs⟩, #H0, #H1⟩, ⟨%W, HO⟩⟩ Hk
    ihave Hi := (rec_crd xs ws c f) $$ Hrec
    icases Hi with ⟨%κ, Hi⟩
    iapply (Rounds.wp_wait 𝒱₀ ER (Rd xs ws) (c : Thread nD τ) none (κ := κ) (wpE_semWait_eq 𝒱₀ (c : Thread nD τ) none Set.univ) (Set.mem_univ _)
      (cr := Finsupp.single (2 * n + 3) 1) (O := O) (W := W) {(SemLoc.reg (crd f), 2 * n + 3)} (R := 0) (m := n) (T := T)
      (by rw [Util.total_single]; rfl) (image_single_subset _ _ _)) $$ [Hi Hc HO Hat]
    · isplitl [Hi]; · iexact Hi
      isplitl [Hc]; · iexact Hc
      isplitl [HO]; · iexact HO
      isplitr; · iapply (rec_mayWait xs ws (c := c) (sm := SemLoc.reg (crd f)) hO (show 2 * n + 3 < 2 * (n + 2) + 1 by omega) (show 2 * n + 3 < 200 by omega)); iexact Hrec
      iexact Hat
    iintro %S ⟨%hS, HO, Hat, HS⟩
    have hcard : S ⊆ Finset.range 13 ∧ n + 1 ≤ S.card := by
      obtain ⟨h1, h2, h3⟩ := hS
      rw [duties_crd] at h2 h3
      rw [expect_crd, Finset.card_sdiff_of_subset h2, Finset.card_range] at h3
      have := Finset.card_le_card h2
      rw [Finset.card_range] at this
      have h3' : n + 1 + (13 - S.card) ≤ 13 := h3
      exact ⟨h2, by omega⟩
    obtain ⟨r, hr, hnr⟩ := exists_late hcard.2
    ihave #HS' := (show (bigSep (S \ T) fun d => (Rd xs ws).payload ((c : Thread nD τ), SemLoc.reg (crd f)) 0 d : sProp 𝕄) ⊢ bigSep (S \ T) fun d => crdPay c f d
      from Entails.of_eq (bigSep_congr fun d _ => pay_crd xs ws c f d)) $$ HS
    ihave #HA := (show (iprop((bigSep T fun d => crdPay c f d) ∗ bigSep (S \ T) fun d => crdPay c f d) : sProp 𝕄) ⊢ bigSep S fun d => crdPay c f d
      from Entails.of_eq (bigSep_sdiff_split hS.1).symm) $$ [HT HS']
    · isplitr; · iexact HT
      iexact HS'
    iapply Hk
    isplitl [HO]; · iexists _; iexact HO
    isplitl [Hat Hcs]
    · isplitl [Hat]
      · iexists S
        isplitr; · ipureintro; exact hcard
        isplitl [Hat]; · iexact Hat
        iexact HA
      isplitl [Hcs]; · iexact Hcs
      isplitr; · iexact H0
      iexact H1
    · iapply (crdPay_ready c f hnr)
      iapply (show (bigSep S fun d => crdPay c f d : sProp 𝕄) ⊢ crdPay c f r from bigSep_elim hr); iexact HA

/-! ## The copy -/

/-- The tokens of step `n`'s copy: the writer's right to the slot, the duty on the receiver's cell and the one on the own send cell. -/
def tok3 (c : Dev nD) (f : Fin 4) (n : ℕ) : sProp 𝕄 :=
  iprop(writeTok ES ((dst c f, f, par n) : SK) (n / 2 + 1) ∗ dutyTok ER (rcvC (dst c f) f (par n)) (n / 2) 0 ∗ dutyTok ER (sndC c f (par n)) (n / 2) 0)

theorem sent_pay (c : Dev nD) (f : Fin 4) (s : ℕ) {g : Buf (Elt F) ((sbufS f (par s)).view.loc (c : Thread nD τ))}
    (hg : (sbufS f (par s)).view.read (Elt F) g = wire xs ws f s c) (fd : Buf (Elt F) ((commS f (par s)).view.loc (dst c f : Thread nD τ))) :
    (iprop(((commS f (par s)).view.loc (dst c f : Thread nD τ) ↦[(commS f (par s)).view.set]{fullShare}
        ((commS f (par s)).view.write (Elt F) fd ((sbufS f (par s)).view.read (Elt F) g) Finset.univ)) ∗ bundF (dst c f) f s) : sProp 𝕄)
      ⊢ (Rd xs ws).payload (rcvC (dst c f) f (par s)) (s / 2) 0 := by
  rw [pay_rcv]; unfold rcvPay holdsAt
  rw [src_dst]
  iintro ⟨H, Hb⟩
  isplitl [H]
  · iexists ((commS f (par s)).view.write (Elt F) fd ((sbufS f (par s)).view.read (Elt F) g) Finset.univ)
    isplitr; · ipureintro; exact (View.read_write_univ _ _).trans hg
    iexact H
  iexact Hb

/-- Step `s`'s copy. -/
theorem wp_sendPart (c : Dev nD) (f : Fin 4) {s : ℕ} (hs : s < 15) (O : CellTallies nD τ sig ℕ)
    {k : BP F} {Q : PUnit → sProp 𝕄} :
    iprop(Rec xs ws ∗ holdsAt c (sbufS f (par s)) (wire xs ws f s c) ∗ reached ER (sndC c f (par s)) (s / 2) ∗ ready (dst c f) f s
        ∗ tok3 c f s ∗ bundF (dst c f) f s ∗ owesE c (O + rT c f s))
      ⊢ iprop((owesE c O ∗ cred (tallyAt (sndC c f (par s)) 0 NB) -∗ WP c k Q) -∗ WP c (sendPart c s f k) Q) := by
  unfold holdsAt ready tok3 owesE sendPart
  iintro ⟨#Hrec, ⟨%g, %hg, Hg⟩, #Hrs, ⟨#Hrel, #Hrr⟩, ⟨Hw, Ht2, Ht1⟩, Hb, ⟨%W, HO⟩⟩ Hk
  ihave Hs := (rec_slot xs ws (dst c f, f, par s)) $$ Hrec
  icases Hs with ⟨%ι, Hs⟩
  imod (slot_take ES (Set.mem_univ ι) (s / 2 + 1)) $$ [Hs Hw] with Hslot
  · isplitl [Hs]; · iexact Hs
    isplitr; · iexact Hrel
    iexact Hw
  ihave Hslot := (show (anyAt (dst c f) (commS f (par s)) : sProp 𝕄) ⊢ iprop(∃ fd, ((commS f (par s)).view.loc (dst c f : Thread nD τ) ↦[(commS f (par s)).view.set]{fullShare} fd)) from Entails.of_eq rfl) $$ Hslot
  icases Hslot with ⟨%fd, Hfd⟩
  ihave Hi1 := (rec_snd xs ws c f (par s)) $$ Hrec
  icases Hi1 with ⟨%κ₁, Hi1⟩
  ihave Hi2 := (rec_rcv xs ws (dst c f) f (par s)) $$ Hrec
  icases Hi2 with ⟨%κ₂, Hi2⟩
  iapply (Rounds.wp_send_pointsTo_with 𝒱₀ ER (Rd xs ws) (c : Thread nD τ) none (c' := (dst c f : Thread nD τ)) (src := sbufS f (par s)) (dst := commS f (par s))
      (sS := SemLoc.dma (ssem f (par s))) (sem := SemLoc.dma (rsem f (par s))) (κ₁ := κ₁) (κ₂ := κ₂) (r₁ := s / 2) (r₂ := s / 2) (d₁ := 0) (d₂ := 0)
      (q := fullShare) (fs := g) (fd := fd) (F := bundF (dst c f) f s)
      (by rw [duties_snd xs ws c f hs]; exact Finset.mem_singleton_self _) (by rw [duties_rcv xs ws (dst c f) f hs]; exact Finset.mem_singleton_self _)
      (2 * s + 2) 0 NB (commS_credit f (par s)) (amount_snd xs ws c f _ _ _) (amount_rcv xs ws (dst c f) f _ _ _) (O₀ := O + rT c f s) O rfl (W := W)
      (by rw [pay_snd]; unfold sndPay; exact anyAt_intro c (sbufS f (par s)) g) (sent_pay xs ws c f s hg fd)) $$ [Hi1 Hi2 Hg Hfd Hb HO Ht1 Ht2]
  · isplitl [Hi1]; · iexact Hi1
    isplitl [Hi2]; · iexact Hi2
    isplitl [Hg]; · iexact Hg
    isplitl [Hfd Hb]
    · isplitl [Hfd]; · iexact Hfd
      iexact Hb
    isplitl [HO]; · iexact HO
    isplitl [Ht1]; · iexact Ht1
    isplitr; · iexact Hrs
    isplitl [Ht2]; · iexact Ht2
    iexact Hrr
  iintro ⟨Hc, HO⟩
  iapply Hk
  isplitl [HO]; · iexists _; iexact HO
  iexact Hc

/-! ## A step of a flow -/

/-- The sending side of a flow before step `s`. -/
def SD (c : Dev nD) (f : Fin 4) (s : ℕ) : sProp 𝕄 :=
  iprop(U c f s ∗ U c f (s + 1) ∗ CR c f (s - 2) ∗ bigSep (Finset.Ico s 15) (tok3 c f))
/-- A flow before step `s`. -/
def flowSt (c : Dev nD) (f : Fin 4) (s : ℕ) : sProp 𝕄 := iprop((RV c f (s - 1) ∗ bund0 c f s) ∗ SD c f s)

theorem U_next (c : Dev nD) (f : Fin 4) (s : ℕ) :
    iprop(cred (tallyAt (sndC c f (par s)) 0 NB) ∗ atPos ER (sndC c f (par s)) (s / 2) ∅ 0) ⊢ (U (F := F) c f (s + 2) : sProp 𝕄) := by
  unfold U
  rw [if_neg (by omega), par_add_two, show (s + 2) / 2 - 1 = s / 2 by omega]

theorem wp_flowStep (c : Dev nD) (f : Fin 4) {s : ℕ} (hs : s < 15) (g : FVec F S256x1024 .f32) (hg : wireOf f g = part xs ws c f s)
    {O : CellTallies nD τ sig ℕ} (hO : Above (2 * s + 1) O) {k : BP F} {Q : PUnit → sProp 𝕄} :
    iprop(Rec xs ws ∗ flowSt c f s ∗ owesE c (O + obl c f s))
      ⊢ iprop((owesE c O ∗ flowSt c f (s + 1) -∗ WP c k Q) -∗ WP c (flowStep c s f g k) Q) := by
  have hO1 : Above (2 * s + 1) (O + rT c f s) := above_add hO (above_rT c f hs)
  unfold flowSt SD flowStep
  rw [show O + obl c f s = O + rT c f s + cT c f s from (add_assoc _ _ _).symm, bigSep_Ico_succ_bot hs]
  iintro ⟨#Hrec, ⟨⟨HR, Hb0⟩, HU, HU', HC, Ht, Hts⟩, HO⟩ Hk
  iapply (wp_recvPart xs ws c f hs g hg hO1) $$ [HR Hb0 HO]
  · isplitr; · iexact Hrec
    isplitl [HR]; · iexact HR
    isplitl [Hb0]; · iexact Hb0
    iexact HO
  iintro ⟨HO, HR, Hb⟩
  iapply (wp_drainPart xs ws c f hs (above_mono (by omega) hO1)) $$ [HU HO]
  · isplitr; · iexact Hrec
    isplitl [HU]; · iexact HU
    iexact HO
  iintro ⟨HO, Ha, Hat, #Hr⟩
  iapply (wp_storePart c f s (wire xs ws f s c)) $$ [Ha]
  · iexact Ha
  iintro Hh
  iapply (wp_creditPart xs ws c f hs hO1) $$ [HC HO]
  · isplitr; · iexact Hrec
    isplitl [HC]; · iexact HC
    iexact HO
  iintro ⟨HO, HC, #Hrdy⟩
  iapply (wp_sendPart xs ws c f hs O) $$ [Hh Ht Hb HO]
  · isplitr; · iexact Hrec
    isplitl [Hh]; · iexact Hh
    isplitr; · iexact Hr
    isplitr; · iexact Hrdy
    isplitl [Ht]; · iexact Ht
    isplitl [Hb]; · iexact Hb
    iexact HO
  iintro ⟨HO, Hc⟩
  iapply Hk
  isplitl [HO]; · iexact HO
  isplitl [HR]
  · isplitl [HR]; · iexact HR
    unfold bund0; iempintro
  isplitl [HU']; · iexact HU'
  isplitl [Hc Hat]
  · iapply (U_next c f s)
    isplitl [Hc]; · iexact Hc
    iexact Hat
  isplitl [HC]; · iexact HC
  iexact Hts

end Cert.KernelIdeal.Ring
-- ==== Proof.Ring.Run.lean ====
/- The products, the fifteen steps, and the last sums. -/
module

public import proofs.«01_k».proof.Proof.Ring.Send

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

abbrev stX : Memref sig .tc .vmem S4096x256 .f32 := Memref.whole cc0_stg0_0
abbrev stW : Memref sig .tc .vmem S256x2048 .f32 := Memref.whole cc0_stg1_0
abbrev stO : Memref sig .tc .vmem S256x2048 .f32 := Memref.whole cc0_stg2_0

/-- The activations, and the two parts of the scaled weights. -/
def opnds (c : Dev nD) : sProp 𝕄 :=
  iprop((((c : Thread nD τ).loc cc0_stg0_0) ↦{fullShare} xs c) ∗ (((c : Thread nD τ).loc cc0_scratch0) ↦{fullShare} (k0_pay4 (ws c) : (cc0_scratch0 : Ref sig .tc).ty.Contents (Elt F)))
    ∗ (((c : Thread nD τ).loc cc0_scratch1) ↦{fullShare} (k0_pay5 (ws c) : (cc0_scratch1 : Ref sig .tc).ty.Contents (Elt F))))

/-- The product of a row block with a half of the weights. -/
theorem wp_gemmPart (c : Dev nD) (off : Fin 2 → ℕ) (hoff : ∀ a, off a + S256x256.size a ≤ S4096x256.size a) (h : Bool)
    {k : FVec F S256x1024 .f32 → BP F} {Q : PUnit → sProp 𝕄} :
    opnds xs ws c ⊢ iprop((opnds xs ws c -∗ WP c (k (prod (xs c) (ws c) off hoff h)) Q) -∗ WP c (gemmPart stX off hoff h k) Q) := by
  unfold opnds gemmPart
  cases h <;>
  · iintro ⟨Hx, Hh, Hl⟩ Hk
    iapply (wp_load 𝒱₀ (c : Thread nD τ) none Set.univ (m := stX) (S := Finset.univ) (f := xs c) (Finset.subset_univ _)) $$ [Hx]
    · iexact Hx
    iintro Hx
    iapply (wp_load 𝒱₀ (c : Thread nD τ) none Set.univ (m := Memref.whole cc0_scratch0) (S := Finset.univ) (f := (k0_pay4 (ws c) : (cc0_scratch0 : Ref sig .tc).ty.Contents (Elt F))) (Finset.subset_univ _)) $$ [Hh]
    · iexact Hh
    iintro Hh
    iapply (wp_load 𝒱₀ (c : Thread nD τ) none Set.univ (m := Memref.whole cc0_scratch1) (S := Finset.univ) (f := (k0_pay5 (ws c) : (cc0_scratch1 : Ref sig .tc).ty.Contents (Elt F))) (Finset.subset_univ _)) $$ [Hl]
    · iexact Hl
    iintro Hl
    iapply Hk
    isplitl [Hx]; · iexact Hx
    isplitl [Hh]; · iexact Hh
    iexact Hl

/-! ## The steps -/

/-- The four flows before step `s`. -/
def flows (c : Dev nD) (s : ℕ) : sProp 𝕄 := iprop(flowSt c 0 s ∗ flowSt c 1 s ∗ flowSt c 2 s ∗ flowSt c 3 s)

theorem oS_step (c : Dev nD) {s : ℕ} (hs : s < 15) (B : CellTallies nD τ sig ℕ) :
    B + oS c s = B + oS c (s + 1) + obl c 3 s + obl c 2 s + obl c 1 s + obl c 0 s := by
  unfold oS
  rw [show Finset.Ico s 15 = insert s (Finset.Ico (s + 1) 15) by ext x; simp only [Finset.mem_Ico, Finset.mem_insert]; omega,
    Finset.sum_insert (by rw [Finset.mem_Ico]; omega), Fin.sum_univ_four]
  generalize (∑ j ∈ Finset.Ico (s + 1) 15, ∑ f, obl c f j) = X
  generalize obl c 0 s = a; generalize obl c 1 s = b; generalize obl c 2 s = d; generalize obl c 3 s = e
  simp only [add_assoc, add_comm, add_left_comm]

theorem above_obl (c : Dev nD) (f : Fin 4) {s : ℕ} (hs : s < 15) : Above (2 * s + 1) (obl c f s) := above_add (above_rT c f hs) (above_cT c f s)

theorem part_lt (c : Dev nD) (f : Fin 4) {s : ℕ} (hs : s < 15) : part xs ws c f s = wireOf f (prodAt xs ws c ⟨s, hs⟩ (toRight f)) := dif_pos hs

/-- Step `s`. -/
theorem wp_step (c : Dev nD) {s : ℕ} (hs : s < 15) {B : CellTallies nD τ sig ℕ} (hB : Above 100 B) {k : BP F} {Q : PUnit → sProp 𝕄} :
    iprop(Rec xs ws ∗ opnds xs ws c ∗ flows c s ∗ owesE c (B + oS c s))
      ⊢ iprop((opnds xs ws c ∗ flows c (s + 1) ∗ owesE c (B + oS c (s + 1)) -∗ WP c k Q) -∗ WP c (step stX c s hs k) Q) := by
  have h3 : Above (2 * s + 1) (B + oS c (s + 1)) := above_add (above_mono (by omega) hB) (above_mono (by omega) (above_oS c (s + 1)))
  have h2 := above_add h3 (above_obl c 3 hs)
  have h1 := above_add h2 (above_obl c 2 hs)
  have h0 := above_add h1 (above_obl c 1 hs)
  unfold step flows
  rw [oS_step c hs]
  iintro ⟨#Hrec, Hop, ⟨H0, H1, H2, H3⟩, HO⟩ Hk
  iapply (wp_gemmPart xs ws c _ _ true) $$ [Hop]
  · iexact Hop
  iintro Hop
  iapply (wp_gemmPart xs ws c _ _ false) $$ [Hop]
  · iexact Hop
  iintro Hop
  iapply (wp_flowStep xs ws c 0 hs _ (part_lt xs ws c 0 hs).symm h0) $$ [H0 HO]
  · isplitr; · iexact Hrec
    isplitl [H0]; · iexact H0
    iexact HO
  iintro ⟨HO, H0⟩
  iapply (wp_flowStep xs ws c 1 hs _ (part_lt xs ws c 1 hs).symm h1) $$ [H1 HO]
  · isplitr; · iexact Hrec
    isplitl [H1]; · iexact H1
    iexact HO
  iintro ⟨HO, H1⟩
  iapply (wp_flowStep xs ws c 2 hs _ (part_lt xs ws c 2 hs).symm h2) $$ [H2 HO]
  · isplitr; · iexact Hrec
    isplitl [H2]; · iexact H2
    iexact HO
  iintro ⟨HO, H2⟩
  iapply (wp_flowStep xs ws c 3 hs _ (part_lt xs ws c 3 hs).symm h3) $$ [H3 HO]
  · isplitr; · iexact Hrec
    isplitl [H3]; · iexact H3
    iexact HO
  iintro ⟨HO, H3⟩
  iapply Hk
  isplitl [Hop]; · iexact Hop
  isplitr [HO]
  · isplitl [H0]; · iexact H0
    isplitl [H1]; · iexact H1
    isplitl [H2]; · iexact H2
    iexact H3
  iexact HO

/-- The last `n` steps. -/
theorem wp_steps (c : Dev nD) {B : CellTallies nD τ sig ℕ} (hB : Above 100 B) {k : BP F} {Q : PUnit → sProp 𝕄} : ∀ {n : ℕ}, n ≤ 15 →
    (iprop(Rec xs ws ∗ opnds xs ws c ∗ flows c (15 - n) ∗ owesE c (B + oS c (15 - n)))
      ⊢ iprop((opnds xs ws c ∗ flows c 15 ∗ owesE c (B + oS c 15) -∗ WP c k Q) -∗ WP c (steps stX c n k) Q))
  | 0, _ => by
    unfold steps
    iintro ⟨#Hrec, H⟩ Hk
    iapply Hk
    iexact H
  | n + 1, h => by
    have ih := wp_steps c hB (k := k) (Q := Q) (n := n) (by omega)
    unfold steps
    have e : 15 - (n + 1) = 14 - n := by omega
    have e' : 15 - n = 14 - n + 1 := by omega
    rw [e]
    rw [e'] at ih
    iintro ⟨#Hrec, H⟩ Hk
    iapply (wp_step xs ws c (show 14 - n < 15 by omega) hB) $$ [H]
    · isplitr; · iexact Hrec
      iexact H
    iintro H
    iapply ih $$ [H]
    · isplitr; · iexact Hrec
      iexact H
    iexact Hk

/-! ## The last sums -/

/-- A flow when the last sum is made: the slots in the device's own hands again, and the positions. -/
def flowEnd (c : Dev nD) (f : Fin 4) : sProp 𝕄 :=
  iprop(V c f 15 ∗ V c f 16
    ∗ (anyAt c (sbufS f (par 15)) ∗ atPos ER (sndC c f (par 15)) 7 ∅ 0)
    ∗ (anyAt c (sbufS f (par 16)) ∗ atPos ER (sndC c f (par 16)) 8 ∅ 0)
    ∗ CP c f 13)

theorem lastPart_eq (f : Fin 4) (g : FVec F S256x1024 .f32) (k : IVec S256x512 16 → BP F) : lastPart f g k =
    (Prog.op (.waitDma2 (rsem f (par 14)) (sbufS f (par 14)) (commS f (par 14)) (sbufS_words f _) (commS_words f _)) fun _ =>
     Prog.op (.load (comm f) (slotRect (par 14)).toLoadRect (View.loadsAt_vmem h_S1x256x512)) fun (w : Vec F S1x256x512 .i16) =>
     Prog.op (.waitDma2 (ssem f (par 15)) (commS f (par 15)) (sbufS f (par 15)) (commS_words f _) (sbufS_words f _)) fun _ =>
     Prog.op (.waitDma2 (ssem f (par 16)) (commS f (par 16)) (sbufS f (par 16)) (commS_words f _) (sbufS_words f _)) fun _ =>
     k (addi (shapeCast S256x512 w shapeCasts_S1x256x512_S256x512) (wireOf f g))) := rfl

theorem wp_lastPart (c : Dev nD) (f : Fin 4) (g : FVec F S256x1024 .f32) (hg : g = prodOwn xs ws c (toRight f))
    {O : CellTallies nD τ sig ℕ} (hO : Above 100 O) {k : IVec S256x512 16 → BP F} {Q : PUnit → sProp 𝕄} :
    iprop(Rec xs ws ∗ flowSt c f 15 ∗ owesE c O)
      ⊢ iprop((owesE c O ∗ flowEnd c f ∗ collF c f 15 -∗ WP c (k (accOf xs ws f c)) Q) -∗ WP c (lastPart f g k) Q) := by
  subst hg
  rw [lastPart_eq]
  unfold flowSt SD CR flowEnd
  iintro ⟨#Hrec, ⟨⟨HR, -⟩, HU, HU', ⟨HP, -⟩, -⟩, HO⟩ Hk
  iapply (recv_next xs ws c f (n := 14) (by omega) (O := O) (above_mono (by omega) hO)) $$ [HR HO]
  · isplitr; · iexact Hrec
    isplitl [HR]; · iexact HR
    iexact HO
  iintro %w ⟨%hw, HO, HV, HV', -, ⟨HC, -⟩, -⟩
  have e : addi (shapeCast S256x512 w shapeCasts_S1x256x512_S256x512) (wireOf f (prodOwn xs ws c (toRight f))) = accOf xs ws f c := by rw [hw]; rfl
  iapply (drain_core xs ws c f (n := 15) (by omega) (by omega) (O := O) (above_mono (by omega) hO)) $$ [HU HO]
  · isplitr; · iexact Hrec
    isplitl [HU]; · iexact HU
    iexact HO
  iintro ⟨HO, Ha, Hat, -⟩
  iapply (drain_core xs ws c f (n := 16) (by omega) (by omega) (O := O) (above_mono (by omega) hO)) $$ [HU' HO]
  · isplitr; · iexact Hrec
    isplitl [HU']; · iexact HU'
    iexact HO
  iintro ⟨HO, Ha', Hat', -⟩
  ihave Hk := (show iprop(owesE c O ∗ (V c f 15 ∗ V c f 16 ∗ (anyAt c (sbufS f (par 15)) ∗ atPos ER (sndC c f (par 15)) 7 ∅ 0)
        ∗ (anyAt c (sbufS f (par 16)) ∗ atPos ER (sndC c f (par 16)) 8 ∅ 0) ∗ CP c f 13) ∗ collF c f 15 -∗ WP c (k (accOf xs ws f c)) Q)
      ⊢ iprop(owesE c O ∗ (V c f 15 ∗ V c f 16 ∗ (anyAt c (sbufS f (par 15)) ∗ atPos ER (sndC c f (par 15)) 7 ∅ 0)
        ∗ (anyAt c (sbufS f (par 16)) ∗ atPos ER (sndC c f (par 16)) 8 ∅ 0) ∗ CP c f 13) ∗ collF c f 15 -∗ WP c (k (addi (shapeCast S256x512 w shapeCasts_S1x256x512_S256x512) (wireOf f (prodOwn xs ws c (toRight f))))) Q)
      from Entails.of_eq (by rw [e])) $$ Hk
  iapply Hk
  isplitl [HO]; · iexact HO
  isplitr [HC]
  · isplitl [HV]; · iexact HV
    isplitl [HV']; · iexact HV'
    isplitl [Ha Hat]
    · isplitl [Ha]; · iexact Ha
      iexact Hat
    isplitl [Ha' Hat']
    · isplitl [Ha']; · iexact Ha'
      iexact Hat'
    iexact HP
  iexact HC

end Cert.KernelIdeal.Ring
-- ==== Proof.Ring.Rows.lean ====
/- The rows of the array of the maxima: which elements they are, and how the array is their sum. -/
module

public import proofs.«01_k».proof.Proof.Ring.Run

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

/-- Resources that entail each other are equal. -/
theorem eq_of {P Q : sProp 𝕄} (h : P ⊢ Q) (h' : Q ⊢ P) : P = Q := Idealize.SL.BI.Entails.antisymm h h'

/-! ## Which elements -/

theorem off5_eq : ∀ d : Dev nD, k0_off5 d = ![d.val, 0] := by decide +kernel
theorem off4_eq : ∀ d : Dev nD, k0_off4 d = ![d.val, 0] := by decide +kernel
theorem off4_off5 (d : Dev nD) : k0_off4 d = k0_off5 d := (off4_eq d).trans (off5_eq d).symm

theorem mem_row (j : Dev nD) (i : S16x128.Idx) : i ∈ (amaxRow j).view.set ↔ (i (0 : Fin 2)).val = j.val := by
  rw [show (amaxRow j).view.set = (Rect.unit (s := S16x128) (k0_off5 j) S1x128.size (k0_off5_inb j)).set from View.set_slice_whole _ _, Rect.mem_set_unit]
  have e0 : k0_off5 j (0 : Fin 2) = j.val := congrFun (off5_eq j) 0
  have e1 : k0_off5 j (1 : Fin 2) = 0 := congrFun (off5_eq j) 1
  have h1 : (i (1 : Fin 2)).val < 128 := (i (1 : Fin 2)).isLt
  constructor
  · intro h
    have := h (0 : Fin 2)
    rw [e0] at this
    have s0 : S1x128.size (0 : Fin 2) = 1 := rfl
    omega
  · intro h a
    have s0 : S1x128.size (0 : Fin 2) = 1 := rfl
    have s1 : S1x128.size (1 : Fin 2) = 128 := rfl
    rcases (show a = (0 : Fin 2) ∨ a = (1 : Fin 2) by revert a; decide) with rfl | rfl
    · rw [e0, s0]; omega
    · rw [e1, s1]; omega

theorem rows_disjoint : ∀ j ∈ (Finset.univ : Finset (Dev nD)), ∀ j' ∈ (Finset.univ : Finset (Dev nD)), j ≠ j' →
    Disjoint (amaxRow j).view.set (amaxRow j').view.set := fun j _ j' _ h =>
  Finset.disjoint_left.mpr fun i hi hi' => h (Fin.ext (((mem_row j i).mp hi).symm.trans ((mem_row j' i).mp hi')))
theorem rows_union : (Finset.univ : Finset (Dev nD)).biUnion (fun j => (amaxRow j).view.set) = (Finset.univ : Finset S16x128.Idx) :=
  Finset.eq_univ_of_forall fun i => Finset.mem_biUnion.mpr ⟨(⟨(i (0 : Fin 2)).val, (i (0 : Fin 2)).isLt⟩ : Dev nD), Finset.mem_univ _, (mem_row _ i).mpr rfl⟩

/-- The array of the maxima is the sum of its rows. -/
theorem amax_rows (c : Dev nD) (q : PosShare TreeShare) (f : Buf (Elt F) ((c : Thread nD τ).loc cc0_scratch2)) :
    (((c : Thread nD τ).loc cc0_scratch2) ↦{q} f : sProp 𝕄)
      = bigSep Finset.univ fun j : Dev nD => ((amaxRow j).view.loc (c : Thread nD τ) ↦[(amaxRow j).view.set]{q} f) := by
  refine Eq.trans ?_ (pointsTo_biUnion (ℓ := (c : Thread nD τ).loc cc0_scratch2) (q := q) (f := f) (Finset.univ : Finset (Dev nD)) (fun j => (amaxRow j).view.set) rows_disjoint)
  exact congrArg (fun S => (((c : Thread nD τ).loc cc0_scratch2) ↦[S]{q} f : sProp 𝕄)) rows_union.symm

variable (xs : Dev nD → XC F) (ws : Dev nD → WC F)

/-- The store of a device's maxima fills its row of the array. -/
theorem store_row (c : Dev nD) (f : Buf (Elt F) ((c : Thread nD τ).loc cc0_scratch2)) (i : S16x128.Idx) (hi : i ∈ (amaxRow c).view.set) :
    (amaxRow c).view.write (Elt F) f (amaxVal xs ws c) Finset.univ i = amaxAll xs ws i := by
  obtain ⟨x, -, rfl⟩ := Finset.mem_map.mp hi
  refine View.eq_of_read_eq ?_
  rw [View.read_write_univ, View.read_apply]
  have e0 : k0_off5 c (0 : Fin 2) = c.val := congrFun (off5_eq c) 0
  have e1 : k0_off5 c (1 : Fin 2) = 0 := congrFun (off5_eq c) 1
  have h0 : (((amaxRow c).view.emb x : S16x128.Idx) (0 : Fin 2)).val = c.val := (mem_row c _).mp hi
  have h1 : (((amaxRow c).view.emb x : S16x128.Idx) (1 : Fin 2)).val = (x (1 : Fin 2)).val := by
    show k0_off5 c (1 : Fin 2) + 1 * (x (1 : Fin 2)).val = _
    rw [e1]; omega
  show amaxVal xs ws c x = amaxAll xs ws ((amaxRow c).view.emb x)
  unfold amaxAll
  congr 1
  · exact Fin.ext h0.symm
  · funext a
    rcases (show a = (0 : Fin 2) ∨ a = (1 : Fin 2) by revert a; decide) with rfl | rfl
    · exact Subsingleton.elim (α := Fin 1) _ _
    · exact Fin.ext h1.symm

/-- A copy of a row carries the row. -/
theorem copy_row (c : Dev nD) (fd g : Buf (Elt F) ((c : Thread nD τ).loc cc0_scratch2)) (i : S16x128.Idx) (hi : i ∈ (amaxRow c).view.set) :
    (amaxRow c).view.write (Elt F) fd ((amaxRow c).view.read (Elt F) g) Finset.univ i = g i := by
  rw [View.write_read_eq_piecewise]
  exact Finset.piecewise_eq_of_mem _ _ _ hi

/-! ## The shares -/

theorem rowPts_split (c j : Dev nD) (q : PosShare TreeShare) :
    (rowPts xs ws c j q : sProp 𝕄) = iprop(rowPts xs ws c j q.left ∗ rowPts xs ws c j q.right) := by
  unfold rowPts
  exact Idealize.SL.BI.Entails.antisymm (pointsTo_share (PosShare.mem_left_op_right q)).1 (pointsTo_share (PosShare.mem_left_op_right q)).2

/-- A row's full share is the shares of the first `n` copies and the rest. -/
theorem row_shares (c j : Dev nD) : ∀ n : ℕ,
    (rowPts xs ws c j fullShare : sProp 𝕄) = iprop((bigSep (Finset.range n) fun k => rowPts xs ws c j (shr k)) ∗ rowPts xs ws c j (rem n))
  | 0 => by
    rw [Finset.range_zero, bigSep_empty]
    refine eq_of ?_ ?_
    · iintro H
      isplitr; · iempintro
      iexact H
    · iintro ⟨-, H⟩; iexact H
  | n + 1 => by
    have h : (rowPts xs ws c j (rem n) : sProp 𝕄) = iprop(rowPts xs ws c j (shr n) ∗ rowPts xs ws c j (rem (n + 1))) := rowPts_split xs ws c j (rem n)
    rw [row_shares c j n, h, bigSep_range_succ]
    refine eq_of ?_ ?_
    · iintro ⟨H, H1, H2⟩
      isplitl [H H1]
      · isplitl [H1]; · iexact H1
        iexact H
      iexact H2
    · iintro ⟨⟨H1, H⟩, H2⟩
      isplitl [H]; · iexact H
      isplitl [H1]; · iexact H1
      iexact H2

/-! ## The ring of the rows -/

theorem peer_dist (c : Dev nD) {n : ℕ} (hn : n < 15) : peer c (dist n) = back c (n + 1) := by
  have h : ∀ (c : Dev nD) (n : Fin 15), peer c (dist n.val) = back c (n.val + 1) := by decide +kernel
  exact h c ⟨n, hn⟩
theorem back_dist (c : Dev nD) {n : ℕ} (hn : n < 15) : back (back c (n + 1)) (dist n).val = c := by
  unfold back dist; apply Fin.ext; have := c.isLt; simp only [nD] at this ⊢; omega
theorem dist_pos {n : ℕ} (hn : n < 15) : 1 ≤ (dist n).val := by unfold dist; simp only; omega
theorem dist_sub {n : ℕ} (hn : n < 15) : 15 - (dist n).val = n := by unfold dist; simp only; omega

/-- One resource a device, in the order of the copies, the own one last. -/
theorem bigSep_devs (c : Dev nD) (A : Dev nD → sProp 𝕄) :
    bigSep Finset.univ A = iprop(A c ∗ bigSep (Finset.range 15) fun k => A (back c (dist k).val)) := by
  have hu : (Finset.univ : Finset (Dev nD)) = insert c ((Finset.range 15).image fun k => back c (dist k).val) := by revert c; decide +kernel
  have hc : c ∉ (Finset.range 15).image fun k => back c (dist k).val := by clear hu; revert c; decide +kernel
  have hi : Set.InjOn (fun k => back c (dist k).val) (Finset.range 15 : Finset ℕ) := by
    intro a ha b hb h
    have ha' := Finset.mem_range.mp (Finset.mem_coe.mp ha); have hb' := Finset.mem_range.mp (Finset.mem_coe.mp hb)
    have h' := congrArg Fin.val h
    have := c.isLt
    unfold back dist at h'; simp only [nD] at this h'; omega
  rw [hu, bigSep_insert hc, bigSep_image_of_injOn hi]; rfl

end Cert.KernelIdeal.Ring
-- ==== Proof.Ring.Tail.lean ====
/- The exchange of the maxima, and the output. -/
module

public import proofs.«01_k».proof.Proof.Ring.Rows

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

/-! ## The copies of the own row -/

/-- The tokens of one copy of the own row. -/
def tokA (c : Dev nD) (k : ℕ) : sProp 𝕄 := iprop(dutyTok ER (asndC c (dist k)) 0 0 ∗ dutyTok ER (arcvC (peer c (dist k)) (dist k)) 0 0)

theorem asent_pay (c : Dev nD) {n : ℕ} (hn : n < 15) (fd : Buf (Elt F) ((amaxRow c).view.loc (peer c (dist n) : Thread nD τ))) :
    ((amaxRow c).view.loc (peer c (dist n) : Thread nD τ) ↦[(amaxRow c).view.set]{fullShare}
        ((amaxRow c).view.write (Elt F) fd ((amaxRow c).view.read (Elt F) (amaxAll xs ws)) Finset.univ) : sProp 𝕄)
      ⊢ (Rd xs ws).payload (arcvC (peer c (dist n)) (dist n)) 0 0 := by
  rw [pay_arcv]; unfold arcvPay rowPts
  rw [show back (peer c (dist n)) (dist n).val = c by rw [peer_dist c hn]; exact back_dist c hn]
  exact Entails.of_eq (pointsTo_congr fun i hi => copy_row c fd (amaxAll xs ws) i hi)

theorem wp_amaxSends (c : Dev nD) {k : BP F} {Q : PUnit → sProp 𝕄} : ∀ {n : ℕ}, n ≤ 15 →
    (iprop(Rec xs ws ∗ (bigSep (Finset.range n) fun k => rowPts xs ws c c (shr k)) ∗ coll c n ∗ (bigSep (Finset.range n) fun k => tokA c k) ∗ owesE c (oA c n))
      ⊢ iprop((owesE c 0 ∗ (bigSep (Finset.range n) fun k => cred (tallyAt (asndC c (dist k)) 0 NA)) -∗ WP c k Q) -∗ WP c (amaxSends c n k) Q))
  | 0, _ => by
    unfold amaxSends oA
    rw [Finset.range_zero, Finset.sum_empty, bigSep_empty]
    iintro ⟨-, -, -, -, HO⟩ Hk
    iapply Hk
    isplitl [HO]; · iexact HO
    rw [bigSep_empty]
    iempintro
  | n + 1, h => by
    have hn : n < 15 := by omega
    have ih := wp_amaxSends c (k := k) (Q := Q) (n := n) (by omega)
    have hs : (rowPts xs ws c c (shr n) : sProp 𝕄) ⊢ (Rd xs ws).payload (asndC c (dist n)) 0 0 := by
      rw [pay_asnd]; unfold asndPay; rw [dist_sub hn]
    have hO : oA c (n + 1) = oA c n + aT c n := Finset.sum_range_succ _ _
    unfold amaxSends
    rw [hO, bigSep_range_succ, bigSep_range_succ, bigSep_range_succ]
    unfold coll at ih ⊢
    rw [bigSep_range_succ, ← peer_dist c hn]
    unfold tokA owesE at ih ⊢
    iintro ⟨#Hrec, ⟨Hg, Hgs⟩, ⟨Hd, Hds⟩, ⟨⟨Ht1, Ht2⟩, Hts⟩, ⟨%W, HO⟩⟩ Hk
    ihave Hd := (show (anyAt (peer c (dist n)) (amaxRow c) : sProp 𝕄) ⊢ iprop(∃ fd, ((amaxRow c).view.loc (peer c (dist n) : Thread nD τ) ↦[(amaxRow c).view.set]{fullShare} fd)) from Entails.of_eq rfl) $$ Hd
    icases Hd with ⟨%fd, Hd⟩
    ihave Hi1 := (rec_asnd xs ws c (dist n)) $$ Hrec
    icases Hi1 with ⟨%κ₁, Hi1⟩
    ihave Hi2 := (rec_arcv xs ws (peer c (dist n)) (dist n)) $$ Hrec
    icases Hi2 with ⟨%κ₂, Hi2⟩
    iapply (Rounds.wp_send_pointsTo 𝒱₀ ER (Rd xs ws) (c : Thread nD τ) none (c' := (peer c (dist n) : Thread nD τ)) (src := amaxRow c) (dst := amaxRow c)
        (sS := SemLoc.dma (asem (dist n))) (sem := SemLoc.dma (arsem (dist n))) (κ₁ := κ₁) (κ₂ := κ₂) (r₁ := 0) (r₂ := 0) (d₁ := 0) (d₂ := 0)
        (q := shr n) (fs := amaxAll xs ws) (fd := fd)
        (by rw [duties_asnd xs ws c (dist_pos hn)]; exact Finset.mem_singleton_self _) (by rw [duties_arcv xs ws _ (dist_pos hn)]; exact Finset.mem_singleton_self _)
        100 0 NA (row_credit c) (amount_asnd xs ws c _ _ _) (amount_arcv xs ws _ _ _ _) (O₀ := oA c n + aT c n) (oA c n) rfl (W := W)
        hs (asent_pay xs ws c hn fd)) $$ [Hi1 Hi2 Hg Hd HO Ht1 Ht2]
    · isplitl [Hi1]; · iexact Hi1
      isplitl [Hi2]; · iexact Hi2
      isplitl [Hg]; · iapply (show (rowPts xs ws c c (shr n) : sProp 𝕄) ⊢ ((amaxRow c).view.loc (c : Thread nD τ) ↦[(amaxRow c).view.set]{shr n} amaxAll xs ws) from .rfl); iexact Hg
      isplitl [Hd]; · iexact Hd
      isplitl [HO]; · iexact HO
      isplitl [Ht1]; · iexact Ht1
      isplitr; · iapply (rec_asnd0 xs ws c (dist n)); iexact Hrec
      isplitl [Ht2]; · iexact Ht2
      iapply (rec_arcv0 xs ws (peer c (dist n)) (dist n)); iexact Hrec
    iintro ⟨Hc, HO⟩
    iapply ih $$ [Hgs Hds Hts HO]
    · isplitr; · iexact Hrec
      isplitl [Hgs]; · iexact Hgs
      isplitl [Hds]; · iexact Hds
      isplitl [Hts]; · iexact Hts
      iexists _; iexact HO
    iintro ⟨HO, Hcs⟩
    iapply Hk
    isplitl [HO]; · iexact HO
    isplitl [Hc]; · iexact Hc
    iexact Hcs

/-! ## The waits -/

theorem wp_amaxWaits (c : Dev nD) (sem : Fin 16 → DmaSem sig) (i : ℕ) (P : ℕ → sProp 𝕄)
    (hinv : ∀ o, Rec xs ws ⊢ invE xs ws ((c : Thread nD τ), SemLoc.dma (sem o))) (hi : i < 200)
    (hd : ∀ o : Fin 16, 1 ≤ o.val → (Rd xs ws).duties ((c : Thread nD τ), SemLoc.dma (sem o)) 0 = {0})
    (hx : ∀ o : Fin 16, 1 ≤ o.val → (Rd xs ws).expect ((c : Thread nD τ), SemLoc.dma (sem o)) 0 = NA)
    (hp : ∀ k < 15, (Rd xs ws).payload ((c : Thread nD τ), SemLoc.dma (sem (dist k))) 0 0 ⊢ P k)
    {k : BP F} {Q : PUnit → sProp 𝕄} : ∀ {n : ℕ}, n ≤ 15 →
    (iprop(Rec xs ws ∗ (bigSep (Finset.range n) fun k => cred (tallyAt ((c : Thread nD τ), SemLoc.dma (sem (dist k))) i NA))
        ∗ (bigSep (Finset.range n) fun k => atPos ER ((c : Thread nD τ), SemLoc.dma (sem (dist k))) 0 ∅ 0) ∗ owesE c 0)
      ⊢ iprop((owesE c 0 ∗ (bigSep (Finset.range n) fun k => atPos ER ((c : Thread nD τ), SemLoc.dma (sem (dist k))) 1 ∅ 0) ∗ (bigSep (Finset.range n) P) -∗ WP c k Q)
          -∗ WP c (amaxWaits c sem n k) Q))
  | 0, _ => by
    unfold amaxWaits
    rw [Finset.range_zero, bigSep_empty, bigSep_empty, bigSep_empty, bigSep_empty]
    iintro ⟨-, -, -, HO⟩ Hk
    iapply Hk
    isplitl [HO]; · iexact HO
    isplitr <;> iempintro
  | n + 1, h => by
    have hn : n < 15 := by omega
    have ih := wp_amaxWaits c sem i P hinv hi hd hx hp (k := k) (Q := Q) (n := n) (by omega)
    unfold amaxWaits
    rw [bigSep_range_succ, bigSep_range_succ, bigSep_range_succ, bigSep_range_succ]
    iintro ⟨#Hrec, ⟨Hc, Hcs⟩, ⟨Hat, Hats⟩, HO⟩ Hk
    iapply (wp_waitOne xs ws c (k'' := NA) (row_credit c) (wpE_waitDma2_eq 𝒱₀ (c : Thread nD τ) none Set.univ) i (O := 0) (R := 0)
      (hd (dist n) (dist_pos hn)) (hx (dist n) (dist_pos hn))) $$ [Hat Hc HO]
    · isplitr; · iapply (hinv (dist n)); iexact Hrec
      isplitl [Hc]; · iexact Hc
      isplitl [HO]; · iexact HO
      isplitr; · iapply (rec_mayWait xs ws (above_zero 200) hi hi); iexact Hrec
      iexact Hat
    iintro ⟨HO, Hat, -, Hp⟩
    ihave Hp := (hp n hn) $$ Hp
    iapply ih $$ [Hcs Hats HO]
    · isplitr; · iexact Hrec
      isplitl [Hcs]; · iexact Hcs
      isplitl [Hats]; · iexact Hats
      iexact HO
    iintro ⟨HO, Hats, Hps⟩
    iapply Hk
    isplitl [HO]; · iexact HO
    isplitl [Hat Hats]
    · isplitl [Hat]; · iexact Hat
      iexact Hats
    isplitl [Hp]; · iexact Hp
    iexact Hps

/-! ## The output -/

theorem wp_outPart (c : Dev nD) (o : ℕ) (ho : ∀ a, (![0, o] : Fin 2 → ℕ) a + S256x512.size a ≤ S256x2048.size a) (v : FVec F S256x512 .f32)
    (f : (cc0_stg2_0 : Ref sig .tc).ty.Contents (Elt F)) {k : BP F} {Q : PUnit → sProp 𝕄} :
    (((c : Thread nD τ).loc cc0_stg2_0) ↦{fullShare} f)
      ⊢ iprop(((((c : Thread nD τ).loc cc0_stg2_0) ↦{fullShare}
          ((Memref.whole cc0_stg2_0).access (Rect.unit (s := S256x2048) ![0, o] S256x512.size ho)).write (Elt F) f v Finset.univ) -∗ WP c k Q)
        -∗ WP c (outPart stO o ho v k) Q) := by
  unfold outPart
  iintro H Hk
  iapply (wp_load 𝒱₀ (c : Thread nD τ) none Set.univ (m := stO) (S := Finset.univ) (f := f) (Finset.subset_univ _)) $$ [H]
  · iexact H
  iintro H
  iapply (wp_store 𝒱₀ (c : Thread nD τ) none Set.univ (m := stO) (r := Rect.unit (s := S256x2048) ![0, o] S256x512.size ho) (S := Finset.univ) (Mk := Finset.univ) (f := f) (Finset.subset_univ _)) $$ [H]
  · iexact H
  iintro H
  iapply Hk
  iexact H

/-! ## The tail -/

/-- What the tail starts from besides the output. -/
def tailIn (c : Dev nD) : sProp 𝕄 :=
  iprop((bigSep (Finset.range 15) fun k => tokA c k)
    ∗ ((bigSep (Finset.range 15) fun k => atPos ER (asndC c (dist k)) 0 ∅ 0) ∗ (bigSep (Finset.range 15) fun k => atPos ER (arcvC c (dist k)) 0 ∅ 0))
    ∗ (bigSep (Finset.range 15) fun k => cred (tallyAt (arcvC c (dist k)) 100 NA)))
/-- What the tail ends with besides the output. -/
def tailOut (c : Dev nD) : sProp 𝕄 :=
  iprop((((c : Thread nD τ).loc cc0_scratch2) ↦{fullShare} amaxAll xs ws)
    ∗ (bigSep (Finset.range 15) fun k => atPos ER (asndC c (dist k)) 1 ∅ 0) ∗ (bigSep (Finset.range 15) fun k => atPos ER (arcvC c (dist k)) 1 ∅ 0))

theorem row_any (c : Dev nD) : (anyAt c (amaxRow c) : sProp 𝕄) ⊢ iprop(∃ fd, ((amaxRow c).view.loc (c : Thread nD τ) ↦[(amaxRow c).view.set]{fullShare} fd)) := Entails.of_eq rfl

theorem write_off (c : Dev nD) (off : Fin 2 → ℕ) (hoff : ∀ a, off a + S1x128.size a ≤ S16x128.size a) (e : off = k0_off5 c)
    (g : (cc0_scratch2 : Ref sig .tc).ty.Contents (Elt F)) (v : FVec F S1x128 .f32) :
    (amax.access (Rect.unit (s := S16x128) off S1x128.size hoff)).write (Elt F) g v Finset.univ = (amaxRow c).view.write (Elt F) g v Finset.univ := by
  subst e; rfl
theorem set_off (c : Dev nD) (off : Fin 2 → ℕ) (hoff : ∀ a, off a + S1x128.size a ≤ S16x128.size a) (e : off = k0_off5 c) :
    (amax.access (Rect.unit (s := S16x128) off S1x128.size hoff)).set = (amaxRow c).view.set := by
  subst e; rfl

theorem row_stored (c : Dev nD) (g : Buf (Elt F) ((c : Thread nD τ).loc cc0_scratch2)) :
    ((amax.access (Rect.unit (s := S16x128) (k0_off4 c) S1x128.size (k0_off4_inb c))).loc (c : Thread nD τ) ↦[(amaxRow c).view.set]{fullShare}
        (amax.access (Rect.unit (s := S16x128) (k0_off4 c) S1x128.size (k0_off4_inb c))).write (Elt F) g
          (k0_pay188 (F := F) (accOf xs ws 0 c) (accOf xs ws 1 c) (accOf xs ws 2 c) (accOf xs ws 3 c)) Finset.univ : sProp 𝕄)
      ⊢ iprop((bigSep (Finset.range 15) fun k => rowPts xs ws c c (shr k)) ∗ rowPts xs ws c c (rem 15)) := by
  rw [← row_shares]; unfold rowPts
  exact Entails.of_eq (pointsTo_congr fun i hi => (congrFun (write_off c _ _ (off4_off5 c) g _) i).trans (store_row xs ws c g i hi))

theorem rows_joined (c : Dev nD) :
    iprop(rowPts xs ws c c fullShare ∗ bigSep (Finset.range 15) fun k => rowPts xs ws c (back c (dist k).val) fullShare)
      ⊢ (((c : Thread nD τ).loc cc0_scratch2) ↦{fullShare} amaxAll xs ws : sProp 𝕄) := by
  rw [amax_rows, bigSep_devs c]; unfold rowPts
  exact .rfl

theorem wp_tailPart (c : Dev nD) (f : (cc0_stg2_0 : Ref sig .tc).ty.Contents (Elt F)) {Q : PUnit → sProp 𝕄} :
    iprop(Rec xs ws ∗ anyAt c (amaxRow c) ∗ coll c 15 ∗ tailIn c ∗ owesE c (oA c 15) ∗ (((c : Thread nD τ).loc cc0_stg2_0) ↦{fullShare} f))
      ⊢ iprop((owesE c 0 ∗ tailOut xs ws c ∗ (((c : Thread nD τ).loc cc0_stg2_0) ↦{fullShare} outAll xs ws c f) -∗ WP c (.ret ⟨⟩) Q)
          -∗ WP c (tailPart stO c (accOf xs ws 0 c) (accOf xs ws 1 c) (accOf xs ws 2 c) (accOf xs ws 3 c)) Q) := by
  have hset : ∀ c : Dev nD, amax.view.setOn (Rect.unit (s := S16x128) (k0_off4 c) S1x128.size (k0_off4_inb c)).toLoadRect.set ⊆ (amaxRow c).view.set := by
    intro c
    rw [← set_off c _ (k0_off4_inb c) (off4_off5 c), View.set_slice]; exact subset_rfl
  unfold tailPart tailIn tailOut
  iintro ⟨#Hrec, Hr, Hcoll, ⟨Htok, ⟨Hat, Hat'⟩, Hcr⟩, HO, Hout⟩ Hk
  ihave Hr := (row_any c) $$ Hr
  icases Hr with ⟨%g, Hr⟩
  iapply (wp_load 𝒱₀ (c : Thread nD τ) none Set.univ (m := amax) (S := (amaxRow c).view.set) (f := g) (hset c)) $$ [Hr]
  · iexact Hr
  iintro Hr
  iapply (wp_store 𝒱₀ (c : Thread nD τ) none Set.univ (m := amax) (r := Rect.unit (s := S16x128) (k0_off4 c) S1x128.size (k0_off4_inb c)) (S := (amaxRow c).view.set) (Mk := Finset.univ) (f := g)
    (show _ ⊆ (amaxRow c).view.set from (set_off c _ (k0_off4_inb c) (off4_off5 c)).subset)) $$ [Hr]
  · iexact Hr
  iintro Hr
  ihave Hr := (row_stored xs ws c g) $$ Hr
  icases Hr with ⟨Hgs, Hrem⟩
  iapply (wp_amaxSends xs ws c (n := 15) le_rfl) $$ [Hgs Hcoll Htok HO]
  · isplitr; · iexact Hrec
    isplitl [Hgs]; · iexact Hgs
    isplitl [Hcoll]; · iexact Hcoll
    isplitl [Htok]; · iexact Htok
    iexact HO
  iintro ⟨HO, Hcs⟩
  iapply (wp_amaxWaits xs ws c asem 0 (fun k => rowPts xs ws c c (shr k)) (rec_asnd xs ws c) (by decide) (fun o ho => duties_asnd xs ws c ho) (fun o ho => expect_asnd xs ws c ho)
    (fun k hk => by rw [pay_asnd]; unfold asndPay; rw [dist_sub hk]) (n := 15) le_rfl) $$ [Hcs Hat HO]
  · isplitr; · iexact Hrec
    isplitl [Hcs]; · iexact Hcs
    isplitl [Hat]; · iexact Hat
    iexact HO
  iintro ⟨HO, Hat, Hgs⟩
  ihave Hr := (Entails.of_eq (row_shares xs ws c c 15).symm) $$ [Hgs Hrem]
  · isplitl [Hgs]; · iexact Hgs
    iexact Hrem
  iapply (wp_amaxWaits xs ws c arsem 100 (fun k => rowPts xs ws c (back c (dist k).val) fullShare) (rec_arcv xs ws c) (by decide) (fun o ho => duties_arcv xs ws c ho) (fun o ho => expect_arcv xs ws c ho)
    (fun k hk => by rw [pay_arcv]; unfold arcvPay; exact .rfl) (n := 15) le_rfl) $$ [Hcr Hat' HO]
  · isplitr; · iexact Hrec
    isplitl [Hcr]; · iexact Hcr
    isplitl [Hat']; · iexact Hat'
    iexact HO
  iintro ⟨HO, Hat', Hrs⟩
  ihave Hall := (rows_joined xs ws c) $$ [Hr Hrs]
  · isplitl [Hr]; · iexact Hr
    iexact Hrs
  iapply (wp_load 𝒱₀ (c : Thread nD τ) none Set.univ (m := amax) (S := Finset.univ) (f := amaxAll xs ws) (Finset.subset_univ _)) $$ [Hall]
  · iexact Hall
  have hz : (![0, 0] : Fin 2 → ℕ) = fun _ => 0 := by decide
  rw [show amax.view.readAt (Elt F) (Rect.unit (s := S16x128) ![0, 0] S16x128.size inb_S16x128_S16x128_0_0).toLoadRect (amaxAll xs ws) = amaxAll xs ws from
    Memref.readAt_unit_zero (Elt F) cc0_scratch2 hz _ _]
  iintro Hall
  iapply (wp_outPart c 0 inb_S256x2048_S256x512_0_0 (outOf (accOf xs ws 0 c) (amaxAll xs ws)) f) $$ [Hout]
  · iexact Hout
  iintro Hout
  iapply (wp_outPart c 1024 inb_S256x2048_S256x512_0_1024 (outOf (accOf xs ws 1 c) (amaxAll xs ws)) _) $$ [Hout]
  · iexact Hout
  iintro Hout
  iapply (wp_outPart c 512 inb_S256x2048_S256x512_0_512 (outOf (accOf xs ws 2 c) (amaxAll xs ws)) _) $$ [Hout]
  · iexact Hout
  iintro Hout
  iapply (wp_outPart c 1536 inb_S256x2048_S256x512_0_1536 (outOf (accOf xs ws 3 c) (amaxAll xs ws)) _) $$ [Hout]
  · iexact Hout
  iintro Hout
  iapply Hk
  isplitl [HO]; · iexact HO
  isplitr [Hout]
  · isplitl [Hall]; · iexact Hall
    isplitl [Hat]; · iexact Hat
    iexact Hat'
  iexact Hout

end Cert.KernelIdeal.Ring
-- ==== Proof.Ring.Entry.lean ====
/- The entry: the slots and rows that a device starts from, the barrier, and the split of the weights. -/
module

public import proofs.«01_k».proof.Proof.Ring.Tail

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

/-! ## A buffer of two slots -/

theorem slotRect_disjoint : Disjoint (slotRect 0).set (slotRect 1).set := by
  refine Finset.disjoint_left.mpr fun i h h' => ?_
  have a := ((Rect.mem_set_unit).mp h (0 : Fin 3)).2
  have b := ((Rect.mem_set_unit).mp h' (0 : Fin 3)).1
  have e0 : (![(0 : Fin 2).val, 0, 0] : Fin 3 → ℕ) (0 : Fin 3) = 0 := rfl
  have e1 : (![(1 : Fin 2).val, 0, 0] : Fin 3 → ℕ) (0 : Fin 3) = 1 := rfl
  have s0 : S1x256x512.size (0 : Fin 3) = 1 := rfl
  rw [e0, s0] at a; rw [e1] at b; omega
theorem slotRect_union : (slotRect 0).set ∪ (slotRect 1).set = (Finset.univ : Finset S2x256x512.Idx) := by
  refine Finset.eq_univ_of_forall fun i => ?_
  have h0 : (i (0 : Fin 3)).val < 2 := (i (0 : Fin 3)).isLt
  have h1 : (i (1 : Fin 3)).val < 256 := (i (1 : Fin 3)).isLt
  have h2 : (i (2 : Fin 3)).val < 512 := (i (2 : Fin 3)).isLt
  have s0 : S1x256x512.size (0 : Fin 3) = 1 := rfl
  have s1 : S1x256x512.size (1 : Fin 3) = 256 := rfl
  have s2 : S1x256x512.size (2 : Fin 3) = 512 := rfl
  have key (p : Fin 2) (hp : (i (0 : Fin 3)).val = p.val) : i ∈ (slotRect p).set := by
    refine (Rect.mem_set_unit).mpr fun a => ?_
    have e0 : (![p.val, 0, 0] : Fin 3 → ℕ) (0 : Fin 3) = p.val := rfl
    have e1 : (![p.val, 0, 0] : Fin 3 → ℕ) (1 : Fin 3) = 0 := rfl
    have e2 : (![p.val, 0, 0] : Fin 3 → ℕ) (2 : Fin 3) = 0 := rfl
    rcases (show a = (0 : Fin 3) ∨ a = (1 : Fin 3) ∨ a = (2 : Fin 3) by revert a; decide) with rfl | rfl | rfl
    · rw [e0, s0]; omega
    · rw [e1, s1]; omega
    · rw [e2, s2]; omega
  rcases (show (i (0 : Fin 3)).val = 0 ∨ (i (0 : Fin 3)).val = 1 by omega) with h | h
  · exact Finset.mem_union_left _ (key 0 h)
  · exact Finset.mem_union_right _ (key 1 h)

/-- One slot of a buffer of two. -/
abbrev slotOf (m : Memref sig .tc .vmem S2x256x512 .i16) (p : Fin 2) : Memref sig .tc .vmem S256x512 .i16 :=
  (m.slice (slotRect p) (fun _ => rfl)).squeeze S256x512 squeezes_S1x256x512_S256x512

theorem slotOf_set (m : Memref sig .tc .vmem S2x256x512 .i16) (p : Fin 2) : (slotOf m p).view.set = m.view.setOn (slotRect p).set :=
  (View.set_reshape _ _).trans (View.set_slice _ _)
theorem slots_disjoint (m : Memref sig .tc .vmem S2x256x512 .i16) : Disjoint (slotOf m 0).view.set (slotOf m 1).view.set := by
  rw [slotOf_set, slotOf_set]
  exact (Finset.disjoint_map _).mpr slotRect_disjoint
theorem slots_union (m : Memref sig .tc .vmem S2x256x512 .i16) : (slotOf m 0).view.set ∪ (slotOf m 1).view.set = m.view.set := by
  rw [slotOf_set, slotOf_set]
  show (slotRect 0).set.map _ ∪ (slotRect 1).set.map _ = Finset.univ.map _
  rw [← Finset.map_union, slotRect_union]

/-- A buffer of two slots is its slots. -/
theorem slots_split (c : Dev nD) (m : Memref sig .tc .vmem S2x256x512 .i16) :
    (anyAt c m : sProp 𝕄) = iprop(anyAt c (slotOf m 0) ∗ anyAt c (slotOf m 1)) := by
  refine eq_of ?_ ?_
  · show slot (m.view.loc (c : Thread nD τ)) m.view.set ⊢ iprop(slot (m.view.loc (c : Thread nD τ)) (slotOf m 0).view.set ∗ slot (m.view.loc (c : Thread nD τ)) (slotOf m 1).view.set)
    unfold slot
    iintro ⟨%f, H⟩
    ihave H := (show (m.view.loc (c : Thread nD τ) ↦[m.view.set]{fullShare} f : sProp 𝕄)
        ⊢ iprop((m.view.loc (c : Thread nD τ) ↦[(slotOf m 0).view.set]{fullShare} f) ∗ (m.view.loc (c : Thread nD τ) ↦[(slotOf m 1).view.set]{fullShare} f))
      from (Entails.of_eq (congrArg (fun S => (m.view.loc (c : Thread nD τ) ↦[S]{fullShare} f : sProp 𝕄)) (slots_union m).symm)).trans (pointsTo_union (slots_disjoint m)).1) $$ H
    icases H with ⟨H0, H1⟩
    isplitl [H0]
    · iexists f; iexact H0
    iexists f; iexact H1
  · show iprop(slot (m.view.loc (c : Thread nD τ)) (slotOf m 0).view.set ∗ slot (m.view.loc (c : Thread nD τ)) (slotOf m 1).view.set) ⊢ slot (m.view.loc (c : Thread nD τ)) m.view.set
    unfold slot
    iintro ⟨⟨%f, H0⟩, ⟨%g, H1⟩⟩
    iexists ((slotOf m 1).view.set.piecewise g f)
    iapply (show iprop((m.view.loc (c : Thread nD τ) ↦[(slotOf m 0).view.set]{fullShare} f) ∗ (m.view.loc (c : Thread nD τ) ↦[(slotOf m 1).view.set]{fullShare} g))
        ⊢ (m.view.loc (c : Thread nD τ) ↦[m.view.set]{fullShare} ((slotOf m 1).view.set.piecewise g f) : sProp 𝕄)
      from (pointsTo_join (slots_disjoint m)).trans (Entails.of_eq (congrArg (fun S => (m.view.loc (c : Thread nD τ) ↦[S]{fullShare} ((slotOf m 1).view.set.piecewise g f) : sProp 𝕄)) (slots_union m))))
    isplitl [H0]; · iexact H0
    iexact H1

/-- A whole buffer at any contents, as the launch holds it. -/
theorem comm_any (c : Dev nD) : ∀ f : Fin 4, (anyAt c (comm f) : sProp 𝕄) = iprop(∃ g : Buf (Elt F) ((c : Thread nD τ).loc ((comm f).view.ref)), ((c : Thread nD τ).loc ((comm f).view.ref)) ↦{fullShare} g) := fun
  | 0 => by show slot _ _ = _; unfold slot; rw [show (comm 0).view.set = Finset.univ from View.set_whole _]
  | 1 => by show slot _ _ = _; unfold slot; rw [show (comm 1).view.set = Finset.univ from View.set_whole _]
  | 2 => by show slot _ _ = _; unfold slot; rw [show (comm 2).view.set = Finset.univ from View.set_whole _]
  | 3 => by show slot _ _ = _; unfold slot; rw [show (comm 3).view.set = Finset.univ from View.set_whole _]
theorem sbuf_any (c : Dev nD) : ∀ f : Fin 4, (anyAt c (sbuf f) : sProp 𝕄) = iprop(∃ g : Buf (Elt F) ((c : Thread nD τ).loc ((sbuf f).view.ref)), ((c : Thread nD τ).loc ((sbuf f).view.ref)) ↦{fullShare} g) := fun
  | 0 => by show slot _ _ = _; unfold slot; rw [show (sbuf 0).view.set = Finset.univ from View.set_whole _]
  | 1 => by show slot _ _ = _; unfold slot; rw [show (sbuf 1).view.set = Finset.univ from View.set_whole _]
  | 2 => by show slot _ _ = _; unfold slot; rw [show (sbuf 2).view.set = Finset.univ from View.set_whole _]
  | 3 => by show slot _ _ = _; unfold slot; rw [show (sbuf 3).view.set = Finset.univ from View.set_whole _]

theorem comm_slots (c : Dev nD) (f : Fin 4) : (anyAt c (comm f) : sProp 𝕄) = iprop(anyAt c (commS f 0) ∗ anyAt c (commS f 1)) := slots_split c (comm f)
theorem sbuf_slots (c : Dev nD) (f : Fin 4) : (anyAt c (sbuf f) : sProp 𝕄) = iprop(anyAt c (sbufS f 0) ∗ anyAt c (sbufS f 1)) := slots_split c (sbuf f)

/-! ## The rows that leave -/

theorem back_dist_fwd (c : Dev nD) {k : ℕ} (hk : k < 15) : back c (dist k).val = fwd c (k + 1) := by
  unfold back dist fwd; apply Fin.ext; have := c.isLt; simp only [nD] at this ⊢; omega
theorem back_right_one (c : Dev nD) : back (right c) 1 = c := by
  rw [show (1 : ℕ) = 0 + 1 from rfl, back_right]; unfold back; apply Fin.ext; have := c.isLt; simp only [nD] at this ⊢; omega

/-- The array of the maxima is the own row and the rows that leave with the first message. -/
theorem amax_entry (c : Dev nD) (f : Buf (Elt F) ((c : Thread nD τ).loc cc0_scratch2)) :
    (((c : Thread nD τ).loc cc0_scratch2) ↦{fullShare} f : sProp 𝕄) ⊢ iprop(anyAt c (amaxRow c) ∗ bund (right c) 0) := by
  have h : (bund (right c) 0 : sProp 𝕄) = bigSep (Finset.range 15) fun k => anyAt c (amaxRow (back c (dist k).val)) := by
    unfold bund
    refine bigSep_congr fun k hk => ?_
    rw [back_right_one, fwd_right, back_dist_fwd c (Finset.mem_range.mp hk)]
  rw [h, amax_rows, bigSep_devs c]
  iintro ⟨H, Hs⟩
  isplitl [H]; · iapply anyAt_intro; iexact H
  iapply (show (bigSep (Finset.range 15) fun k => ((amaxRow (back c (dist k).val)).view.loc (c : Thread nD τ) ↦[(amaxRow (back c (dist k).val)).view.set]{fullShare} f) : sProp 𝕄)
    ⊢ bigSep (Finset.range 15) fun k => anyAt c (amaxRow (back c (dist k).val)) from bigSep_mono fun k _ => anyAt_intro c (amaxRow (back c (dist k).val)) f)
  iexact Hs

variable (xs : Dev nD → XC F) (ws : Dev nD → WC F)

/-! ## The release of the landing slots -/

/-- Readiness for the first two messages. -/
def readyF (c : Dev nD) (f : Fin 4) : sProp 𝕄 := iprop(ready c f 0 ∗ ready c f 1)
instance readyF_persistent (c : Dev nD) (f : Fin 4) : BI.Persistent (readyF (F := F) c f) := by unfold readyF; infer_instance

theorem deposit_one (c : Dev nD) (f : Fin 4) {n : ℕ} (hn : n < 2) :
    iprop(Rec xs ws ∗ anyAt c (commS f (par n)) ∗ readerAt ES ((c, f, par n) : SK) 0 ∗ atPos ER (rcvC c f (par n)) 0 ∅ 0)
      ⊢ (|={Set.univ}=> (V c f n ∗ ready c f n) : sProp 𝕄) := by
  rw [V_lo c f (show n ≤ 14 by omega)]; unfold ready
  rw [show n / 2 = 0 by omega]
  iintro ⟨#Hrec, Ha, Hrd, Hat⟩
  ihave Hs := (rec_slot xs ws (c, f, par n)) $$ Hrec
  icases Hs with ⟨%ι, Hs⟩
  imod (slot_release ES (Set.mem_univ ι) (anyAt_twice c f (par n)) 0) $$ [Hs Hrd Ha] with ⟨Hrd, #Hrel⟩
  · isplitl [Hs]; · iexact Hs
    isplitl [Hrd]; · iexact Hrd
    iexact Ha
  imodintro
  isplitl [Hat Hrd]
  · isplitl [Hat]; · iexact Hat
    iexact Hrd
  isplitr; · iexact Hrel
  iapply (rec_rcv0 xs ws c f (par n)); iexact Hrec

/-- What a device starts a flow from. -/
def flowIn (c : Dev nD) (f : Fin 4) : sProp 𝕄 :=
  iprop((readerAt ES ((c, f, 0) : SK) 0 ∗ readerAt ES ((c, f, 1) : SK) 0)
    ∗ atPos ER (crdC c f) 0 ∅ 0
    ∗ (atPos ER (sndC c f 0) 0 ∅ 0 ∗ atPos ER (sndC c f 1) 0 ∅ 0)
    ∗ (atPos ER (rcvC c f 0) 0 ∅ 0 ∗ atPos ER (rcvC c f 1) 0 ∅ 0)
    ∗ (bigSep (Finset.Ico 0 13) fun r => dutyTok ER (crdC (src c f) f) 0 r)
    ∗ bigSep (Finset.Ico 0 15) (tok3 c f)
    ∗ (bigSep (Finset.Ico 0 15) fun j => cred (tallyAt (rcvC c f (par j)) (2 * j + 2) NB))
    ∗ (bigSep (Finset.Ico 0 13) fun r => cred (tallyAt (crdC c f) (2 * r + 3) 1)))
/-- The same with the landing slots released. -/
def flowMid (c : Dev nD) (f : Fin 4) : sProp 𝕄 :=
  iprop((V c f 0 ∗ V c f 1)
    ∗ atPos ER (crdC c f) 0 ∅ 0
    ∗ (atPos ER (sndC c f 0) 0 ∅ 0 ∗ atPos ER (sndC c f 1) 0 ∅ 0)
    ∗ (bigSep (Finset.Ico 0 13) fun r => dutyTok ER (crdC (src c f) f) 0 r)
    ∗ bigSep (Finset.Ico 0 15) (tok3 c f)
    ∗ (bigSep (Finset.Ico 0 15) fun j => cred (tallyAt (rcvC c f (par j)) (2 * j + 2) NB))
    ∗ (bigSep (Finset.Ico 0 13) fun r => cred (tallyAt (crdC c f) (2 * r + 3) 1)))

theorem deposit (c : Dev nD) (f : Fin 4) :
    iprop(Rec xs ws ∗ anyAt c (comm f) ∗ flowIn c f) ⊢ (|={Set.univ}=> (flowMid c f ∗ readyF c f) : sProp 𝕄) := by
  unfold flowIn flowMid readyF
  rw [comm_slots]
  iintro ⟨#Hrec, ⟨Ha0, Ha1⟩, ⟨Hr0, Hr1⟩, Hcrd, Hsnd, ⟨Hp0, Hp1⟩, Hrest⟩
  imod (deposit_one xs ws c f (n := 0) (by omega)) $$ [Ha0 Hr0 Hp0] with ⟨HV0, #HR0⟩
  · isplitr; · iexact Hrec
    isplitl [Ha0]; · iexact Ha0
    isplitl [Hr0]; · iexact Hr0
    iexact Hp0
  imod (deposit_one xs ws c f (n := 1) (by omega)) $$ [Ha1 Hr1 Hp1] with ⟨HV1, #HR1⟩
  · isplitr; · iexact Hrec
    isplitl [Ha1]; · iexact Ha1
    isplitl [Hr1]; · iexact Hr1
    iexact Hp1
  imodintro
  isplitr []
  · isplitl [HV0 HV1]
    · isplitl [HV0]; · iexact HV0
      iexact HV1
    isplitl [Hcrd]; · iexact Hcrd
    isplitl [Hsnd]; · iexact Hsnd
    iexact Hrest
  isplitr; · iexact HR0
  iexact HR1

/-- A flow before its first step. -/
theorem flow_start (c : Dev nD) (f : Fin 4) :
    iprop(flowMid c f ∗ readyF (dst c f) f ∗ anyAt c (sbuf f) ∗ bundF (dst c f) f 0) ⊢ (flowSt c f 0 : sProp 𝕄) := by
  unfold flowMid readyF flowSt SD RV bund0 CR CP U acc
  rw [sbuf_slots, if_pos rfl, if_pos (show 0 < 2 by omega), if_pos (show 0 + 1 < 2 by omega)]
  have hc : collF (F := F) c f 0 = iprop(emp) := by
    unfold collF coll; split
    · rw [Finset.range_zero, bigSep_empty]; rfl
    · rfl
  rw [hc, show min (0 - 1) 13 = 0 from rfl, Finset.range_zero, bigSep_empty]
  iintro ⟨⟨⟨HV0, HV1⟩, Hcrd, ⟨Hs0, Hs1⟩, Htc, Ht3, Hcr, Hcc⟩, ⟨HR0, HR1⟩, ⟨Hb0, Hb1⟩, Hbund⟩
  isplitl [HV0 HV1 Htc Hcr Hbund]
  · isplitr [Hbund]
    · isplitl [HV0]; · iexact HV0
      isplitl [HV1]; · iexact HV1
      isplitr; · iempintro
      isplitr; · iempintro
      isplitl [Htc]; · iexact Htc
      iexact Hcr
    iexact Hbund
  isplitl [Hb0 Hs0]
  · isplitl [Hb0]; · iexact Hb0
    iexact Hs0
  isplitl [Hb1 Hs1]
  · isplitl [Hb1]; · iexact Hb1
    iexact Hs1
  isplitr [Ht3]
  · isplitl [Hcrd]
    · iexists (∅ : Finset ℕ)
      isplitr; · ipureintro; exact ⟨Finset.empty_subset _, Nat.zero_le _⟩
      isplitl [Hcrd]; · iexact Hcrd
      rw [bigSep_empty]; iempintro
    isplitl [Hcc]; · iexact Hcc
    isplitl [HR0]; · iexact HR0
    iexact HR1
  iexact Ht3

/-! ## The barrier -/

theorem above_oS0 (c : Dev nD) : Above 2 (oS c 0) :=
  above_sum fun j hj => above_sum fun f _ => by
    have hj' := (Finset.mem_Ico.mp hj).2
    refine above_add (above_tally _ _ (by omega) (by omega)) ?_
    rcases Nat.eq_zero_or_pos j with h | h
    · subst h; unfold cT; rw [if_neg (by omega)]; exact above_zero _
    · exact above_mono (by omega) (above_cT c f j)
theorem above_O₁ (c : Dev nD) : Above 2 (O₁ c) := above_add (above_mono (by omega) (above_oA c 15)) (above_oS0 c)

theorem bar_left (c : Dev nD) :
    iprop(readyF c 0 ∗ readyF c 2) ⊢ ((Rd xs ws).payload (barC (left c)) 0 0 : sProp 𝕄) := by
  have e : right (left c) = c := dst_src c 0
  rw [pay_bar]; unfold barPay readyF
  rw [if_pos rfl, e]
theorem bar_right (c : Dev nD) :
    iprop(readyF c 1 ∗ readyF c 3) ⊢ ((Rd xs ws).payload (barC (right c)) 0 1 : sProp 𝕄) := by
  have e : left (right c) = c := src_dst c 0
  rw [pay_bar]; unfold barPay readyF
  rw [if_neg (by decide), e]

theorem wp_barrierPart (c : Dev nD) {k : BP F} {Q : PUnit → sProp 𝕄} :
    iprop(Rec xs ws ∗ (readyF c 0 ∗ readyF c 1 ∗ readyF c 2 ∗ readyF c 3) ∗ (atPos ER (barC c) 0 ∅ 0 ∗ dutyTok ER (barC (left c)) 0 0 ∗ dutyTok ER (barC (right c)) 0 1
        ∗ cred (tallyAt (barC c) 1 2)) ∗ owesE c (O₀ c))
      ⊢ iprop((owesE c (O₁ c) ∗ atPos ER (barC c) 1 ∅ 0 ∗ (readyF (dst c 0) 0 ∗ readyF (dst c 1) 1 ∗ readyF (dst c 2) 2 ∗ readyF (dst c 3) 3) -∗ WP c k Q)
          -∗ WP c (barrierPart c k) Q) := by
  have hpay : (bigSep ((Rd xs ws).duties (barC c) 0 \ ∅) (fun d => (Rd xs ws).payload (barC c) 0 d) : sProp 𝕄)
      ⊢ iprop((readyF (right c) 0 ∗ readyF (right c) 2) ∗ (readyF (left c) 1 ∗ readyF (left c) 3)) := by
    rw [duties_bar, Finset.sdiff_empty, bigSep_insert (by decide), bigSep_singleton, pay_bar, pay_bar]
    unfold barPay readyF
    rw [if_pos rfl, if_neg (by decide)]
    exact .rfl
  unfold barrierPart
  iintro ⟨#Hrec, ⟨#H0, #H1, #H2, #H3⟩, ⟨Hat, Ht0, Ht1, Hc⟩, HO⟩ Hk
  iapply (wp_signalOne xs ws c (left c) (sem := barS) 1 0 (O₀ := O₀ c) (O₁ c + tallyAt (barC (right c)) 1 1) rfl
    (by rw [duties_bar]; decide) (amount_bar xs ws (left c) 0 0)) $$ [HO Ht0]
  · isplitr; · iapply (rec_bar xs ws (left c)); iexact Hrec
    isplitl [HO]; · iexact HO
    isplitl [Ht0]; · iexact Ht0
    isplitr
    · iapply (bar_left xs ws c)
      isplitr; · iexact H0
      iexact H2
    iapply (rec_bar0 xs ws (left c)); iexact Hrec
  iintro HO
  iapply (wp_signalOne xs ws c (right c) (sem := barS) 1 1 (O₀ := O₁ c + tallyAt (barC (right c)) 1 1) (O₁ c) rfl
    (by rw [duties_bar]; decide) (amount_bar xs ws (right c) 0 1)) $$ [HO Ht1]
  · isplitr; · iapply (rec_bar xs ws (right c)); iexact Hrec
    isplitl [HO]; · iexact HO
    isplitl [Ht1]; · iexact Ht1
    isplitr
    · iapply (bar_right xs ws c)
      isplitr; · iexact H1
      iexact H3
    iapply (rec_bar0 xs ws (right c)); iexact Hrec
  iintro HO
  ihave Hi := (rec_bar xs ws c) $$ Hrec
  icases Hi with ⟨%κ, Hi⟩
  unfold owesE
  icases HO with ⟨%W, HO⟩
  iapply (Rounds.wp_wait_rest_token 𝒱₀ ER (Rd xs ws) (c : Thread nD τ) none (κ := κ) (wpE_semWait_eq 𝒱₀ (c : Thread nD τ) none Set.univ) (Set.mem_univ _) 1 (O := O₁ c) (W := W) (R := 0) (m := 0) (T := ∅)
    (by rw [expect_bar]; decide)) $$ [Hi Hc HO Hat]
  · isplitl [Hi]; · iexact Hi
    isplitl [Hc]; · iexact Hc
    isplitl [HO]; · iexact HO
    isplitr; · iapply (rec_mayWait xs ws (above_O₁ c) (by omega) (by omega)); iexact Hrec
    iexact Hat
  iintro ⟨HO, Hat, -, Hp⟩
  ihave Hp := hpay $$ Hp
  icases Hp with ⟨⟨Hp0, Hp2⟩, Hp1, Hp3⟩
  iapply Hk
  isplitl [HO]; · iexists _; iexact HO
  isplitl [Hat]; · iexact Hat
  isplitl [Hp0]; · iexact Hp0
  isplitl [Hp1]; · iexact Hp1
  isplitl [Hp2]; · iexact Hp2
  iexact Hp3

/-! ## The split of the weights -/

theorem wp_splitPart (c : Dev nD) (f₀ : (cc0_scratch0 : Ref sig .tc).ty.Contents (Elt F)) (f₁ : (cc0_scratch1 : Ref sig .tc).ty.Contents (Elt F)) {k : BP F} {Q : PUnit → sProp 𝕄} :
    iprop((((c : Thread nD τ).loc cc0_stg1_0) ↦{fullShare} ws c) ∗ (((c : Thread nD τ).loc cc0_scratch0) ↦{fullShare} f₀) ∗ (((c : Thread nD τ).loc cc0_scratch1) ↦{fullShare} f₁))
      ⊢ iprop(((((c : Thread nD τ).loc cc0_stg1_0) ↦{fullShare} ws c)
          ∗ (((c : Thread nD τ).loc cc0_scratch0) ↦{fullShare} (k0_pay4 (ws c) : (cc0_scratch0 : Ref sig .tc).ty.Contents (Elt F)))
          ∗ (((c : Thread nD τ).loc cc0_scratch1) ↦{fullShare} (k0_pay5 (ws c) : (cc0_scratch1 : Ref sig .tc).ty.Contents (Elt F))) -∗ WP c k Q)
        -∗ WP c (splitPart stW k) Q) := by
  have hz : (![0, 0] : Fin 2 → ℕ) = fun _ => 0 := by decide
  have hr : stW.view.readAt (Elt F) (Rect.unit (s := S256x2048) ![0, 0] S256x2048.size inb_S256x2048_S256x2048_0_0).toLoadRect (ws c) = ws c :=
    Memref.readAt_unit_zero (Elt F) cc0_stg1_0 hz _ _
  have hw0 (v : (cc0_scratch0 : Ref sig .tc).ty.Contents (Elt F)) : ((Memref.whole cc0_scratch0).access (Rect.unit (s := S256x2048) ![0, 0] S256x2048.size inb_S256x2048_S256x2048_0_0) : View sig .tc _ _ _).write (Elt F) f₀ v Finset.univ = v :=
    Memref.write_access_unit_zero_univ (Elt F) cc0_scratch0 hz _ _ _
  have hw1 (v : (cc0_scratch1 : Ref sig .tc).ty.Contents (Elt F)) : ((Memref.whole cc0_scratch1).access (Rect.unit (s := S256x2048) ![0, 0] S256x2048.size inb_S256x2048_S256x2048_0_0) : View sig .tc _ _ _).write (Elt F) f₁ v Finset.univ = v :=
    Memref.write_access_unit_zero_univ (Elt F) cc0_scratch1 hz _ _ _
  unfold splitPart
  iintro ⟨Hw, H0, H1⟩ Hk
  iapply (wp_load 𝒱₀ (c : Thread nD τ) none Set.univ (m := stW) (S := Finset.univ) (f := ws c) (Finset.subset_univ _)) $$ [Hw]
  · iexact Hw
  iintro Hw
  iapply (wp_load 𝒱₀ (c : Thread nD τ) none Set.univ (m := Memref.whole cc0_scratch0) (S := Finset.univ) (f := f₀) (Finset.subset_univ _)) $$ [H0]
  · iexact H0
  iintro H0
  iapply (wp_store 𝒱₀ (c : Thread nD τ) none Set.univ (m := Memref.whole cc0_scratch0) (r := Rect.unit (s := S256x2048) ![0, 0] S256x2048.size inb_S256x2048_S256x2048_0_0) (S := Finset.univ) (Mk := Finset.univ) (f := f₀) (Finset.subset_univ _)) $$ [H0]
  · iexact H0
  iintro H0
  iapply (wp_load 𝒱₀ (c : Thread nD τ) none Set.univ (m := Memref.whole cc0_scratch1) (S := Finset.univ) (f := f₁) (Finset.subset_univ _)) $$ [H1]
  · iexact H1
  iintro H1
  iapply (wp_store 𝒱₀ (c : Thread nD τ) none Set.univ (m := Memref.whole cc0_scratch1) (r := Rect.unit (s := S256x2048) ![0, 0] S256x2048.size inb_S256x2048_S256x2048_0_0) (S := Finset.univ) (Mk := Finset.univ) (f := f₁) (Finset.subset_univ _)) $$ [H1]
  · iexact H1
  iintro H1
  rw [hr, hw0, hw1]
  iapply Hk
  isplitl [Hw]; · iexact Hw
  isplitl [H0]; · iexact H0
  iexact H1

end Cert.KernelIdeal.Ring
-- ==== Proof.Ring.Close.lean ====
/- The exit: every cell closed and its counter back at zero, every buffer whole again. -/
module

public import proofs.«01_k».proof.Proof.Ring.Entry

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_two (Φ : Fin 2 → sProp 𝕄) : bigSep Finset.univ Φ = iprop(Φ 0 ∗ Φ 1) := bigSep_univ_eq_bigSepL [0, 1] (by decide) (by decide) Φ

/-- One resource a distance, in the order of the copies, the distance zero first. -/
theorem bigSep_dists (A : Fin 16 → sProp 𝕄) : bigSep Finset.univ A = iprop(A 0 ∗ bigSep (Finset.range 15) fun k => A (dist k)) := by
  have hu : (Finset.univ : Finset (Fin 16)) = insert 0 ((Finset.range 15).image dist) := by decide +kernel
  have hc : (0 : Fin 16) ∉ (Finset.range 15).image dist := by decide +kernel
  have hi : Set.InjOn dist (Finset.range 15 : Finset ℕ) := by
    intro a ha b hb h
    have ha' := Finset.mem_range.mp (Finset.mem_coe.mp ha); have hb' := Finset.mem_range.mp (Finset.mem_coe.mp hb)
    have h' := congrArg Fin.val h
    unfold dist at h'; simp only at h'; omega
  rw [hu, bigSep_insert hc, bigSep_image_of_injOn hi]; rfl

/-- A cell with no duty left closes. -/
theorem close_cell (c : Dev nD) (k : KK) {R : ℕ} (hR : ∀ r, R ≤ r → dutiesOf (some k) r = ∅) :
    iprop(Rec xs ws ∗ atPos ER (cell (c, k)) R ∅ 0) ⊢ (|={Set.univ}=> semVal (cell (c, k)) 0 : sProp 𝕄) := by
  iintro ⟨#Hrec, Hat⟩
  ihave Hi := (rec_inv xs ws c k) $$ Hrec
  icases Hi with ⟨%κ, Hi⟩
  iapply (Rounds.cell_close ER (Rd xs ws) (g := cell (c, k)) (Set.mem_univ κ) (fun h => h) (R := R) fun r hr => (duties_cell xs ws c k r).trans (hR r hr))
  isplitl [Hi]; · iexact Hi
  iexact Hat

theorem close_bar (c : Dev nD) : iprop(Rec xs ws ∗ atPos ER (barC c) 1 ∅ 0) ⊢ (|={Set.univ}=> semVal (barC c) 0 : sProp 𝕄) :=
  close_cell xs ws c (.inl ()) fun r hr => if_neg (by omega)
theorem close_snd (c : Dev nD) (f : Fin 4) (p : Fin 2) {R : ℕ} (hR : 15 ≤ 2 * R + p.val) :
    iprop(Rec xs ws ∗ atPos ER (sndC c f p) R ∅ 0) ⊢ (|={Set.univ}=> semVal (sndC c f p) 0 : sProp 𝕄) :=
  close_cell xs ws c (.inr (.inr (.inl (f, p)))) fun r hr => if_neg (by omega)
theorem close_rcv (c : Dev nD) (f : Fin 4) (p : Fin 2) {R : ℕ} (hR : 15 ≤ 2 * R + p.val) :
    iprop(Rec xs ws ∗ atPos ER (rcvC c f p) R ∅ 0) ⊢ (|={Set.univ}=> semVal (rcvC c f p) 0 : sProp 𝕄) :=
  close_cell xs ws c (.inr (.inr (.inr (.inl (f, p))))) fun r hr => if_neg (by omega)
theorem close_asnd (c : Dev nD) (o : Fin 16) {R : ℕ} (hR : 1 ≤ R ∨ o.val = 0) :
    iprop(Rec xs ws ∗ atPos ER (asndC c o) R ∅ 0) ⊢ (|={Set.univ}=> semVal (asndC c o) 0 : sProp 𝕄) :=
  close_cell xs ws c (.inr (.inr (.inr (.inr (.inl o))))) fun r hr => if_neg (by omega)
theorem close_arcv (c : Dev nD) (o : Fin 16) {R : ℕ} (hR : 1 ≤ R ∨ o.val = 0) :
    iprop(Rec xs ws ∗ atPos ER (arcvC c o) R ∅ 0) ⊢ (|={Set.univ}=> semVal (arcvC c o) 0 : sProp 𝕄) :=
  close_cell xs ws c (.inr (.inr (.inr (.inr (.inr o))))) fun r hr => if_neg (by omega)

theorem close_crd (c : Dev nD) (f : Fin 4) : iprop(Rec xs ws ∗ CP c f 13) ⊢ (|={Set.univ}=> semVal (crdC c f) 0 : sProp 𝕄) := by
  unfold CP
  iintro ⟨#Hrec, ⟨%T, %hT, Hat, -⟩⟩
  have e : T = Finset.range 13 := Finset.eq_of_subset_of_card_le hT.1 (by rw [Finset.card_range]; exact hT.2)
  subst e
  ihave Hi := (rec_inv xs ws c (.inr (.inl f))) $$ Hrec
  icases Hi with ⟨%κ, Hi⟩
  imod (Rounds.fupd_skip ER (Rd xs ws) (g := crdC c f) (κ := κ) (R := 0) (m := 13) (T := Finset.range 13) (by rw [duties_crd]) (by rw [expect_crd]) (Set.mem_univ κ)) $$ [Hi Hat] with ⟨Hat, -⟩
  · isplitl [Hi]; · iexact Hi
    iexact Hat
  iapply (close_cell xs ws c (.inr (.inl f)) (R := 0 + 1) fun r hr => if_neg (by omega))
  isplitr; · iexact Hrec
  iexact Hat

/-- A flow at rest. -/
def flowDone (c : Dev nD) (f : Fin 4) : sProp 𝕄 :=
  iprop((anyAt c (comm f) ∗ anyAt c (sbuf f))
    ∗ semVal (crdC c f) 0 ∗ (semVal (sndC c f 0) 0 ∗ semVal (sndC c f 1) 0) ∗ (semVal (rcvC c f 0) 0 ∗ semVal (rcvC c f 1) 0))

theorem flow_close (c : Dev nD) (f : Fin 4) : iprop(Rec xs ws ∗ flowEnd c f) ⊢ (|={Set.univ}=> flowDone c f : sProp 𝕄) := by
  unfold flowEnd flowDone
  rw [V_hi c f (show ¬ 15 ≤ 14 by omega), V_hi c f (show ¬ 16 ≤ 14 by omega), comm_slots, sbuf_slots]
  iintro ⟨#Hrec, ⟨Hp1, Ha1⟩, ⟨Hp0, Ha0⟩, ⟨Hb1, Hs1⟩, ⟨Hb0, Hs0⟩, HP⟩
  imod (close_rcv xs ws c f 1 (R := 7) (by decide)) $$ [Hp1] with Hp1
  · isplitr; · iexact Hrec
    iexact Hp1
  imod (close_rcv xs ws c f 0 (R := 8) (by decide)) $$ [Hp0] with Hp0
  · isplitr; · iexact Hrec
    iexact Hp0
  imod (close_snd xs ws c f 1 (R := 7) (by decide)) $$ [Hs1] with Hs1
  · isplitr; · iexact Hrec
    iexact Hs1
  imod (close_snd xs ws c f 0 (R := 8) (by decide)) $$ [Hs0] with Hs0
  · isplitr; · iexact Hrec
    iexact Hs0
  imod (close_crd xs ws c f) $$ [HP] with HP
  · isplitr; · iexact Hrec
    iexact HP
  imodintro
  isplitl [Ha0 Ha1 Hb0 Hb1]
  · isplitl [Ha0 Ha1]
    · isplitl [Ha0]; · iexact Ha0
      iexact Ha1
    isplitl [Hb0]; · iexact Hb0
    iexact Hb1
  isplitl [HP]; · iexact HP
  isplitl [Hs0 Hs1]
  · isplitl [Hs0]; · iexact Hs0
    iexact Hs1
  isplitl [Hp0]; · iexact Hp0
  iexact Hp1

theorem close_family (A B : ℕ → sProp 𝕄) (h : ∀ k ∈ Finset.range 15, iprop(Rec xs ws ∗ A k) ⊢ (|={Set.univ}=> B k : sProp 𝕄)) :
    iprop(Rec xs ws ∗ bigSep (Finset.range 15) A) ⊢ (|={Set.univ}=> bigSep (Finset.range 15) B : sProp 𝕄) :=
  ((sep_mono_left (BI.bigSep_of_persistent (Finset.range 15) (Rec xs ws))).trans (by rw [← bigSep_sep']; exact bigSep_mono h)).trans (bigSep_fupd _ _)

/-- The cells of the maxima close. -/
theorem tail_close (c : Dev nD) :
    iprop(Rec xs ws ∗ (atPos ER (asndC c 0) 0 ∅ 0 ∗ atPos ER (arcvC c 0) 0 ∅ 0)
        ∗ (bigSep (Finset.range 15) fun k => atPos ER (asndC c (dist k)) 1 ∅ 0) ∗ (bigSep (Finset.range 15) fun k => atPos ER (arcvC c (dist k)) 1 ∅ 0))
      ⊢ (|={Set.univ}=> ((bigSep Finset.univ fun o : Fin 16 => semVal (asndC c o) 0) ∗ (bigSep Finset.univ fun o : Fin 16 => semVal (arcvC c o) 0)) : sProp 𝕄) := by
  rw [bigSep_dists (fun o : Fin 16 => (semVal (asndC c o) 0 : sProp 𝕄)), bigSep_dists (fun o : Fin 16 => (semVal (arcvC c o) 0 : sProp 𝕄))]
  iintro ⟨#Hrec, ⟨H0, H0'⟩, H, H'⟩
  imod (close_asnd xs ws c 0 (R := 0) (.inr rfl)) $$ [H0] with H0
  · isplitr; · iexact Hrec
    iexact H0
  imod (close_arcv xs ws c 0 (R := 0) (.inr rfl)) $$ [H0'] with H0'
  · isplitr; · iexact Hrec
    iexact H0'
  imod (close_family xs ws (fun k => atPos ER (asndC c (dist k)) 1 ∅ 0) (fun k => semVal (asndC c (dist k)) 0) fun k _ => close_asnd xs ws c (dist k) (.inl le_rfl)) $$ [H] with H
  · isplitr; · iexact Hrec
    iexact H
  imod (close_family xs ws (fun k => atPos ER (arcvC c (dist k)) 1 ∅ 0) (fun k => semVal (arcvC c (dist k)) 0) fun k _ => close_arcv xs ws c (dist k) (.inl le_rfl)) $$ [H'] with H'
  · isplitr; · iexact Hrec
    iexact H'
  imodintro
  isplitl [H0 H]
  · isplitl [H0]; · iexact H0
    iexact H
  isplitl [H0']; · iexact H0'
  iexact H'

/-- The kernel's own semaphores at zero, family by family. -/
theorem own_sems (c : Dev nD) : (bigSep Finset.univ fun k : CK => (semVal ((c : Thread nD τ), osem k) 0 : sProp 𝕄))
    = iprop((bigSep Finset.univ fun f : Fin 4 => semVal (crdC c f) 0)
      ∗ (bigSep Finset.univ fun f : Fin 4 => iprop(semVal (sndC c f 0) 0 ∗ semVal (sndC c f 1) 0))
      ∗ (bigSep Finset.univ fun f : Fin 4 => iprop(semVal (rcvC c f 0) 0 ∗ semVal (rcvC c f 1) 0))
      ∗ (bigSep Finset.univ fun o : Fin 16 => semVal (asndC c o) 0) ∗ (bigSep Finset.univ fun o : Fin 16 => semVal (arcvC c o) 0)) := by
  rw [BI.bigSep_univ_sum, BI.bigSep_univ_sum, BI.bigSep_univ_sum, BI.bigSep_univ_sum, bigSep_univ_prod, bigSep_univ_prod]
  rw [bigSep_congr (s := Finset.univ) fun (f : Fin 4) _ => bigSep_two (F := F) fun p => semVal ((c : Thread nD τ), osem (.inr (.inl (f, p)))) 0,
    bigSep_congr (s := Finset.univ) fun (f : Fin 4) _ => bigSep_two (F := F) fun p => semVal ((c : Thread nD τ), osem (.inr (.inr (.inl (f, p))))) 0]
  rfl

/-- All four flows at rest. -/
def flowsDone (c : Dev nD) : sProp 𝕄 := iprop(flowDone c 0 ∗ flowDone c 1 ∗ flowDone c 2 ∗ flowDone c 3)

theorem flows_close (c : Dev nD) :
    iprop(Rec xs ws ∗ flowEnd c 0 ∗ flowEnd c 1 ∗ flowEnd c 2 ∗ flowEnd c 3) ⊢ (|={Set.univ}=> flowsDone c : sProp 𝕄) := by
  unfold flowsDone
  iintro ⟨#Hrec, H0, H1, H2, H3⟩
  imod (flow_close xs ws c 0) $$ [H0] with H0
  · isplitr; · iexact Hrec
    iexact H0
  imod (flow_close xs ws c 1) $$ [H1] with H1
  · isplitr; · iexact Hrec
    iexact H1
  imod (flow_close xs ws c 2) $$ [H2] with H2
  · isplitr; · iexact Hrec
    iexact H2
  imod (flow_close xs ws c 3) $$ [H3] with H3
  · isplitr; · iexact Hrec
    iexact H3
  imodintro
  isplitl [H0]; · iexact H0
  isplitl [H1]; · iexact H1
  isplitl [H2]; · iexact H2
  iexact H3

/-- The slots of the flows. -/
def slotsAny (c : Dev nD) : sProp 𝕄 :=
  iprop(((anyAt c (comm 0) ∗ anyAt c (sbuf 0)) ∗ (anyAt c (comm 1) ∗ anyAt c (sbuf 1))) ∗ ((anyAt c (comm 2) ∗ anyAt c (sbuf 2)) ∗ (anyAt c (comm 3) ∗ anyAt c (sbuf 3))))

theorem flows_sems (c : Dev nD) :
    iprop(flowsDone c ∗ (bigSep Finset.univ fun o : Fin 16 => semVal (asndC c o) 0) ∗ (bigSep Finset.univ fun o : Fin 16 => semVal (arcvC c o) 0))
      ⊢ (iprop(slotsAny c ∗ bigSep Finset.univ fun k : CK => semVal ((c : Thread nD τ), osem k) 0) : sProp 𝕄) := by
  rw [own_sems, bigSep_four, bigSep_four, bigSep_four]
  unfold flowsDone flowDone slotsAny
  iintro ⟨⟨⟨Ha0, Hc0, Hs0, Hr0⟩, ⟨Ha1, Hc1, Hs1, Hr1⟩, ⟨Ha2, Hc2, Hs2, Hr2⟩, ⟨Ha3, Hc3, Hs3, Hr3⟩⟩, H, H'⟩
  isplitl [Ha0 Ha1 Ha2 Ha3]
  · isplitl [Ha0 Ha1]
    · isplitl [Ha0]; · iexact Ha0
      iexact Ha1
    isplitl [Ha2]; · iexact Ha2
    iexact Ha3
  isplitl [Hc0 Hc1 Hc2 Hc3]
  · isplitl [Hc0]; · iexact Hc0
    isplitl [Hc1]; · iexact Hc1
    isplitl [Hc2]; · iexact Hc2
    iexact Hc3
  isplitl [Hs0 Hs1 Hs2 Hs3]
  · isplitl [Hs0]; · iexact Hs0
    isplitl [Hs1]; · iexact Hs1
    isplitl [Hs2]; · iexact Hs2
    iexact Hs3
  isplitl [Hr0 Hr1 Hr2 Hr3]
  · isplitl [Hr0]; · iexact Hr0
    isplitl [Hr1]; · iexact Hr1
    isplitl [Hr2]; · iexact Hr2
    iexact Hr3
  isplitl [H]; · iexact H
  iexact H'

end Cert.KernelIdeal.Ring
-- ==== Proof.Ring.Out.lean ====
/- The result block, element by element. -/
module

public import proofs.«01_k».proof.Proof.Ring.Tail

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

/-- The element of a quarter that lands at column `o + y`. -/
def quarterIdx (i : S256x2048.Idx) (y : Fin 512) : S256x512.Idx := fun a => match a with
  | ⟨0, _⟩ => (⟨(i (0 : Fin 2)).val, (i (0 : Fin 2)).isLt⟩ : Fin 256)
  | ⟨1, _⟩ => y

/-- The view of the columns from `o`. -/
abbrev qView (o : ℕ) (ho : ∀ a, (![0, o] : Fin 2 → ℕ) a + S256x512.size a ≤ S256x2048.size a) : View sig .tc .vmem S256x512 .f32 :=
  (Memref.whole cc0_stg2_0).access (Rect.unit (s := S256x2048) ![0, o] S256x512.size ho)

theorem mem_quarter (o : ℕ) (ho : ∀ a, (![0, o] : Fin 2 → ℕ) a + S256x512.size a ≤ S256x2048.size a) (i : S256x2048.Idx) (hm : i ∈ (qView o ho).set) :
    o ≤ (i (1 : Fin 2)).val ∧ (i (1 : Fin 2)).val < o + 512 := by
  have e : (qView o ho).set = (Rect.unit (s := S256x2048) ![0, o] S256x512.size ho).set := View.set_slice_whole _ _
  rw [e, Rect.mem_set_unit] at hm
  exact hm (1 : Fin 2)

theorem emb_quarter (o : ℕ) (ho : ∀ a, (![0, o] : Fin 2 → ℕ) a + S256x512.size a ≤ S256x2048.size a) (i : S256x2048.Idx)
    (h : o ≤ (i (1 : Fin 2)).val ∧ (i (1 : Fin 2)).val < o + 512) : (qView o ho).emb (quarterIdx i ⟨(i (1 : Fin 2)).val - o, by omega⟩) = i := by
  refine funext fun (a : Fin 2) => ?_
  rcases (show a = (0 : Fin 2) ∨ a = (1 : Fin 2) by revert a; decide) with rfl | rfl
  · exact Fin.ext (by show 0 + 1 * (i (0 : Fin 2)).val = (i (0 : Fin 2)).val; omega)
  · exact Fin.ext (by show o + 1 * ((i (1 : Fin 2)).val - o) = (i (1 : Fin 2)).val; omega)

theorem store_quarter (o : ℕ) (ho : ∀ a, (![0, o] : Fin 2 → ℕ) a + S256x512.size a ≤ S256x2048.size a) (v : FVec F S256x512 .f32)
    (g : (cc0_stg2_0 : Ref sig .tc).ty.Contents (Elt F)) (i : S256x2048.Idx) :
    (qView o ho).write (Elt F) g v Finset.univ i
      = if h : o ≤ (i (1 : Fin 2)).val ∧ (i (1 : Fin 2)).val < o + 512 then v (quarterIdx i ⟨(i (1 : Fin 2)).val - o, by omega⟩) else g i := by
  split
  · rename_i h
    refine Eq.trans (congrArg _ (emb_quarter o ho i h).symm) ?_
    exact View.write_emb_of_mem (v := qView o ho) g v (Finset.mem_univ _)
  · rename_i h
    exact View.write_of_not_mem (v := qView o ho) g v Finset.univ fun hm => h (mem_quarter o ho i (by rw [← View.setOn_univ]; exact hm))

/-- The flow whose sum a column's quarter is. -/
def flowOf (j : ℕ) : Fin 4 := if j < 512 then 0 else if j < 1024 then 2 else if j < 1536 then 1 else 3

/-- The result block, element by element. -/
def outFin (c : Dev nD) : (cc0_stg2_0 : Ref sig .tc).ty.Contents (Elt F) := fun (i : S256x2048.Idx) =>
  outOf (accOf xs ws (flowOf (i (1 : Fin 2)).val) c) (amaxAll xs ws) (quarterIdx i ⟨(i (1 : Fin 2)).val % 512, Nat.mod_lt _ (by decide)⟩)

theorem quarter_in (o : ℕ) (ho : ∀ a, (![0, o] : Fin 2 → ℕ) a + S256x512.size a ≤ S256x2048.size a) (v : FVec F S256x512 .f32)
    (g : (cc0_stg2_0 : Ref sig .tc).ty.Contents (Elt F)) (i : S256x2048.Idx) (h : o ≤ (i (1 : Fin 2)).val ∧ (i (1 : Fin 2)).val < o + 512) (ho' : o % 512 = 0) :
    (qView o ho).write (Elt F) g v Finset.univ i
      = v (quarterIdx i ⟨(i (1 : Fin 2)).val % 512, Nat.mod_lt _ (by decide)⟩) := by
  refine (store_quarter o ho v g i).trans ?_
  rw [dif_pos h]
  exact congrArg v (congrArg (quarterIdx i) (Fin.ext (by show (i (1 : Fin 2)).val - o = (i (1 : Fin 2)).val % 512; omega)))
theorem quarter_out (o : ℕ) (ho : ∀ a, (![0, o] : Fin 2 → ℕ) a + S256x512.size a ≤ S256x2048.size a) (v : FVec F S256x512 .f32)
    (g : (cc0_stg2_0 : Ref sig .tc).ty.Contents (Elt F)) (i : S256x2048.Idx) (h : ¬ (o ≤ (i (1 : Fin 2)).val ∧ (i (1 : Fin 2)).val < o + 512)) :
    (qView o ho).write (Elt F) g v Finset.univ i = g i :=
  (store_quarter o ho v g i).trans (dif_neg h)

theorem outAll_eq (c : Dev nD) (f : (cc0_stg2_0 : Ref sig .tc).ty.Contents (Elt F)) : outAll xs ws c f = outFin xs ws c := by
  unfold outAll
  refine funext fun (i : S256x2048.Idx) => ?_
  have hi : (i (1 : Fin 2)).val < 2048 := (i (1 : Fin 2)).isLt
  unfold outFin flowOf
  by_cases h3 : 1536 ≤ (i (1 : Fin 2)).val
  · rw [if_neg (by omega), if_neg (by omega), if_neg (by omega)]
    exact quarter_in 1536 _ _ _ i ⟨h3, by omega⟩ (by decide)
  refine (quarter_out 1536 _ _ _ i (by omega)).trans ?_
  by_cases h2 : (i (1 : Fin 2)).val < 512
  · rw [if_pos h2]
    refine (quarter_out 512 _ _ _ i (by omega)).trans ?_
    refine (quarter_out 1024 _ _ _ i (by omega)).trans ?_
    exact quarter_in 0 _ _ _ i ⟨by omega, by omega⟩ (by decide)
  rw [if_neg h2]
  by_cases h1 : (i (1 : Fin 2)).val < 1024
  · rw [if_pos h1]
    exact quarter_in 512 _ _ _ i ⟨by omega, by omega⟩ (by decide)
  rw [if_neg h1, if_pos (by omega)]
  refine (quarter_out 512 _ _ _ i (by omega)).trans ?_
  exact quarter_in 1024 _ _ _ i ⟨by omega, by omega⟩ (by decide)

end Cert.KernelIdeal.Ring
-- ==== Proof.Ring.Body.lean ====
/- The body, from the entry to the exit. -/
module

public import proofs.«01_k».proof.Proof.Ring.Close
public import proofs.«01_k».proof.Proof.Ring.Out

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

variable (xs : Dev nD → XC F) (ws : Dev nD → WC F)

theorem wp_lastStep (c : Dev nD) (f : (cc0_stg2_0 : Ref sig .tc).ty.Contents (Elt F)) {Q : PUnit → sProp 𝕄} :
    iprop(Rec xs ws ∗ opnds xs ws c ∗ flows c 15 ∗ tailIn c ∗ anyAt c (amaxRow c) ∗ owesE c (oA c 15) ∗ (((c : Thread nD τ).loc cc0_stg2_0) ↦{fullShare} f))
      ⊢ iprop((opnds xs ws c ∗ (flowEnd c 0 ∗ flowEnd c 1 ∗ flowEnd c 2 ∗ flowEnd c 3) ∗ owesE c 0 ∗ tailOut xs ws c
            ∗ (((c : Thread nD τ).loc cc0_stg2_0) ↦{fullShare} outFin xs ws c) -∗ WP c (.ret ⟨⟩) Q)
          -∗ WP c (lastStep stX stO c) Q) := by
  rw [← outAll_eq xs ws c f]
  have hc : collF (F := F) c 0 15 ⊢ (coll c 15 : sProp 𝕄) := by unfold collF; rw [if_pos rfl]
  unfold lastStep flows
  iintro ⟨#Hrec, Hop, ⟨H0, H1, H2, H3⟩, Htail, Hrow, HO, Hout⟩ Hk
  iapply (wp_gemmPart xs ws c _ _ true) $$ [Hop]
  · iexact Hop
  iintro Hop
  iapply (wp_gemmPart xs ws c _ _ false) $$ [Hop]
  · iexact Hop
  iintro Hop
  iapply (wp_lastPart xs ws c 0 _ rfl (above_oA c 15)) $$ [H0 HO]
  · isplitr; · iexact Hrec
    isplitl [H0]; · iexact H0
    iexact HO
  iintro ⟨HO, H0, HC⟩
  iapply (wp_lastPart xs ws c 1 _ rfl (above_oA c 15)) $$ [H1 HO]
  · isplitr; · iexact Hrec
    isplitl [H1]; · iexact H1
    iexact HO
  iintro ⟨HO, H1, -⟩
  iapply (wp_lastPart xs ws c 2 _ rfl (above_oA c 15)) $$ [H2 HO]
  · isplitr; · iexact Hrec
    isplitl [H2]; · iexact H2
    iexact HO
  iintro ⟨HO, H2, -⟩
  iapply (wp_lastPart xs ws c 3 _ rfl (above_oA c 15)) $$ [H3 HO]
  · isplitr; · iexact Hrec
    isplitl [H3]; · iexact H3
    iexact HO
  iintro ⟨HO, H3, -⟩
  iapply (wp_tailPart xs ws c f) $$ [Hrow HC Htail HO Hout]
  · isplitr; · iexact Hrec
    isplitl [Hrow]; · iexact Hrow
    isplitl [HC]; · iapply hc; iexact HC
    isplitl [Htail]; · iexact Htail
    isplitl [HO]; · iexact HO
    iexact Hout
  iintro ⟨HO, Hto, Hout⟩
  iapply Hk
  isplitl [Hop]; · iexact Hop
  isplitl [H0 H1 H2 H3]
  · isplitl [H0]; · iexact H0
    isplitl [H1]; · iexact H1
    isplitl [H2]; · iexact H2
    iexact H3
  isplitl [HO]; · iexact HO
  isplitl [Hto]; · iexact Hto
  iexact Hout

/-- What a device's body starts from besides its buffers and the records. -/
def ins (c : Dev nD) : sProp 𝕄 :=
  iprop((flowIn c 0 ∗ flowIn c 1 ∗ flowIn c 2 ∗ flowIn c 3) ∗ tailIn c ∗ (atPos ER (asndC c 0) 0 ∅ 0 ∗ atPos ER (arcvC c 0) 0 ∅ 0)
    ∗ (atPos ER (barC c) 0 ∅ 0 ∗ dutyTok ER (barC (left c)) 0 0 ∗ dutyTok ER (barC (right c)) 0 1 ∗ cred (tallyAt (barC c) 1 2)))

/-- The scratch buffers at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ slotsAny c)

/-- The landing slots released, the barrier passed: the four flows before their first step. -/
theorem flows_start (c : Dev nD) :
    iprop((flowMid c 0 ∗ flowMid c 1 ∗ flowMid c 2 ∗ flowMid c 3) ∗ (readyF (dst c 0) 0 ∗ readyF (dst c 1) 1 ∗ readyF (dst c 2) 2 ∗ readyF (dst c 3) 3)
        ∗ (anyAt c (sbuf 0) ∗ anyAt c (sbuf 1) ∗ anyAt c (sbuf 2) ∗ anyAt c (sbuf 3)) ∗ bund (right c) 0)
      ⊢ (flows c 0 : sProp 𝕄) := by
  have h0 : (bund (right c) 0 : sProp 𝕄) ⊢ bundF (dst c 0) 0 0 := by unfold bundF; rw [if_pos rfl]
  have hn (f : Fin 4) (hf : f ≠ 0) : (iprop(emp) : sProp 𝕄) ⊢ bundF (dst c f) f 0 := by unfold bundF; rw [if_neg hf]
  unfold flows
  iintro ⟨⟨M0, M1, M2, M3⟩, ⟨R0, R1, R2, R3⟩, ⟨S0, S1, S2, S3⟩, B⟩
  isplitl [M0 R0 S0 B]
  · iapply (flow_start c 0)
    isplitl [M0]; · iexact M0
    isplitl [R0]; · iexact R0
    isplitl [S0]; · iexact S0
    iapply h0; iexact B
  isplitl [M1 R1 S1]
  · iapply (flow_start c 1)
    isplitl [M1]; · iexact M1
    isplitl [R1]; · iexact R1
    isplitl [S1]; · iexact S1
    iapply (hn 1 (by decide)); iempintro
  isplitl [M2 R2 S2]
  · iapply (flow_start c 2)
    isplitl [M2]; · iexact M2
    isplitl [R2]; · iexact R2
    isplitl [S2]; · iexact S2
    iapply (hn 2 (by decide)); iempintro
  iapply (flow_start c 3)
  isplitl [M3]; · iexact M3
  isplitl [R3]; · iexact R3
  isplitl [S3]; · iexact S3
  iapply (hn 3 (by decide)); iempintro

theorem wp_dev (c : Dev nD) (k : Dev nD → BP F) (Q : PUnit → sProp 𝕄) : (WP c (.op .deviceId k) Q : sProp 𝕄) = WP c (k c) Q :=
  wp_deviceId 𝒱₀ (c : Thread nD τ) none Set.univ

theorem wp_text (c : Dev nD) (f : (cc0_stg2_0 : Ref sig .tc).ty.Contents (Elt F)) {Q : PUnit → sProp 𝕄} :
    iprop(Rec xs ws ∗ ins c ∗ scr c ∗ owesE c (O₀ c) ∗ (((c : Thread nD τ).loc cc0_stg0_0) ↦{fullShare} xs c)
        ∗ (((c : Thread nD τ).loc cc0_stg1_0) ↦{fullShare} ws c) ∗ (((c : Thread nD τ).loc cc0_stg2_0) ↦{fullShare} f))
      ⊢ iprop(((scr c ∗ semVal (barC c) 0 ∗ bigSep Finset.univ (fun k : CK => semVal ((c : Thread nD τ), osem k) 0)) ∗ owesE c 0
            ∗ (((c : Thread nD τ).loc cc0_stg0_0) ↦{fullShare} xs c) ∗ (((c : Thread nD τ).loc cc0_stg1_0) ↦{fullShare} ws c)
            ∗ (((c : Thread nD τ).loc cc0_stg2_0) ↦{fullShare} outFin xs ws c) -∗ WP c (.ret ⟨⟩) Q)
          -∗ WP c (text stX stW stO) Q) := by
  have hO : owesE (F := F) c (oA c 15 + oS c 15) ⊢ owesE c (oA c 15) := by
    rw [show oS c 15 = 0 by unfold oS; rw [Finset.Ico_self, Finset.sum_empty], add_zero]
  unfold text
  rw [wp_dev]
  unfold ins scr slotsAny
  iintro ⟨#Hrec, ⟨⟨F0, F1, F2, F3⟩, Htail, Ho0, Hbar⟩, ⟨⟨%f0, Hb0⟩, ⟨%f1, Hb1⟩, ⟨%f2, Hb2⟩, ⟨⟨C0, S0⟩, C1, S1⟩, ⟨C2, S2⟩, C3, S3⟩, HO, Hx, Hw, Hout⟩ Hk
  imod (deposit xs ws c 0) $$ [C0 F0] with ⟨M0, #R0⟩
  · isplitr; · iexact Hrec
    isplitl [C0]; · iexact C0
    iexact F0
  imod (deposit xs ws c 1) $$ [C1 F1] with ⟨M1, #R1⟩
  · isplitr; · iexact Hrec
    isplitl [C1]; · iexact C1
    iexact F1
  imod (deposit xs ws c 2) $$ [C2 F2] with ⟨M2, #R2⟩
  · isplitr; · iexact Hrec
    isplitl [C2]; · iexact C2
    iexact F2
  imod (deposit xs ws c 3) $$ [C3 F3] with ⟨M3, #R3⟩
  · isplitr; · iexact Hrec
    isplitl [C3]; · iexact C3
    iexact F3
  ihave Ham := (amax_entry c f2) $$ Hb2
  icases Ham with ⟨Hrow, Hbund⟩
  iapply (wp_barrierPart xs ws c) $$ [Hbar HO]
  · isplitr; · iexact Hrec
    isplitr
    · isplitr; · iexact R0
      isplitr; · iexact R1
      isplitr; · iexact R2
      iexact R3
    isplitl [Hbar]; · iexact Hbar
    iexact HO
  iintro ⟨HO, Hbar, HR⟩
  ihave Hfl := (flows_start c) $$ [M0 M1 M2 M3 HR S0 S1 S2 S3 Hbund]
  · isplitl [M0 M1 M2 M3]
    · isplitl [M0]; · iexact M0
      isplitl [M1]; · iexact M1
      isplitl [M2]; · iexact M2
      iexact M3
    isplitl [HR]; · iexact HR
    isplitl [S0 S1 S2 S3]
    · isplitl [S0]; · iexact S0
      isplitl [S1]; · iexact S1
      isplitl [S2]; · iexact S2
      iexact S3
    iexact Hbund
  iapply (wp_splitPart ws c f0 f1) $$ [Hw Hb0 Hb1]
  · isplitl [Hw]; · iexact Hw
    isplitl [Hb0]; · iexact Hb0
    iexact Hb1
  iintro ⟨Hw, Hb0, Hb1⟩
  iapply (wp_steps xs ws c (B := oA c 15) (above_oA c 15) (n := 15) le_rfl) $$ [Hx Hb0 Hb1 Hfl HO]
  · isplitr; · iexact Hrec
    isplitl [Hx Hb0 Hb1]
    · unfold opnds
      isplitl [Hx]; · iexact Hx
      isplitl [Hb0]; · iexact Hb0
      iexact Hb1
    isplitl [Hfl]; · iexact Hfl
    iexact HO
  iintro ⟨Hop, Hfl, HO⟩
  ihave HO := hO $$ HO
  iapply (wp_lastStep xs ws c f) $$ [Hop Hfl Htail Hrow HO Hout]
  · isplitr; · iexact Hrec
    isplitl [Hop]; · iexact Hop
    isplitl [Hfl]; · iexact Hfl
    isplitl [Htail]; · iexact Htail
    isplitl [Hrow]; · iexact Hrow
    isplitl [HO]; · iexact HO
    iexact Hout
  unfold opnds tailOut
  iintro ⟨⟨Hx, Hb0, Hb1⟩, Hfe, HO, ⟨Hb2, Ha, Ha'⟩, Hout⟩
  imod (flows_close xs ws c) $$ [Hfe] with Hfd
  · isplitr; · iexact Hrec
    iexact Hfe
  imod (tail_close xs ws c) $$ [Ho0 Ha Ha'] with Hts
  · isplitr; · iexact Hrec
    isplitl [Ho0]; · iexact Ho0
    isplitl [Ha]; · iexact Ha
    iexact Ha'
  imod (close_bar xs ws c) $$ [Hbar] with Hbar
  · isplitr; · iexact Hrec
    iexact Hbar
  ihave Hs := (flows_sems c) $$ [Hfd Hts]
  · isplitl [Hfd]; · iexact Hfd
    iexact Hts
  unfold slotsAny
  icases Hs with ⟨Hsl, Hsem⟩
  iapply Hk
  isplitl [Hb0 Hb1 Hb2 Hsl Hbar Hsem]
  · isplitl [Hb0 Hb1 Hb2 Hsl]
    · isplitl [Hb0]; · iexists _; iexact Hb0
      isplitl [Hb1]; · iexists _; iexact Hb1
      isplitl [Hb2]; · iexists _; iexact Hb2
      iexact Hsl
    isplitl [Hbar]; · iexact Hbar
    iexact Hsem
  isplitl [HO]; · iexact HO
  isplitl [Hx]; · iexact Hx
  isplitl [Hw]; · iexact Hw
  iexact Hout

end Cert.KernelIdeal.Ring
-- ==== Proof.Ring.Deal.lean ====
/- What the launch deals: the tokens, the positions, the slots and the credits, brought to the devices that use them. -/
module

public import proofs.«01_k».proof.Proof.Ring.Body

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

open Idealize.ShloMosaic.Release (initSlots slots_init)

/-! ## Families -/

theorem own_fams (Φ : CK → sProp 𝕄) : bigSep Finset.univ Φ
    = iprop((bigSep Finset.univ fun f : Fin 4 => Φ (.inl f))
      ∗ (bigSep Finset.univ fun f : Fin 4 => iprop(Φ (.inr (.inl (f, 0))) ∗ Φ (.inr (.inl (f, 1)))))
      ∗ (bigSep Finset.univ fun f : Fin 4 => iprop(Φ (.inr (.inr (.inl (f, 0)))) ∗ Φ (.inr (.inr (.inl (f, 1))))))
      ∗ (bigSep Finset.univ fun o : Fin 16 => Φ (.inr (.inr (.inr (.inl o))))) ∗ (bigSep Finset.univ fun o : Fin 16 => Φ (.inr (.inr (.inr (.inr o)))))) := by
  rw [BI.bigSep_univ_sum, BI.bigSep_univ_sum, BI.bigSep_univ_sum, BI.bigSep_univ_sum, bigSep_univ_prod, bigSep_univ_prod]
  rw [bigSep_congr (s := Finset.univ) fun (f : Fin 4) _ => bigSep_two (F := F) fun p => Φ (.inr (.inl (f, p))),
    bigSep_congr (s := Finset.univ) fun (f : Fin 4) _ => bigSep_two (F := F) fun p => Φ (.inr (.inr (.inl (f, p))))]
  rfl

theorem all_fams (Φ : KK → sProp 𝕄) : bigSep Finset.univ Φ = iprop(Φ (.inl ()) ∗ bigSep Finset.univ fun k : CK => Φ (.inr k)) := by
  rw [BI.bigSep_univ_sum, BI.bigSep_univ_of_subsingleton ()]; rfl

theorem bigSep_sub {I : Type} [DecidableEq I] {s t : Finset I} (h : t ⊆ s) (Φ : I → sProp 𝕄) : bigSep s Φ ⊢ bigSep t Φ := BI.bigSep_subset h

theorem bigSep_fin_val (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    rw [Finset.mem_range, Finset.mem_map]
    exact ⟨fun h => ⟨⟨i, h⟩, Finset.mem_univ _, rfl⟩, fun ⟨j, _, hj⟩ => hj ▸ j.isLt⟩
  rw [e, bigSep_map]; rfl
theorem bigSep_fin_Ico (n : ℕ) (Φ : ℕ → sProp 𝕄) : bigSep (Finset.univ : Finset (Fin n)) (fun i => Φ i.val) = bigSep (Finset.Ico 0 n) Φ := by
  rw [bigSep_fin_val, Finset.range_eq_Ico]

/-! ## Around the ring -/

def srcE : Dev nD × Fin 4 ≃ Dev nD × Fin 4 :=
  ⟨fun x => (src x.1 x.2, x.2), fun x => (dst x.1 x.2, x.2), fun x => Prod.ext (dst_src x.1 x.2) rfl, fun x => Prod.ext (src_dst x.1 x.2) rfl⟩
theorem around_src (A : Dev nD → Fin 4 → sProp 𝕄) :
    (bigSep Finset.univ fun c : Dev nD => bigSep Finset.univ fun f : Fin 4 => A c f) = bigSep Finset.univ fun c : Dev nD => bigSep Finset.univ fun f : Fin 4 => A (src c f) f := by
  rw [← bigSep_univ_prod (fun x : Dev nD × Fin 4 => A x.1 x.2), bigSep_univ_equiv srcE, bigSep_univ_prod]; rfl
theorem around_dst (A : Dev nD → Fin 4 → sProp 𝕄) :
    (bigSep Finset.univ fun c : Dev nD => bigSep Finset.univ fun f : Fin 4 => A c f) = bigSep Finset.univ fun c : Dev nD => bigSep Finset.univ fun f : Fin 4 => A (dst c f) f := by
  rw [← bigSep_univ_prod (fun x : Dev nD × Fin 4 => A x.1 x.2), bigSep_univ_equiv srcE.symm, bigSep_univ_prod]; rfl

def rightE : Dev nD ≃ Dev nD := ⟨right, left, fun c => src_dst c 0, fun c => dst_src c 0⟩
theorem around_right (A : Dev nD → sProp 𝕄) : bigSep Finset.univ A = bigSep Finset.univ fun c : Dev nD => A (right c) := bigSep_univ_equiv rightE A
theorem around_left (A : Dev nD → sProp 𝕄) : bigSep Finset.univ A = bigSep Finset.univ fun c : Dev nD => A (left c) := bigSep_univ_equiv rightE.symm A

theorem peer_inv (c : Dev nD) (k : Fin 15) : peer (fwd c (k.val + 1)) (dist k.val) = c := by revert c k; decide +kernel
theorem inv_peer (c : Dev nD) (k : Fin 15) : fwd (peer c (dist k.val)) (k.val + 1) = c := by revert c k; decide +kernel
def peerE : Dev nD × Fin 15 ≃ Dev nD × Fin 15 :=
  ⟨fun x => (peer x.1 (dist x.2.val), x.2), fun x => (fwd x.1 (x.2.val + 1), x.2), fun x => Prod.ext (inv_peer x.1 x.2) rfl, fun x => Prod.ext (peer_inv x.1 x.2) rfl⟩
theorem around_peer (A : Dev nD → Fin 15 → sProp 𝕄) :
    (bigSep Finset.univ fun c : Dev nD => bigSep Finset.univ fun k : Fin 15 => A c k) = bigSep Finset.univ fun c : Dev nD => bigSep Finset.univ fun k : Fin 15 => A (peer c (dist k.val)) k := by
  rw [← bigSep_univ_prod (fun x : Dev nD × Fin 15 => A x.1 x.2), bigSep_univ_equiv peerE, bigSep_univ_prod]; rfl

/-! ## The duty tokens -/

/-- A device's own cells' duties. -/
abbrev TK : Type := Fin 2 ⊕ ((Fin 4 × Fin 13) ⊕ ((Fin 4 × Fin 15) ⊕ ((Fin 4 × Fin 15) ⊕ (Fin 15 ⊕ Fin 15))))
def tokN : TK → KK × ℕ × ℕ
  | .inl b => (.inl (), 0, b.val)
  | .inr (.inl (f, r)) => (.inr (.inl f), 0, r.val)
  | .inr (.inr (.inl (f, n))) => (.inr (.inr (.inl (f, par n.val))), n.val / 2, 0)
  | .inr (.inr (.inr (.inl (f, n)))) => (.inr (.inr (.inr (.inl (f, par n.val)))), n.val / 2, 0)
  | .inr (.inr (.inr (.inr (.inl k)))) => (.inr (.inr (.inr (.inr (.inl (dist k.val))))), 0, 0)
  | .inr (.inr (.inr (.inr (.inr k)))) => (.inr (.inr (.inr (.inr (.inr (dist k.val))))), 0, 0)
theorem tokN_inj : Function.Injective tokN := by decide +kernel
def tokOf (x : Dev nD × TK) : GSem nD τ sig × ℕ × ℕ := (cell (x.1, (tokN x.2).1), (tokN x.2).2)
theorem tokOf_inj : Function.Injective tokOf := fun a b h => by
  have h1 := cell_inj (congrArg (fun x : GSem nD τ sig × ℕ × ℕ => x.1) h)
  have h2 := congrArg (fun x : GSem nD τ sig × ℕ × ℕ => x.2) h
  have h3 : a.1 = b.1 := congrArg (fun x : Dev nD × KK => x.1) h1
  have h4 : (tokN a.2).1 = (tokN b.2).1 := congrArg (fun x : Dev nD × KK => x.2) h1
  exact Prod.ext h3 (tokN_inj (Prod.ext h4 h2))

def cellsF : Finset (GSem nD τ sig) := Finset.univ.map ⟨cell, cell_inj⟩
def toksF : Finset (GSem nD τ sig × ℕ × ℕ) := Finset.univ.map ⟨tokOf, tokOf_inj⟩

/-- The tokens of device `c`'s own cells. -/
def toks (c : Dev nD) : sProp 𝕄 :=
  iprop((dutyTok ER (barC c) 0 0 ∗ dutyTok ER (barC c) 0 1)
    ∗ (bigSep Finset.univ fun f : Fin 4 => bigSep (Finset.Ico 0 13) fun r => dutyTok ER (crdC c f) 0 r)
    ∗ (bigSep Finset.univ fun f : Fin 4 => bigSep (Finset.Ico 0 15) fun n => dutyTok ER (sndC c f (par n)) (n / 2) 0)
    ∗ (bigSep Finset.univ fun f : Fin 4 => bigSep (Finset.Ico 0 15) fun n => dutyTok ER (rcvC c f (par n)) (n / 2) 0)
    ∗ (bigSep Finset.univ fun k : Fin 15 => dutyTok ER (asndC c (dist k.val)) 0 0)
    ∗ (bigSep Finset.univ fun k : Fin 15 => dutyTok ER (arcvC c (dist k.val)) 0 0))

theorem toks_eq (c : Dev nD) :
    (bigSep Finset.univ fun t : TK => (dutyTok ER (tokOf (c, t)).1 (tokOf (c, t)).2.1 (tokOf (c, t)).2.2 : sProp 𝕄)) = toks c := by
  unfold toks
  rw [BI.bigSep_univ_sum, BI.bigSep_univ_sum, BI.bigSep_univ_sum, BI.bigSep_univ_sum, BI.bigSep_univ_sum, bigSep_two, bigSep_univ_prod, bigSep_univ_prod, bigSep_univ_prod]
  rw [bigSep_congr (s := Finset.univ) fun (f : Fin 4) _ => (bigSep_fin_Ico (F := F) 13 fun r => dutyTok ER (crdC c f) 0 r).symm,
    bigSep_congr (s := Finset.univ) fun (f : Fin 4) _ => (bigSep_fin_Ico (F := F) 15 fun n => dutyTok ER (sndC c f (par n)) (n / 2) 0).symm,
    bigSep_congr (s := Finset.univ) fun (f : Fin 4) _ => (bigSep_fin_Ico (F := F) 15 fun n => dutyTok ER (rcvC c f (par n)) (n / 2) 0).symm]
  rfl

/-- The tokens that device `c` pays with. -/
def toksIn (c : Dev nD) : sProp 𝕄 :=
  iprop((dutyTok ER (barC (left c)) 0 0 ∗ dutyTok ER (barC (right c)) 0 1)
    ∗ (bigSep Finset.univ fun f : Fin 4 => bigSep (Finset.Ico 0 13) fun r => dutyTok ER (crdC (src c f) f) 0 r)
    ∗ (bigSep Finset.univ fun f : Fin 4 => bigSep (Finset.Ico 0 15) fun n => dutyTok ER (sndC c f (par n)) (n / 2) 0)
    ∗ (bigSep Finset.univ fun f : Fin 4 => bigSep (Finset.Ico 0 15) fun n => dutyTok ER (rcvC (dst c f) f (par n)) (n / 2) 0)
    ∗ (bigSep Finset.univ fun k : Fin 15 => dutyTok ER (asndC c (dist k.val)) 0 0)
    ∗ (bigSep Finset.univ fun k : Fin 15 => dutyTok ER (arcvC (peer c (dist k.val)) (dist k.val)) 0 0))

theorem toks_around : (bigSep Finset.univ fun c : Dev nD => (toks c : sProp 𝕄)) = bigSep Finset.univ fun c : Dev nD => toksIn c := by
  unfold toks toksIn
  simp only [bigSep_sep']
  rw [around_left (fun c => (dutyTok ER (barC c) 0 0 : sProp 𝕄)), around_right (fun c => (dutyTok ER (barC c) 0 1 : sProp 𝕄)),
    around_src (fun c f => (bigSep (Finset.Ico 0 13) fun r => dutyTok ER (crdC c f) 0 r : sProp 𝕄)),
    around_dst (fun c f => (bigSep (Finset.Ico 0 15) fun n => dutyTok ER (rcvC c f (par n)) (n / 2) 0 : sProp 𝕄)),
    around_peer (fun c k => (dutyTok ER (arcvC c (dist k.val)) 0 0 : sProp 𝕄))]

/-! ## The slots -/

def wEmb : Dev nD × (Fin 4 × Fin 15) ↪ SK × ℕ :=
  ⟨fun x => ((x.1, x.2.1, par x.2.2.val), x.2.2.val / 2), fun a b h => by
    obtain ⟨a1, a2, a3⟩ := a; obtain ⟨b1, b2, b3⟩ := b
    have h1 : a1 = b1 := congrArg (fun x : SK × ℕ => x.1.1) h
    have h2 : a2 = b2 := congrArg (fun x : SK × ℕ => x.1.2.1) h
    have h3 : par a3.val = par b3.val := congrArg (fun x : SK × ℕ => x.1.2.2) h
    have h4 : a3.val / 2 = b3.val / 2 := congrArg (fun x : SK × ℕ => x.2) h
    have e1 := par_round a3.val; have e2 := par_round b3.val
    rw [h3, h4, e2] at e1
    rw [h1, h2, Fin.ext e1]⟩

/-- The tokens of the writes, at the devices that write. -/
theorem writes_around : (bigSep (Finset.univ ×ˢ Finset.range 8) fun x : SK × ℕ => (writeTok ES x.1 (x.2 + 1) : sProp 𝕄))
    ⊢ bigSep Finset.univ fun c : Dev nD => bigSep Finset.univ fun f : Fin 4 => bigSep (Finset.Ico 0 15) fun n => writeTok ES ((dst c f, f, par n) : SK) (n / 2 + 1) := by
  classical
  have hs : Finset.univ.map wEmb ⊆ Finset.univ ×ˢ Finset.range 8 := fun x hx => by
    obtain ⟨y, -, rfl⟩ := Finset.mem_map.mp hx
    exact Finset.mem_product.mpr ⟨Finset.mem_univ _, Finset.mem_range.mpr (by show y.2.2.val / 2 < 8; omega)⟩
  refine (bigSep_sub hs _).trans (Entails.of_eq ?_)
  rw [bigSep_map, bigSep_univ_prod,
    ← around_dst (fun c f => (bigSep (Finset.Ico 0 15) fun n => writeTok ES ((c, f, par n) : SK) (n / 2 + 1) : sProp 𝕄))]
  refine bigSep_congr fun c _ => ?_
  rw [bigSep_univ_prod]
  refine bigSep_congr fun f _ => ?_
  rw [← bigSep_fin_Ico]; rfl

theorem readers_fams : (bigSep Finset.univ fun k : SK => (readerAt ES k 0 : sProp 𝕄))
    = bigSep Finset.univ fun c : Dev nD => bigSep Finset.univ fun f : Fin 4 => iprop(readerAt ES ((c, f, 0) : SK) 0 ∗ readerAt ES ((c, f, 1) : SK) 0) := by
  rw [bigSep_univ_prod]
  refine bigSep_congr fun c _ => ?_
  rw [bigSep_univ_prod]
  exact bigSep_congr fun f _ => bigSep_two _

/-! ## The credits -/

theorem oS_swap (c : Dev nD) : oS c 0 = ∑ f : Fin 4, (∑ j ∈ Finset.Ico 0 15, rT c f j + ∑ j ∈ Finset.Ico 0 15, cT c f j) := by
  unfold oS obl
  rw [Finset.sum_comm]
  exact Finset.sum_congr rfl fun f _ => Finset.sum_add_distrib

/-- The credits of device `c`'s own cells. -/
def credsIn (c : Dev nD) : sProp 𝕄 :=
  iprop((bigSep (Finset.range 15) fun k => cred (tallyAt (arcvC c (dist k)) 100 NA))
    ∗ (bigSep Finset.univ fun f : Fin 4 => iprop((bigSep (Finset.Ico 0 15) fun j => cred (tallyAt (rcvC c f (par j)) (2 * j + 2) NB))
        ∗ (bigSep (Finset.Ico 0 13) fun r => cred (tallyAt (crdC c f) (2 * r + 3) 1))))
    ∗ cred (tallyAt (barC c) 1 2))

theorem cred_rcv (c : Dev nD) (f : Fin 4) (j : ℕ) :
    (Pipeline.launchCred (fun d => rT d f j) c : sProp 𝕄) ⊢ cred (tallyAt (rcvC c f (par j)) (2 * j + 2) NB) :=
  Pipeline.launchCred_tallyAt (.dma (rsem f (par j))) (fun d => dst d f) (fun d => src d f) (fun d => dst_src d f) (fun d => src_dst d f) (2 * j + 2) NB c
theorem cred_crd (c : Dev nD) (f : Fin 4) {s : ℕ} (h : 1 ≤ s ∧ s ≤ 13) :
    (Pipeline.launchCred (fun d => cT d f s) c : sProp 𝕄) ⊢ cred (tallyAt (crdC c f) (2 * s + 1) 1) := by
  unfold cT
  simp only [if_pos h]
  exact Pipeline.launchCred_tallyAt (.reg (crd f)) (fun d => src d f) (fun d => dst d f) (fun d => src_dst d f) (fun d => dst_src d f) (2 * s + 1) 1 c
theorem cred_arcv (c : Dev nD) (k : Fin 15) :
    (Pipeline.launchCred (fun d => aT d k.val) c : sProp 𝕄) ⊢ cred (tallyAt (arcvC c (dist k.val)) 100 NA) :=
  Pipeline.launchCred_tallyAt (.dma (arsem (dist k.val))) (fun d => peer d (dist k.val)) (fun d => fwd d (k.val + 1)) (fun d => peer_inv d k) (fun d => inv_peer d k) 100 NA c

theorem creds_crd (c : Dev nD) (f : Fin 4) :
    (bigSep (Finset.Ico 0 15) fun j => (Pipeline.launchCred (fun d => cT d f j) c : sProp 𝕄)) ⊢ bigSep (Finset.Ico 0 13) fun r => cred (tallyAt (crdC c f) (2 * r + 3) 1) := by
  have hs : (Finset.Ico 0 13).image (· + 1) ⊆ Finset.Ico 0 15 := by decide
  refine (bigSep_sub hs _).trans ?_
  rw [bigSep_image_of_injOn (fun a _ b _ h => Nat.succ_injective h)]
  exact bigSep_mono fun r hr => cred_crd c f (s := r + 1) ⟨by omega, by have := (Finset.mem_Ico.mp hr).2; omega⟩

theorem creds (c : Dev nD) : (Pipeline.launchCred O₀ c : sProp 𝕄) ⊢ credsIn c := by
  have e : (O₀ : Dev nD → CellTallies nD τ sig ℕ) = fun d => (((∑ k ∈ Finset.range 15, aT d k) + ∑ f : Fin 4, (∑ j ∈ Finset.Ico 0 15, rT d f j + ∑ j ∈ Finset.Ico 0 15, cT d f j))
      + tallyAt (barC (right d)) 1 1) + tallyAt (barC (left d)) 1 1 := funext fun d => by unfold O₀ O₁ oA; rw [oS_swap]
  rw [e, Pipeline.launchCred_add, Pipeline.launchCred_add, Pipeline.launchCred_add, Pipeline.launchCred_sum, Pipeline.launchCred_sum]
  unfold credsIn
  iintro ⟨⟨⟨Ha, Hf⟩, Hr⟩, Hl⟩
  isplitl [Ha]
  · iapply (show (bigSep (Finset.range 15) fun k => (Pipeline.launchCred (fun d => aT d k) c : sProp 𝕄)) ⊢ bigSep (Finset.range 15) fun k => cred (tallyAt (arcvC c (dist k)) 100 NA) from
      bigSep_mono fun k hk => cred_arcv (F := F) c ⟨k, Finset.mem_range.mp hk⟩)
    iexact Ha
  isplitl [Hf]
  · iapply (show (bigSep Finset.univ fun f : Fin 4 => (Pipeline.launchCred (fun d => ∑ j ∈ Finset.Ico 0 15, rT d f j + ∑ j ∈ Finset.Ico 0 15, cT d f j) c : sProp 𝕄))
        ⊢ bigSep Finset.univ fun f : Fin 4 => iprop((bigSep (Finset.Ico 0 15) fun j => cred (tallyAt (rcvC c f (par j)) (2 * j + 2) NB))
        ∗ (bigSep (Finset.Ico 0 13) fun r => cred (tallyAt (crdC c f) (2 * r + 3) 1))) from bigSep_mono fun f _ => by
      rw [Pipeline.launchCred_add, Pipeline.launchCred_sum, Pipeline.launchCred_sum]
      exact BI.sep_mono (bigSep_mono fun j _ => cred_rcv c f j) (creds_crd c f))
    iexact Hf
  ihave Hr := (Pipeline.launchCred_tallyAt (.reg barS) right left (fun c => dst_src c 0) (fun c => src_dst c 0) 1 1 c) $$ Hr
  ihave Hl := (Pipeline.launchCred_tallyAt (.reg barS) left right (fun c => src_dst c 0) (fun c => dst_src c 0) 1 1 c) $$ Hl
  iapply (show iprop(cred (tallyAt (barC c) 1 1) ∗ cred (tallyAt (barC c) 1 1)) ⊢ (cred (tallyAt (barC c) 1 2) : sProp 𝕄) from
    (cred_add _ _).2.trans (Entails.of_eq (congrArg cred (tallyAt_add (barC c) 1 1 1))))
  isplitl [Hr]; · iexact Hr
  iexact Hl

end Cert.KernelIdeal.Ring
-- ==== Proof.Ring.Start.lean ====
/- The run: the launch, the body at the one point of the grid, and the exit. -/
module

public import proofs.«01_k».proof.Proof.Ring.Deal

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

open Idealize.ShloMosaic.Release (initSlots slots_init)
open Idealize.ShloMosaic.Pipeline (Dat Cfg Window BodyObligation cellOf)

variable (xs : Dev nD → XC F) (ws : Dev nD → WC F)

/-! ## What the launch deals -/

/-- What the launch's ghost state deals device `c`. -/
def dealt (c : Dev nD) : sProp 𝕄 :=
  iprop((bigSep Finset.univ fun k : KK => roundState ER (Rd xs ws) (cell (c, k)) 0) ∗ (bigSep Finset.univ fun k : KK => reached ER (cell (c, k)) 0)
    ∗ (bigSep Finset.univ fun k : KK => atPos ER (cell (c, k)) 0 ∅ 0) ∗ toks c)
/-- The slots' ghost state, on device 0 until the launch allocates their invariants. -/
def slotsAt (c : Dev nD) : sProp 𝕄 := if c = 0 then BI.own (ES (initSlots Finset.univ 8)) else iprop(emp)
def G (c : Dev nD) : sProp 𝕄 := iprop(dealt xs ws c ∗ slotsAt c)

def u₀ : UU := (initOf (Pipeline.cells cfgs cellOf_inj) (Pipeline.launchToks cfgs cellOf_inj), (initOf cellsF toksF, initSlots Finset.univ 8))

theorem fund_cells : BI.own (ER (initOf cellsF toksF)) ⊢ (|==> bigSep Finset.univ (dealt xs ws) : sProp 𝕄) := by
  have hX (Φ : GSem nD τ sig → sProp 𝕄) : bigSep cellsF Φ = bigSep Finset.univ fun c : Dev nD => bigSep Finset.univ fun k : KK => Φ (cell (c, k)) := by
    unfold cellsF; rw [bigSep_map, bigSep_univ_prod]; rfl
  have hT : bigSep toksF (fun x => (dutyTok ER x.1 x.2.1 x.2.2 : sProp 𝕄)) = bigSep Finset.univ fun c : Dev nD => toks c := by
    unfold toksF; rw [bigSep_map, bigSep_univ_prod]
    exact bigSep_congr fun c _ => toks_eq c
  iintro HX
  imod (Rounds.fund ER (Rd xs ws) cellsF toksF) $$ HX with ⟨Hst, Hr, Hat, Htok⟩
  imodintro
  ihave Hst := (Entails.of_eq (hX fun g => roundState ER (Rd xs ws) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hr]; · iexact Hr
  isplitl [Hat]; · iexact Hat
  iexact Htok

theorem slots_at : BI.own (ES (initSlots Finset.univ 8)) ⊢ (bigSep Finset.univ (slotsAt (F := F)) : sProp 𝕄) := by
  rw [bigSep_univ_at _ (0 : Dev nD), bigSep_congr (s := Finset.univ.erase (0 : Dev nD)) (Ψ := fun _ => BI.emp)
    fun c hc => by unfold slotsAt; rw [if_neg (Finset.ne_of_mem_erase hc)]; rfl]
  rw [BI.bigSep_emp_const]
  unfold slotsAt; rw [if_pos rfl]
  iintro H
  isplitl [H]; · iexact H
  iempintro
theorem slots_of : (bigSep Finset.univ (slotsAt (F := F)) : sProp 𝕄) ⊢ BI.own (ES (initSlots Finset.univ 8)) :=
  (show (bigSep Finset.univ (slotsAt (F := F)) : sProp 𝕄) ⊢ slotsAt 0 from bigSep_elim (Finset.mem_univ (0 : Dev nD))).trans
    (Entails.of_eq (by unfold slotsAt; rw [if_pos rfl]))

/-- The records but the levels. -/
def recs : sProp 𝕄 :=
  iprop((bigSep Finset.univ fun ck : Dev nD × KK => invE xs ws (cell ck)) ∗ (bigSep Finset.univ fun ck : Dev nD × KK => reached ER (cell ck) 0) ∗ sinvs)
instance recs_persistent : BI.Persistent (recs xs ws) := by unfold recs; infer_instance
/-- What is device `c`'s alone. -/
def ghostIn (c : Dev nD) : sProp 𝕄 :=
  iprop((bigSep Finset.univ fun k : KK => atPos ER (cell (c, k)) 0 ∅ 0) ∗ toksIn c
    ∗ (bigSep Finset.univ fun f : Fin 4 => iprop(readerAt ES ((c, f, 0) : SK) 0 ∗ readerAt ES ((c, f, 1) : SK) 0))
    ∗ (bigSep Finset.univ fun f : Fin 4 => bigSep (Finset.Ico 0 15) fun n => writeTok ES ((dst c f, f, par n) : SK) (n / 2 + 1)))
def G' (c : Dev nD) : sProp 𝕄 := iprop(recs xs ws ∗ ghostIn c)

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : KK => semVal (cell (c, k)) 0 : sProp 𝕄) := by
  rw [all_fams]
  unfold Pipeline.ownSems0 unscopedSems0
  rw [bigSep_eq_bigSepL_of_eq [SemLoc.reg barS] (by decide) (by decide)]
  show iprop(_ ∗ semVal (cell (c, Sum.inl ())) 0) ⊢ _
  iintro ⟨Ho, Hb⟩
  isplitl [Hb]; · iexact Hb
  iexact Ho

theorem core_alloc (c : Dev nD) :
    iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : KK => invE xs ws (cell (c, k))) ∗ (bigSep Finset.univ fun k : KK => reached ER (cell (c, k)) 0)
          ∗ (bigSep Finset.univ fun k : KK => atPos ER (cell (c, k)) 0 ∅ 0) ∗ toks c ∗ slotsAt c) := by
  unfold G dealt
  iintro ⟨Hos, Hus, ⟨Hst, Hr, Hat, Htok⟩, Hsl⟩
  ihave Hv := (sems0_eq (F := F) c) $$ [Hos Hus]
  · isplitl [Hos] <;> iassumption
  imod (show iprop((bigSep Finset.univ fun k : KK => semVal (cell (c, k)) 0) ∗ bigSep Finset.univ fun k : KK => roundState ER (Rd xs ws) (cell (c, k)) 0)
      ⊢ (|={Set.univ}=> bigSep Finset.univ fun k => invE xs ws (cell (c, k)) : sProp 𝕄) from by
        rw [← bigSep_sep']
        exact (bigSep_mono fun k _ => (Rounds.body_intro ER (Rd xs ws) (cell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

theorem slots_alloc : BI.own (ES (initSlots Finset.univ 8))
    ⊢ (|={Set.univ}=> (sinvs ∗ (bigSep Finset.univ fun c : Dev nD => bigSep Finset.univ fun f : Fin 4 => iprop(readerAt ES ((c, f, 0) : SK) 0 ∗ readerAt ES ((c, f, 1) : SK) 0))
        ∗ (bigSep Finset.univ fun c : Dev nD => bigSep Finset.univ fun f : Fin 4 => bigSep (Finset.Ico 0 15) fun n => writeTok ES ((dst c f, f, par n) : SK) (n / 2 + 1))) : sProp 𝕄) := by
  rw [← readers_fams]
  iintro H
  imod (slots_init ES (Finset.univ : Finset SK) 8 (fun k => anyAt (F := F) k.1 (commS k.2.1 k.2.2))) $$ H with ⟨%ι, -, Hi, Hr, Hw⟩
  imodintro
  isplitl [Hi]
  · unfold sinvs
    iapply (show (bigSep Finset.univ fun k : SK => slotInv ES (ι k) k (anyAt (F := F) k.1 (commS k.2.1 k.2.2)) : sProp 𝕄) ⊢ bigSep Finset.univ fun k : SK => sinvE k from
      bigSep_mono fun k _ => show (slotInv ES (ι k) k (anyAt (F := F) k.1 (commS k.2.1 k.2.2)) : sProp 𝕄) ⊢ sinvE k from by iintro H; iexists (ι k); iexact H)
    iexact Hi
  isplitl [Hr]; · iexact Hr
  iapply (writes_around (F := F)); iexact Hw

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KK => invE xs ws (cell (c, k))) ∗ (bigSep Finset.univ fun k : KK => reached ER (cell (c, k)) 0)
          ∗ (bigSep Finset.univ fun k : KK => atPos ER (cell (c, k)) 0 ∅ 0) ∗ toks c ∗ slotsAt c) : sProp 𝕄)
      ⊢ |={Set.univ}=> bigSep Finset.univ (G' xs ws) := by
  rw [bigSep_sep', bigSep_sep', bigSep_sep', bigSep_sep', ← bigSep_univ_prod (fun ck : Dev nD × KK => invE xs ws (cell ck)),
    ← bigSep_univ_prod (fun ck : Dev nD × KK => (reached ER (cell ck) 0 : sProp 𝕄)), toks_around]
  iintro ⟨#HI, #HR, Hat, Htok, Hsl⟩
  ihave Hsl := (slots_of (F := F)) $$ Hsl
  imod (slots_alloc (F := F)) $$ Hsl with ⟨#HS, Hrd, Hwt⟩
  imodintro
  iapply (with_persistent (R := recs xs ws) (Φ := ghostIn) fun c _ => show iprop(recs xs ws ∗ ghostIn c) ⊢ G' xs ws c from .rfl)
  isplitr
  · unfold recs
    isplitr; · iexact HI
    isplitr; · iexact HR
    iexact HS
  unfold ghostIn
  simp only [bigSep_sep']
  isplitl [Hat]; · iexact Hat
  isplitl [Htok]; · iexact Htok
  isplitl [Hrd]
  · iexact Hrd
  iexact Hwt

theorem glob : (bigSep Finset.univ fun c => iprop(Pipeline.ownSems0 (Ix := ℕ) (Name := ℕ) (U := UU) (Lvl := ℕ) (Val := Elt F) (τ := τ) osem c ∗ unscopedSems0 c ∗ G xs ws c) : sProp 𝕄)
    ⊢ |={Set.univ}=> bigSep Finset.univ (G' xs ws) := by
  iintro H
  imod (show (bigSep Finset.univ fun c => iprop(Pipeline.ownSems0 (Ix := ℕ) (Name := ℕ) (U := UU) (Lvl := ℕ) (Val := Elt F) (τ := τ) osem c ∗ unscopedSems0 c ∗ G xs ws c) : sProp 𝕄) ⊢ _ from
    (bigSep_mono fun c _ => core_alloc xs ws c).trans (bigSep_fupd _ _)) $$ H with H
  iapply (regroup xs ws); iexact H

theorem pos_fams (c : Dev nD) : (bigSep Finset.univ fun k : KK => (atPos ER (cell (c, k)) 0 ∅ 0 : sProp 𝕄))
    = iprop(atPos ER (barC c) 0 ∅ 0 ∗ (bigSep Finset.univ fun f : Fin 4 => atPos ER (crdC c f) 0 ∅ 0)
      ∗ (bigSep Finset.univ fun f : Fin 4 => iprop(atPos ER (sndC c f 0) 0 ∅ 0 ∗ atPos ER (sndC c f 1) 0 ∅ 0))
      ∗ (bigSep Finset.univ fun f : Fin 4 => iprop(atPos ER (rcvC c f 0) 0 ∅ 0 ∗ atPos ER (rcvC c f 1) 0 ∅ 0))
      ∗ (atPos ER (asndC c 0) 0 ∅ 0 ∗ bigSep (Finset.range 15) fun k => atPos ER (asndC c (dist k)) 0 ∅ 0)
      ∗ (atPos ER (arcvC c 0) 0 ∅ 0 ∗ bigSep (Finset.range 15) fun k => atPos ER (arcvC c (dist k)) 0 ∅ 0)) := by
  rw [all_fams, own_fams, ← bigSep_dists fun o => (atPos ER (asndC c o) 0 ∅ 0 : sProp 𝕄), ← bigSep_dists fun o => (atPos ER (arcvC c o) 0 ∅ 0 : sProp 𝕄)]
  rfl

theorem ins_intro (c : Dev nD) : iprop(ghostIn c ∗ credsIn c) ⊢ (ins c : sProp 𝕄) := by
  have e1 : (bigSep Finset.univ fun k : Fin 15 => (dutyTok ER (asndC c (dist k.val)) 0 0 : sProp 𝕄)) = bigSep (Finset.range 15) fun k => dutyTok ER (asndC c (dist k)) 0 0 :=
    bigSep_fin_val 15 fun k => dutyTok ER (asndC c (dist k)) 0 0
  have e2 : (bigSep Finset.univ fun k : Fin 15 => (dutyTok ER (arcvC (peer c (dist k.val)) (dist k.val)) 0 0 : sProp 𝕄))
      = bigSep (Finset.range 15) fun k => dutyTok ER (arcvC (peer c (dist k)) (dist k)) 0 0 := bigSep_fin_val 15 fun k => dutyTok ER (arcvC (peer c (dist k)) (dist k)) 0 0
  unfold ghostIn toksIn credsIn ins tailIn
  rw [pos_fams, e1, e2, ← bigSep_four (fun f => flowIn (F := F) c f)]
  unfold flowIn tok3 tokA
  simp only [bigSep_sep']
  iintro ⟨⟨⟨Hb, Hc, ⟨Hs0, Hs1⟩, ⟨Hr0, Hr1⟩, ⟨Ha0, Ha⟩, Hv0, Hv⟩, ⟨⟨Tb0, Tb1⟩, Tc, Ts, Tr, Ta, Tv⟩, ⟨Rd0, Rd1⟩, Wt⟩, Ca, ⟨Cr, Cc⟩, Cb⟩
  isplitl [Rd0 Rd1 Hc Hs0 Hs1 Hr0 Hr1 Tc Wt Tr Ts Cr Cc]
  · isplitl [Rd0 Rd1]
    · isplitl [Rd0]; · iexact Rd0
      iexact Rd1
    isplitl [Hc]; · iexact Hc
    isplitl [Hs0 Hs1]
    · isplitl [Hs0]; · iexact Hs0
      iexact Hs1
    isplitl [Hr0 Hr1]
    · isplitl [Hr0]; · iexact Hr0
      iexact Hr1
    isplitl [Tc]; · iexact Tc
    isplitl [Wt Tr Ts]
    · isplitl [Wt]; · iexact Wt
      isplitl [Tr]; · iexact Tr
      iexact Ts
    isplitl [Cr]; · iexact Cr
    iexact Cc
  isplitl [Ha Hv Ta Tv Ca]
  · isplitl [Ta Tv]
    · isplitl [Ta]; · iexact Ta
      iexact Tv
    isplitl [Ha Hv]
    · isplitl [Ha]; · iexact Ha
      iexact Hv
    iexact Ca
  isplitl [Ha0 Hv0]
  · isplitl [Ha0]; · iexact Ha0
    iexact Hv0
  isplitl [Hb]; · iexact Hb
  isplitl [Tb0]; · iexact Tb0
  isplitl [Tb1]; · iexact Tb1
  iexact Cb

end Cert.KernelIdeal.Ring
-- ==== Proof.Ring.TextEq.lean ====
/- The printed body is the text. -/
module

public import proofs.«01_k».proof.Proof.Ring.Text

@[expose] public section

noncomputable section

namespace Cert.KernelIdeal.Ring

open Idealize.ShloMosaic Idealize.ShloMosaic.TcCoe Idealize.ShloMosaic.Tactic
open Idealize.SL.Sem
open Cert.KernelIdeal Cert.KernelIdeal.Gen

variable {F : FTy → Type} [FloatOps F]

/-- The printed body at the program's scratch operands. -/
abbrev body (stx : Memref sig .tc .vmem S4096x256 .f32) (hx : stx.IsWhole) (stw : Memref sig .tc .vmem S256x2048 .f32) (hw : stw.IsWhole)
    (sto : Memref sig .tc .vmem S256x2048 .f32) (ho : sto.IsWhole) : Prog (TpuEff nD τ sig (Elt F) Λ₀ .tc) PUnit :=
  cc0_body stx hx stw hw sto ho (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24

theorem body_eq (stx : Memref sig .tc .vmem S4096x256 .f32) (hx : stx.IsWhole) (stw : Memref sig .tc .vmem S256x2048 .f32) (hw : stw.IsWhole)
    (sto : Memref sig .tc .vmem S256x2048 .f32) (ho : sto.IsWhole) : body (F := F) stx hx stw hw sto ho = text stx stw sto := by
  sl_kernel_rfl

end Cert.KernelIdeal.Ring
-- ==== Proof.Ring.Launch.lean ====
/- The run: the body at the one point of the grid, the launch, and the exit. -/
module

public import proofs.«01_k».proof.Proof.Ring.Start
public import proofs.«01_k».proof.Proof.Ring.TextEq
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots readerAt released writeTok slot slotInv slot_take slot_release slot_slot_false)
open Cert.KernelIdeal Cert.KernelIdeal.Gen

variable {F : FTy → Type} [FloatOps F]

local notation "𝕄" => MT nD τ sig ℕ (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- The staged operands of device `c`. -/
def xsOf (c : Dev nD) : XC F := (win0_0.blk (0 : Fin 1)).view.read (Elt F) (m ((c : Thread nD τ).loc main_arg0))
def wsOf (c : Dev nD) : WC F := (win0_1.blk (0 : Fin 1)).view.read (Elt F) (m ((c : Thread nD τ).loc main_arg1))

/-- What device `c`'s body starts from, besides the scratch. -/
def start (c : Dev nD) : sProp 𝕄 := iprop(Rec (xsOf m) (wsOf m) ∗ ins c)
def Φ₀ (c : Dev nD) : sProp 𝕄 := iprop(start m c ∗ scr c)
/-- After the body: the scratch, and every semaphore at zero. -/
def Φ₁ (c : Dev nD) : sProp 𝕄 := iprop(scr c ∗ semVal (barC c) 0 ∗ bigSep Finset.univ (fun k : CK => semVal ((c : Thread nD τ), osem k) 0))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xsOf m c
    | ⟨1, _⟩ => wsOf m c
    | ⟨2, _⟩ => outFin (xsOf m) (wsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem bigSep_W (Φ : Fin cfg0.W → sProp 𝕄) : bigSep Finset.univ Φ = iprop(Φ (0 : Fin 3) ∗ Φ (1 : Fin 3) ∗ Φ (2 : Fin 3)) := bigSep_W0 Φ
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m ρ 0 c).before (0 : Fin 3) t₀ d = xsOf m c := by
  unfold Dat.before; rw [if_pos (fetch_0 t₀)]; rfl
theorem before_1 (c : Dev nD) (d) : (dats m ρ 0 c).before (1 : Fin 3) t₀ d = wsOf m c := by
  unfold Dat.before; rw [if_pos (fetch_1 t₀)]; rfl

set_option maxRecDepth 50000 in
def bodyPre (c : Dev nD) : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
set_option maxRecDepth 50000 in
def bodyPost (c : Dev nD) : sProp 𝕄 :=
  iprop(Φ₁ c ∗ (dats m ρ 0 c).owesAt 0 t₀.succ ∗ stg c cc0_stg0_0 (xsOf m c) ∗ stg c cc0_stg1_0 (wsOf m c) ∗ stg c cc0_stg2_0 (outFin (xsOf m) (wsOf m) c))

set_option maxRecDepth 50000 in
theorem run_body (c : Dev nD) : bodyPre m ρ c ⊢ WP c (text stX stW stO) (fun _ => bodyPost m ρ c) := by
  unfold bodyPre Φ₀ start
  iintro ⟨⟨⟨#Hrec, Hin⟩, Hscr⟩, Ho, ⟨%d0, %f0, %e0, Hx⟩, ⟨%d1, %f1, %e1, Hw⟩, ⟨%d2, %f2, %e2, Hout⟩⟩
  rw [before_0] at e0
  rw [before_1] at e1
  subst e0 e1
  iapply (wp_text (xsOf m) (wsOf m) c f2) $$ [Hin Hscr Ho Hx Hw Hout]
  · isplitr; · iexact Hrec
    isplitl [Hin]; · iexact Hin
    isplitl [Hscr]; · iexact Hscr
    isplitl [Ho]
    · unfold Dat.owesAt Pipeline.owesWithin owesE
      icases Ho with ⟨%W, -, Ho⟩
      iexists W; iexact Ho
    isplitl [Hx]; · iexact Hx
    isplitl [Hw]; · iexact Hw
    iexact Hout
  iintro ⟨HΦ, Ho, Hx, Hw, Hout⟩
  unfold WP
  rw [wp_ret]; imodintro
  unfold bodyPost Φ₁ Dat.owesAt Pipeline.owesWithin owesE
  rw [show (dats m ρ 0 c).owed t₀.succ = 0 from rfl]
  isplitl [HΦ]; · iexact HΦ
  isplitl [Ho]
  · icases Ho with ⟨%W, Ho⟩
    iexists W
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 50000 in
/-- The library's body obligation on core `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (Cert.KernelIdeal.Ring.body (Memref.whole cc0_stg0_0) (Memref.isWhole_whole _) (Memref.whole cc0_stg1_0) (Memref.isWhole_whole _) (Memref.whole cc0_stg2_0) (Memref.isWhole_whole _))
    (fun _ => bodyPost m ρ c)
  rw [body_eq]
  exact run_body m ρ c

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsOf m) (wsOf m) c)
      ⊢ |={Set.univ}=> iprop(start m c ∗ emp) := by
  iintro ⟨-, Hlev, Hcr, -, HG⟩
  ihave Hc := (creds (F := F) c) $$ Hcr
  imodintro
  unfold start G' recs
  icases HG with ⟨⟨HI, HR, HS⟩, Hg⟩
  isplitl
  · isplitl [HI HR HS Hlev]
    · unfold Rec
      isplitl [HI]; · iexact HI
      isplitl [HR]; · iexact HR
      isplitl [HS]; · iexact HS
      unfold levs; iexact Hlev
    iapply (ins_intro (F := F) c)
    isplitl [Hg]; · iexact Hg
    iexact Hc
  · iempintro

theorem scr_eq (c : Dev nD) : (Pipeline.scopedRest cfg0.spec c : sProp 𝕄) ⊢ scr c := by
  rw [scopedRest0_eq]
  unfold scr slotsAny
  rw [comm_any, comm_any, comm_any, comm_any, sbuf_any, sbuf_any, sbuf_any, sbuf_any]
  iintro ⟨H0, H1, H2, H3, H4, H5, H6, H7, H8, H9, H10⟩
  isplitl [H0]; · iexact H0
  isplitl [H1]; · iexact H1
  isplitl [H2]; · iexact H2
  isplitl [H3 H7 H4 H8]
  · isplitl [H3 H7]
    · isplitl [H3]; · iexact H3
      iexact H7
    isplitl [H4]; · iexact H4
    iexact H8
  isplitl [H5 H9]
  · isplitl [H5]; · iexact H5
    iexact H9
  isplitl [H6]; · iexact H6
  iexact H10
theorem eq_scr (c : Dev nD) : scr c ⊢ (Pipeline.scopedRest cfg0.spec c : sProp 𝕄) := by
  rw [scopedRest0_eq]
  unfold scr slotsAny
  rw [comm_any, comm_any, comm_any, comm_any, sbuf_any, sbuf_any, sbuf_any, sbuf_any]
  iintro ⟨H0, H1, H2, ⟨⟨H3, H7⟩, H4, H8⟩, ⟨H5, H9⟩, H6, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scr_eq (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁ Pipeline.ownSems0 unscopedSems0
  rw [bigSep_eq_bigSepL_of_eq [SemLoc.reg barS] (by decide) (by decide)]
  show _ ⊢ iprop(semVal (barC c) 0 ∗ _ ∗ _)
  iintro ⟨Hr, Hb, Ho⟩
  isplitl [Hb]; · iexact Hb
  isplitl [Ho]; · iexact Ho
  iapply (eq_scr (F := F) c); iexact Hr

theorem above_O₀ (c : Dev nD) : Above 1 (O₀ c) :=
  above_add (above_add (above_add (above_mono (by decide) (above_oA c 15)) (above_mono (by decide) (above_oS c 0))) (above_tally _ _ le_rfl (by decide)))
    (above_tally _ _ le_rfl (by decide))

theorem waits (c : Dev nD) : (levAts L lv : sProp 𝕄) ⊢ Pipeline.cellsWaits cfgs (dats m ρ) 0 0 c :=
  Pipeline.cellsWaits_intro cfgs (dats m ρ) 0 0 c fun w s t =>
    mayWait_above (b := 1) (by
      rcases t with ⟨_ | _, ht⟩
      · exact above_O₀ c
      · exact above_zero 1) (by decide) (by decide)

/-! ## The run -/

def finalA (c : Dev nD) (w : Fin cfg0.W) : Buf (Elt F) ((cfg0.win w).arr.view.loc (c : Thread nD τ)) := (dats m ρ 0 c).arrAt w cfg0.N

set_option maxRecDepth 50000 in
def QC : PUnit × MemSt nD τ sig (Elt F) → Prop := fun r =>
  ∀ c : Dev nD, ∀ w : Fin cfg0.W, r.2.mem ((cfg0.win w).arr.view.loc (c : Thread nD τ)) = finalA m ρ c w

set_option maxRecDepth 50000 in
/-- Every weakly fair run ends, with each window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xsOf m) (wsOf m)) (G' := G' (xsOf m) (wsOf m)) (u₀ := u₀)
    (hu₀ := by
      unfold u₀
      iintro Hu
      ihave H := (ownU_pair _ _) $$ Hu
      icases H with ⟨HP, HX⟩
      ihave HX := (own_pair_emb embR (initOf cellsF toksF) (Release.initSlots (Finset.univ : Finset SK) 8)) $$ HX
      icases HX with ⟨HX, HS⟩
      imod (fund_cells (xsOf m) (wsOf m)) $$ HX with HG
      ihave HS := (slots_at (F := F)) $$ HS
      imodintro
      isplitl [HP]; · iexact HP
      unfold G; simp only [bigSep_sep']
      isplitl [HG]; · iexact HG
      iexact HS)
    (hglob := glob (xsOf m) (wsOf m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 50000 in
/-- The argument arrays after the run hold what they held. -/
theorem finalA_0 (c : Dev nD) : finalA m ρ c (0 : Fin 3) = m ((c : Thread nD τ).loc main_arg0) := (dats (F := F) m ρ 0 c).arrAt_in (0 : Fin 3) rfl _
set_option maxRecDepth 50000 in
theorem finalA_1 (c : Dev nD) : finalA m ρ c (1 : Fin 3) = m ((c : Thread nD τ).loc main_arg1) := (dats (F := F) m ρ 0 c).arrAt_in (1 : Fin 3) rfl _

end Cert.KernelIdeal.Ring
-- ==== Proof.Ring.Frames.lean ====
/- The frame claims of the kernel, at both instances. -/
module

public import proofs.«01_k».proof.Defs
public import proofs.«01_k».proof.Proof.Gen.Kernel
public import proofs.«01_k».proof.Proof.Ring.Launch

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

set_option maxRecDepth 50000 in
/-- The arguments end unchanged and every counter ends at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 0).trans (finalA_0 m ρ c), (h.1 c 1).trans (finalA_1 m ρ c)⟩, h.2⟩) (run_main m ρ)

theorem frame_ideal : Cert.quiescent_KernelIdeal := fun m ρ _ => frame m ρ

end Cert.KernelIdeal.Ring

namespace Cert.Kernel.Ring

open Idealize.ShloMosaic Idealize.ShloMosaic.TcCoe Idealize.SL.Sem

set_option maxRecDepth 50000 in
/-- The kernel as printed is the same program. -/
theorem frame_bits : Cert.quiescent_Kernel := fun m ρ _ =>
  cast (by sl_kernel_rfl) (Cert.KernelIdeal.Ring.frame (F := Bits) m ρ)

end Cert.Kernel.Ring

end
-- ==== Proof.Value.Final.lean ====
/- The kernel's result array after the run. -/
module

public import proofs.«01_k».proof.Proof.Ring.Launch
public import Idealize.ShloMosaic.Lib.Pipeline.ValueKit

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

set_option maxRecDepth 50000 in
/-- The result array ends at the block of `outFin`. -/
theorem finalA_2 (c : Dev nD) : finalA m ρ c (2 : Fin 3) = outFin (xsOf m) (wsOf m) c := by
  refine (dats (F := F) m ρ 0 c).arrAt_eq_of_covers (2 : Fin 3) _ (by decide +kernel) fun t hf y => ?_
  have e : ((cfg0.win (2 : Fin 3)).blk t).view.emb y = y := by
    refine funext fun (a : Fin 2) => Fin.ext ?_
    obtain rfl : t = (0 : Fin 1) := @Subsingleton.elim (Fin 1) _ t 0
    rcases (show a = (0 : Fin 2) ∨ a = (1 : Fin 2) by revert a; decide) with rfl | rfl
    · show 0 + 1 * (y (0 : Fin 2)).val = (y (0 : Fin 2)).val; omega
    · show 0 + 1 * (y (1 : Fin 2)).val = (y (1 : Fin 2)).val; omega
  rw [e]
  rfl

/-- The staged blocks are the argument arrays. -/
theorem xsOf_eq (c : Dev nD) : xsOf m c = m ((c : Thread nD τ).loc main_arg0) := by
  refine funext fun (y : S4096x256.Idx) => ?_
  show m ((c : Thread nD τ).loc main_arg0) ((win0_0.blk (0 : Fin 1)).view.emb y) = _
  refine congrArg _ (funext fun (a : Fin 2) => Fin.ext ?_)
  rcases (show a = (0 : Fin 2) ∨ a = (1 : Fin 2) by revert a; decide) with rfl | rfl
  · show 0 + 1 * (y (0 : Fin 2)).val = (y (0 : Fin 2)).val; omega
  · show 0 + 1 * (y (1 : Fin 2)).val = (y (1 : Fin 2)).val; omega
theorem wsOf_eq (c : Dev nD) : wsOf m c = m ((c : Thread nD τ).loc main_arg1) := by
  refine funext fun (y : S256x2048.Idx) => ?_
  show m ((c : Thread nD τ).loc main_arg1) ((win0_1.blk (0 : Fin 1)).view.emb y) = _
  refine congrArg _ (funext fun (a : Fin 2) => Fin.ext ?_)
  rcases (show a = (0 : Fin 2) ∨ a = (1 : Fin 2) by revert a; decide) with rfl | rfl
  · show 0 + 1 * (y (0 : Fin 2)).val = (y (0 : Fin 2)).val; omega
  · show 0 + 1 * (y (1 : Fin 2)).val = (y (1 : Fin 2)).val; omega

end Cert.KernelIdeal.Ring

end
-- ==== Proof.Value.RefFinal.lean ====
/- The reference's result array after the run. -/
module

public import proofs.«01_k».proof.Proof.Gen.ReferenceIdeal.Frame
public import Idealize.ShloMosaic.Lib.Pipeline.ValueKit

@[expose] public section

noncomputable section

namespace Cert.ReferenceIdeal.Whole

open Idealize.ShloMosaic Idealize.ShloMosaic.TcCoe Idealize.SL.Sem
open Cert.ReferenceIdeal Cert.ReferenceIdeal.Gen

variable {F : FTy → Type} [FloatOps F]
variable (m : (ℓ : Loc nD τ sig) → Buf (Elt F) ℓ) (ρ : Dev nD → PrngReg)

/-- Each staged block is its argument array. -/
theorem iblk_0 (c : Dev nD) (t : Fin cfg0.N) : iblk m c 0 t = m ((c : Thread nD τ).loc main_arg0) := by
  obtain rfl : t = (0 : Fin 1) := @Subsingleton.elim (Fin 1) _ t 0
  refine funext fun (y : S4096x4096.Idx) => ?_
  show m ((c : Thread nD τ).loc main_arg0) ((win0_0.blk (0 : Fin 1)).view.emb y) = _
  refine congrArg _ (funext fun (a : Fin 2) => Fin.ext ?_)
  rcases (show a = (0 : Fin 2) ∨ a = (1 : Fin 2) by revert a; decide) with rfl | rfl
  · show 0 + 1 * (y (0 : Fin 2)).val = (y (0 : Fin 2)).val; omega
  · show 0 + 1 * (y (1 : Fin 2)).val = (y (1 : Fin 2)).val; omega
theorem iblk_1 (c : Dev nD) (t : Fin cfg0.N) : iblk m c 1 t = m ((c : Thread nD τ).loc main_arg1) := by
  obtain rfl : t = (0 : Fin 1) := @Subsingleton.elim (Fin 1) _ t 0
  refine funext fun (y : S4096x2048.Idx) => ?_
  show m ((c : Thread nD τ).loc main_arg1) ((win0_1.blk (0 : Fin 1)).view.emb y) = _
  refine congrArg _ (funext fun (a : Fin 2) => Fin.ext ?_)
  rcases (show a = (0 : Fin 2) ∨ a = (1 : Fin 2) by revert a; decide) with rfl | rfl
  · show 0 + 1 * (y (0 : Fin 2)).val = (y (0 : Fin 2)).val; omega
  · show 0 + 1 * (y (1 : Fin 2)).val = (y (1 : Fin 2)).val; omega

/-- The result array ends at the body's stored value of the two argument arrays. -/
theorem final_2 (c : Dev nD) :
    (dats m 0 c).arrAt (2 : Fin 3) cfg0.N = out0_2 (m ((c : Thread nD τ).loc main_arg0)) (m ((c : Thread nD τ).loc main_arg1)) := by
  refine (dats (F := F) m 0 c).arrAt_eq_of_covers (2 : Fin 3) _ (by decide +kernel) fun t hf y => ?_
  have e : ((cfg0.win (2 : Fin 3)).blk t).view.emb y = y := by
    refine funext fun (a : Fin 2) => Fin.ext ?_
    obtain rfl : t = (0 : Fin 1) := @Subsingleton.elim (Fin 1) _ t 0
    rcases (show a = (0 : Fin 2) ∨ a = (1 : Fin 2) by revert a; decide) with rfl | rfl
    · show 0 + 1 * (y (0 : Fin 2)).val = (y (0 : Fin 2)).val; omega
    · show 0 + 1 * (y (1 : Fin 2)).val = (y (1 : Fin 2)).val; omega
  rw [e, after0_2, iblk_0 m c t, iblk_1 m c t]
  generalize out0_2 (m ((c : Thread nD τ).loc main_arg0)) (m ((c : Thread nD τ).loc main_arg1)) = G
  rfl

/-- The run, read at the three arrays. -/
theorem run : θ_run defs (onTc (τ := τ) (main (F := F))) ⟨m, fun _ => 0, ρ⟩ fun r => ∀ c : Dev nD,
      r.2.mem ((c.tc : Thread nD τ).loc main_v0) = out0_2 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final_2 m c),
      ((h c).1 0).trans ((dats m 0 c).arrAt_in 0 rfl _), ((h c).1 1).trans ((dats m 0 c).arrAt_in 1 rfl _)⟩)
    (run_main m ρ)

end Cert.ReferenceIdeal.Whole

end
-- ==== Proof.Value.RefValue.lean ====
/- What the reference computes at the ideal instance, element by element. -/
module

public import proofs.«01_k».proof.Proof.Gen.ReferenceIdeal.Frame
public import Idealize.ShloMosaic.Lib.Pointwise
public import Mathlib.Data.BitVec
public import Idealize.ShloMosaic.Lib.Pipeline.ValueKit

@[expose] public section

noncomputable section

namespace Cert.ReferenceIdeal.Whole

open Idealize.ShloMosaic
open Cert.ReferenceIdeal Cert.ReferenceIdeal.Gen

/-- A number, rounded to the wire's integers. -/
abbrev rnd (v : EReal) : BitVec 16 := Ideal.fptosi 16 (Ideal.liftRound Ideal.roundHalfEven v)

/-- One slab's product, scaled and rounded. -/
def slab (a : Vec Ideal S4096x256 .f32) (b : Vec Ideal S256x2048 .f32) : IVec S4096x2048 16 := fun j =>
  rnd ((∑ k : Fin 256, a (ix2 (j 0) k) * b (ix2 k (j 1))) * Ideal.ofBits .f32 0x45000000#32)

theorem slab_eq (a : Vec Ideal S4096x256 .f32) (b : Vec Ideal S256x2048 .f32) :
    (fptosi 16 (roundeven (mulf (matmul dot_S4096x256_S256x2048_S4096x2048_1_0_0_1_n_n none (φ₁ := .f32) (φ₂ := .f32) a b (constant S4096x2048 .f32 0x00000000#32))
      (broadcast S4096x2048 (Scalar.ofBits (F := Ideal) .f32 0x45000000#32)))) : IVec S4096x2048 16) = slab a b := by
  funext j
  pointwise [slab]
  rfl

/-- Slab `p` of the whole product at an element, scaled and rounded. -/
def term (X : Vec Ideal S4096x4096 .f32) (W : Vec Ideal S4096x2048 .f32) (r : Fin 4096) (l : Fin 2048) (p : Fin 16) : BitVec 16 :=
  rnd ((∑ k : Fin 256, X (ix2 r ⟨256 * p.val + k.val, by omega⟩) * W (ix2 ⟨256 * p.val + k.val, by omega⟩ l))
    * Ideal.ofBits .f32 0x45000000#32)

/-- The sum of the sixteen rounded slabs. -/
def acc (X : Vec Ideal S4096x4096 .f32) (W : Vec Ideal S4096x2048 .f32) : IVec S4096x2048 16 := fun j =>
  ∑ p : Fin 16, term X W (j 0) (j 1) p

set_option maxRecDepth 16384 in
theorem slab_ld (X : Vec Ideal S4096x4096 .f32) (W : Vec Ideal S4096x2048 .f32) (p : Fin 16) (o : ℕ) (ho : o = 256 * p.val)
    (h1 : ∀ a : Fin 2, (![0, o] : Fin 2 → Nat) a + S4096x256.size a ≤ S4096x4096.size a)
    (h2 : ∀ a : Fin 2, (![o, 0] : Fin 2 → Nat) a + S256x2048.size a ≤ S4096x2048.size a) (j : S4096x2048.Idx) :
    slab (View.ld X (Rect.unit (s := S4096x4096) ![0, o] S4096x256.size h1)) (View.ld W (Rect.unit (s := S4096x2048) ![o, 0] S256x2048.size h2)) j
      = term X W (j 0) (j 1) p := by
  subst ho
  unfold slab term
  refine congrArg rnd (congrArg (· * _) (Finset.sum_congr rfl fun k _ => ?_))
  refine congrArg₂ (· * ·) (congrArg X (funext fun (a : Fin 2) => Fin.ext ?_)) (congrArg W (funext fun (a : Fin 2) => Fin.ext ?_))
  · rcases (show a = (0 : Fin 2) ∨ a = (1 : Fin 2) by revert a; decide) with rfl | rfl
    · show 0 + 1 * (j (0 : Fin 2)).val = (j (0 : Fin 2)).val; omega
    · show 256 * p.val + 1 * k.val = 256 * p.val + k.val; omega
  · rcases (show a = (0 : Fin 2) ∨ a = (1 : Fin 2) by revert a; decide) with rfl | rfl
    · show 256 * p.val + 1 * k.val = 256 * p.val + k.val; omega
    · show 0 + 1 * (j (1 : Fin 2)).val = (j (1 : Fin 2)).val; omega

/-- The quotient `y` the body quantises. -/
def yOf (X : Vec Ideal S4096x4096 .f32) (W : Vec Ideal S4096x2048 .f32) : FVec Ideal S4096x2048 .f32 :=
  divf (sitofp .f32 (acc X W)) (broadcast S4096x2048 (Scalar.ofBits (F := Ideal) .f32 0x45000000#32))

theorem sum_sixteen (f : Fin 16 → BitVec 16) :
    ∑ p, f p = 0#16 + f 0 + f 1 + f 2 + f 3 + f 4 + f 5 + f 6 + f 7 + f 8 + f 9 + f 10 + f 11 + f 12 + f 13 + f 14 + f 15 := by
  simp only [Fin.sum_univ_castSucc, Finset.univ_eq_empty, Finset.sum_empty]
  rfl

theorem pay7_eq (X : Vec Ideal S4096x4096 .f32) (W : Vec Ideal S4096x2048 .f32) :
    k0_pay7 (k0_pay10 X W) (k0_pay11 X W) (k0_pay12 X W) (View.ld X r0_26) (View.ld W r0_27) (View.ld X r0_28) (View.ld W r0_29)
      (View.ld X r0_30) (View.ld W r0_31) = yOf X W := by
  unfold k0_pay7 yOf k0_pay10 k0_pay11 k0_pay12 k0_pay4 k0_pay3 k0_pay2 k0_pay5 k0_pay6
  refine congrArg (fun a : IVec S4096x2048 16 => divf (sitofp .f32 a) _) ?_
  simp only [slab_eq]
  funext j
  show _ = ∑ p : Fin 16, term X W (j 0) (j 1) p
  rw [sum_sixteen]
  refine congrArg₂ (· + ·) ?_ (slab_ld X W 15 3840 rfl _ _ j)
  refine congrArg₂ (· + ·) ?_ (slab_ld X W 14 3584 rfl _ _ j)
  refine congrArg₂ (· + ·) ?_ (slab_ld X W 13 3328 rfl _ _ j)
  refine congrArg₂ (· + ·) ?_ (slab_ld X W 12 3072 rfl _ _ j)
  refine congrArg₂ (· + ·) ?_ (slab_ld X W 11 2816 rfl _ _ j)
  refine congrArg₂ (· + ·) ?_ (slab_ld X W 10 2560 rfl _ _ j)
  refine congrArg₂ (· + ·) ?_ (slab_ld X W 9 2304 rfl _ _ j)
  refine congrArg₂ (· + ·) ?_ (slab_ld X W 8 2048 rfl _ _ j)
  refine congrArg₂ (· + ·) ?_ (slab_ld X W 7 1792 rfl _ _ j)
  refine congrArg₂ (· + ·) ?_ (slab_ld X W 6 1536 rfl _ _ j)
  refine congrArg₂ (· + ·) ?_ (slab_ld X W 5 1280 rfl _ _ j)
  refine congrArg₂ (· + ·) ?_ (slab_ld X W 4 1024 rfl _ _ j)
  refine congrArg₂ (· + ·) ?_ (slab_ld X W 3 768 rfl _ _ j)
  refine congrArg₂ (· + ·) ?_ (slab_ld X W 2 512 rfl _ _ j)
  refine congrArg₂ (· + ·) ?_ (slab_ld X W 1 256 rfl _ _ j)
  refine congrArg₂ (· + ·) ?_ (slab_ld X W 0 0 rfl _ _ j)
  rfl

/-- The scale the body quantises by. -/
def scaleOf (y : FVec Ideal S4096x2048 .f32) : EReal :=
  Ideal.div (extractAt ![0, 0, 0] (shapeCast S1x1x1 (multiReduction .maximumf [1, 2] S1 (shapeCast S1x4096x2048 (absf y) shapeCasts_S4096x2048_S1x4096x2048)
    0xFF800000#32 reduces_S1x4096x2048_S1 (.inl rfl) rfl) shapeCasts_S1_S1x1x1) inpos_S1x1x1_p0_0_0) (Ideal.ofBits .f32 0x43E00000#32)

/-- The stored array, element by element. -/
theorem out_eq (X : Vec Ideal S4096x4096 .f32) (W : Vec Ideal S4096x2048 .f32) (j : S4096x2048.Idx) :
    out0_2 X W j = min (max (Ideal.div (yOf X W j) (scaleOf (yOf X W))) (Ideal.ofBits .f32 0xC3E00000#32)) (Ideal.ofBits .f32 0x43E00000#32)
      * scaleOf (yOf X W) := by
  have hz : (![0, 0] : Fin 2 → Nat) = fun _ => 0 := by funext a; revert a; decide
  unfold out0_2
  rw [View.canon_unit_zero hz]
  unfold k0_pay9 k0_pay8
  rw [pay7_eq]
  generalize yOf X W = y
  rfl

end Cert.ReferenceIdeal.Whole

end
-- ==== Proof.Value.Scalar.lean ====
/- The quantiser over the extended reals: dividing by the scale, clipping, and multiplying back. -/
module

public import Idealize.ShloMosaic.PureOps
public import Idealize.ShloMosaic.PureOps.Ideal.Laws

@[expose] public section

noncomputable section

namespace Cert.Quantiser

open Idealize.ShloMosaic

theorem lit_2048 : Ideal.ofBits .f32 0x45000000#32 = ((2048 : ℝ) : EReal) := by
  simp [Ideal.ofBits, Ideal.ieee, -EReal.coe_mul, -EReal.coe_neg]; norm_num
theorem lit_448 : Ideal.ofBits .f32 0x43E00000#32 = ((448 : ℝ) : EReal) := by
  simp [Ideal.ofBits, Ideal.ieee, -EReal.coe_mul, -EReal.coe_neg]; norm_num
theorem lit_neg448 : Ideal.ofBits .f32 0xC3E00000#32 = ((-448 : ℝ) : EReal) := by
  simp [Ideal.ofBits, Ideal.ieee, -EReal.coe_mul, -EReal.coe_neg]; norm_num
theorem lit_917504 : Ideal.ofBits .f32 0x49600000#32 = ((917504 : ℝ) : EReal) := by
  simp [Ideal.ofBits, Ideal.ieee, -EReal.coe_mul, -EReal.coe_neg]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

/-- Division of reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The kernel's quantiser: times `448 / A`, then times `A / 917504`, is division by 2048. -/
theorem kernel_quant (a A : ℝ) (h : |a| ≤ A) :
    ((a : EReal) * Ideal.div ((448 : ℝ) : EReal) (A : EReal)) * Ideal.div (A : EReal) ((917504 : ℝ) : EReal) = ((a / 2048 : ℝ) : EReal) := by
  rw [div_coe A 917504 (by norm_num)]
  by_cases hA : A = 0
  · have ha : a = 0 := abs_eq_zero.1 (le_antisymm (hA ▸ h) (abs_nonneg a))
    subst hA; subst ha
    simp
  · rw [div_coe 448 A hA, ← EReal.coe_mul, ← EReal.coe_mul]
    refine congrArg _ ?_
    field_simp
    ring

/-- The reference's quantiser: divided by the scale, clipped, times the scale, is the value itself. -/
theorem reference_quant (y M : ℝ) (h : |y| ≤ M) :
    min (max (Ideal.div (y : EReal) (Ideal.div (M : EReal) ((448 : ℝ) : EReal))) ((-448 : ℝ) : EReal)) ((448 : ℝ) : EReal)
      * Ideal.div (M : EReal) ((448 : ℝ) : EReal) = (y : EReal) := by
  rw [div_coe M 448 (by norm_num)]
  by_cases hM : M = 0
  · have hy : y = 0 := abs_eq_zero.1 (le_antisymm (hM ▸ h) (abs_nonneg y))
    subst hM; subst hy
    simp
  · have hp : 0 < M := lt_of_le_of_ne ((abs_nonneg y).trans h) (Ne.symm hM)
    have hs : M / 448 ≠ 0 := by positivity
    obtain ⟨h1, h2⟩ := abs_le.1 h
    rw [div_coe y _ hs]
    have e1 : (-448 : ℝ) ≤ y / (M / 448) := by rw [le_div_iff₀ (by positivity)]; linarith
    have e2 : y / (M / 448) ≤ (448 : ℝ) := by rw [div_le_iff₀ (by positivity)]; linarith
    rw [max_eq_left (by exact_mod_cast e1), min_eq_left (by exact_mod_cast e2), ← EReal.coe_mul]
    exact congrArg _ (div_mul_cancel₀ y hs)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The split product of finite factors: the low halves are exact differences, so zero. -/
theorem split_dot {ι : Type} [Fintype ι] (a b : ι → EReal) (ha : ∀ k, ∃ x : ℝ, a k = x) (hb : ∀ k, ∃ x : ℝ, b k = x) (c : ℝ) :
    (∑ k, a k * (b k * (c : EReal))) + ((∑ k, a k * (b k * (c : EReal) - b k * (c : EReal))) + ∑ k, (a k - a k) * (b k * (c : EReal)))
      = (∑ k, a k * b k) * (c : EReal) := by
  choose x hx using ha
  choose y hy using hb
  simp only [hx, hy, ← EReal.coe_mul, ← EReal.coe_sub, ← coe_sum, ← EReal.coe_add]
  refine congrArg _ ?_
  simp only [sub_self, mul_zero, zero_mul, Finset.sum_const_zero, add_zero, Finset.sum_mul, mul_assoc]

/-- The size of a 16-bit integer. -/
theorem toInt_abs_le (a : BitVec 16) : |(a.toInt : ℝ)| ≤ 32768 := by
  have h1 := a.le_toInt
  have h2 := a.toInt_lt
  rw [abs_le]
  constructor
  · exact_mod_cast (by norm_num at h1 ⊢; omega : (-32768 : ℤ) ≤ a.toInt)
  · exact_mod_cast (by norm_num at h2 ⊢; omega : a.toInt ≤ (32768 : ℤ))

theorem abs_coe (a : ℝ) : max (a : EReal) (-(a : EReal)) = ((|a| : ℝ) : EReal) := by
  rw [← EReal.coe_neg, abs]
  exact (EReal.coe_strictMono.monotone.map_max).symm

end Cert.Quantiser

end
-- ==== Proof.Value.Product.lean ====
/- One product of the kernel at the ideal instance, element by element. -/
module

public import proofs.«01_k».proof.Proof.Ring.Out
public import proofs.«01_k».proof.Proof.Value.RefValue
public import proofs.«01_k».proof.Proof.Value.Scalar
public import Idealize.ShloMosaic.Lib.Pointwise

@[expose] public section

noncomputable section

namespace Cert.KernelIdeal.Ring

open Idealize.ShloMosaic
open Cert.KernelIdeal Cert.KernelIdeal.Gen
open Cert.ReferenceIdeal.Whole (rnd)

/-- The scaled weights, as both stored halves are computed from them. -/
theorem hi_apply (w : Vec Ideal S256x2048 .f32) (i : S256x2048.Idx) : k0_pay4 w i = w i * ((2048 : ℝ) : EReal) := by
  rw [← Cert.Quantiser.lit_2048]
  unfold k0_pay4 k0_pay3 k0_pay2
  simp only [shapeCast_self]
  rfl
theorem lo_apply (w : Vec Ideal S256x2048 .f32) (i : S256x2048.Idx) :
    k0_pay5 w i = w i * ((2048 : ℝ) : EReal) - w i * ((2048 : ℝ) : EReal) := by
  rw [← Cert.Quantiser.lit_2048]
  unfold k0_pay5 k0_pay3 k0_pay2
  simp only [shapeCast_self]
  rfl

theorem gemm_apply (x : Vec Ideal S256x256 .f32) (h l : Vec Ideal S256x1024 .bf16) (j : S256x1024.Idx) :
    gemm x h l j = (∑ k : Fin 256, x (ix2 (j 0) k) * h (ix2 k (j 1)))
      + ((∑ k : Fin 256, x (ix2 (j 0) k) * l (ix2 k (j 1))) + ∑ k : Fin 256, (x (ix2 (j 0) k) - x (ix2 (j 0) k)) * h (ix2 k (j 1))) := by
  unfold gemm k0_pay6
  simp only [shapeCast_self]
  pointwise

/-- The first column of the half a product reads. -/
def halfOf : Bool → ℕ
  | true => 0
  | false => 1024

theorem halfOf_le (h : Bool) : halfOf h ≤ 1024 := by cases h <;> decide

/-- A product of finite blocks: the plain dot product, scaled. -/
theorem prod_apply (x : Vec Ideal S4096x256 .f32) (w : Vec Ideal S256x2048 .f32) (hx : ∀ i, ∃ v : ℝ, x i = (v : EReal)) (hw : ∀ i, ∃ v : ℝ, w i = (v : EReal))
    (o : ℕ) (ho : o + 256 ≤ 4096) (hoff : ∀ a, (![o, 0] : Fin 2 → ℕ) a + S256x256.size a ≤ S4096x256.size a) (h : Bool) (r : Fin 256) (l : Fin 1024) :
    prod (F := Ideal) x w ![o, 0] hoff h (ix2 r l)
      = (∑ k : Fin 256, x (ix2 (⟨o + r.val, by omega⟩ : Fin 4096) k) * w (ix2 k (⟨halfOf h + l.val, by have := halfOf_le h; omega⟩ : Fin 2048)))
        * ((2048 : ℝ) : EReal) := by
  rw [← Cert.Quantiser.split_dot _ _ (fun k => hx _) (fun k => hw _)]
  have ex : ∀ k : Fin 256, (Memref.whole cc0_stg0_0).view.readAt (Elt Ideal) (Rect.unit (s := S4096x256) ![o, 0] S256x256.size hoff).toLoadRect x (ix2 r k)
      = x (ix2 (⟨o + r.val, by omega⟩ : Fin 4096) k) := fun k => by
    refine congrArg x (funext fun (a : Fin 2) => Fin.ext ?_)
    rcases (show a = (0 : Fin 2) ∨ a = (1 : Fin 2) by revert a; decide) with rfl | rfl
    · show o + 1 * r.val = o + r.val; omega
    · show 0 + 1 * k.val = k.val; omega
  have ew : ∀ (v : Vec Ideal S256x2048 .bf16) (k : Fin 256) (b : ℕ) (hb : b + 1024 ≤ 2048) (hi : ∀ a, (![0, b] : Fin 2 → ℕ) a + S256x1024.size a ≤ S256x2048.size a),
      (Memref.whole cc0_scratch0).view.readAt (Elt Ideal) (Rect.unit (s := S256x2048) ![0, b] S256x1024.size hi).toLoadRect v (ix2 k l)
        = v (ix2 k (⟨b + l.val, by omega⟩ : Fin 2048)) := fun v k b hb hi => by
    refine congrArg v (funext fun (a : Fin 2) => Fin.ext ?_)
    rcases (show a = (0 : Fin 2) ∨ a = (1 : Fin 2) by revert a; decide) with rfl | rfl
    · show 0 + 1 * k.val = k.val; omega
    · show b + 1 * l.val = b + l.val; omega
  cases h
  · unfold prod
    refine (gemm_apply _ _ _ _).trans ?_
    refine congrArg₂ (· + ·) (Finset.sum_congr rfl fun k _ => congrArg₂ (· * ·) (ex k) ((ew _ k 1024 (by omega) _).trans (hi_apply _ _)))
      (congrArg₂ (· + ·) (Finset.sum_congr rfl fun k _ => congrArg₂ (· * ·) (ex k) ((ew _ k 1024 (by omega) _).trans (lo_apply _ _)))
        (Finset.sum_congr rfl fun k _ => congrArg₂ (· * ·) (congrArg₂ (· - ·) (ex k) (ex k)) ((ew _ k 1024 (by omega) _).trans (hi_apply _ _))))
  · unfold prod
    refine (gemm_apply _ _ _ _).trans ?_
    refine congrArg₂ (· + ·) (Finset.sum_congr rfl fun k _ => congrArg₂ (· * ·) (ex k) ((ew _ k 0 (by omega) _).trans (hi_apply _ _)))
      (congrArg₂ (· + ·) (Finset.sum_congr rfl fun k _ => congrArg₂ (· * ·) (ex k) ((ew _ k 0 (by omega) _).trans (lo_apply _ _)))
        (Finset.sum_congr rfl fun k _ => congrArg₂ (· * ·) (congrArg₂ (· - ·) (ex k) (ex k)) ((ew _ k 0 (by omega) _).trans (hi_apply _ _))))

/-- The first column, within a product, of the flow's half. -/
def sideOf : Fin 4 → ℕ
  | 0 | 1 => 0
  | 2 | 3 => 512

theorem sideOf_le (f : Fin 4) : sideOf f ≤ 512 := by revert f; decide

theorem wireOf_apply (f : Fin 4) (g : FVec Ideal S256x1024 .f32) (r : Fin 256) (l : Fin 512) :
    wireOf f g (ix2 r l) = rnd (g (ix2 r (⟨sideOf f + l.val, by have := sideOf_le f; omega⟩ : Fin 1024))) := by
  have key : ∀ (b : ℕ) (hb : b + 512 ≤ 1024) (hs : S256x1024.Slices ![0, b] S256x512),
      extractStridedSlice S256x512 ![0, b] g hs (ix2 r l) = g (ix2 r (⟨b + l.val, by omega⟩ : Fin 1024)) := fun b hb hs => by
    refine congrArg g (funext fun (a : Fin 2) => Fin.ext ?_)
    rcases (show a = (0 : Fin 2) ∨ a = (1 : Fin 2) by revert a; decide) with rfl | rfl
    · show 0 + r.val = r.val; omega
    · rfl
  match f with
  | 0 => exact congrArg rnd (key 0 (by omega) _)
  | 1 => exact congrArg rnd (key 0 (by omega) _)
  | 2 => exact congrArg rnd (key 512 (by omega) _)
  | 3 => exact congrArg rnd (key 512 (by omega) _)

end Cert.KernelIdeal.Ring

end
-- ==== Proof.Value.RingSum.lean ====
/- What travels round the ring, element by element: every device's product with one row block, added up. -/
module

public import proofs.«01_k».proof.Proof.Value.Product

@[expose] public section

noncomputable section

namespace Cert.KernelIdeal.Ring

open Idealize.ShloMosaic
open Cert.KernelIdeal Cert.KernelIdeal.Gen
open Cert.ReferenceIdeal.Whole (rnd)

/-- The device that adds the `t`-th contribution to the sum that ends on `c`. -/
def hop (f : Fin 4) (c : Dev nD) (t : ℕ) : Dev nD :=
  match toRight f with
  | true => (⟨(c.val + 1 + t) % 16, Nat.mod_lt _ (by decide)⟩ : Fin 16)
  | false => (⟨(c.val + 31 - t) % 16, Nat.mod_lt _ (by decide)⟩ : Fin 16)

theorem src_hop (f : Fin 4) (c : Dev nD) (t : Fin 15) : src (hop f c (t.val + 1)) f = hop f c t.val := by
  revert f c t; decide +kernel
theorem hop_last (f : Fin 4) (c : Dev nD) : hop f c 15 = c := by
  revert f c; decide +kernel
theorem src_last (f : Fin 4) (c : Dev nD) : src c f = hop f c 14 := by
  revert f c; decide +kernel
theorem off_right (f : Fin 4) (c : Dev nD) (t : Fin 15) (hf : toRight f = true) :
    k0_off1 (hop f c t.val) (BitVec.ofNat 32 t.val) = ![256 * c.val, 0] := by
  revert f c t; decide +kernel
theorem off_left (f : Fin 4) (c : Dev nD) (t : Fin 15) (hf : toRight f = false) :
    k0_off2 (hop f c t.val) (BitVec.ofNat 32 t.val) = ![256 * c.val, 0] := by
  revert f c t; decide +kernel
theorem off_own (c : Dev nD) : k0_off3 c = ![256 * c.val, 0] := by
  revert c; decide +kernel
theorem hop_bij (f : Fin 4) (c : Dev nD) : Function.Bijective fun t : Fin 16 => (hop f c t.val : Fin 16) := by
  revert f c; decide +kernel

theorem own_inb (c : Dev nD) (a : Fin 2) : (![256 * c.val, 0] : Fin 2 → ℕ) a + S256x256.size a ≤ S4096x256.size a :=
  off_own c ▸ k0_off3_inb c a

variable (xs : Dev nD → Vec Ideal S4096x256 .f32) (ws : Dev nD → Vec Ideal S256x2048 .f32)

/-- Device `d`'s contribution to the sum that ends on `c`. -/
def contrib (f : Fin 4) (c d : Dev nD) : IVec S256x512 16 :=
  wireOf f (prod (xs d) (ws d) ![256 * c.val, 0] (own_inb c) (toRight f))

theorem prod_off (x : XC Ideal) (w : WC Ideal) (o o' : Fin 2 → ℕ) (h h') (b : Bool) (e : o = o') : prod x w o h b = prod x w o' h' b := by
  subst e; rfl

theorem part_hop (f : Fin 4) (c : Dev nD) (t : Fin 15) : part xs ws (hop f c t.val) f t.val = contrib xs ws f c (hop f c t.val) := by
  unfold part contrib
  rw [dif_pos t.isLt]
  cases e : toRight f
  · exact congrArg (wireOf f) (prod_off (xs (hop f c t.val)) (ws (hop f c t.val)) _ _ (k0_off2_inb _ t) (own_inb c) false (off_left f c t e))
  · exact congrArg (wireOf f) (prod_off (xs (hop f c t.val)) (ws (hop f c t.val)) _ _ (k0_off1_inb _ t) (own_inb c) true (off_right f c t e))

theorem wire_hop (f : Fin 4) (c : Dev nD) (j : S256x512.Idx) : ∀ (s : ℕ), s < 15 →
    wire xs ws f s (hop f c s) j = ∑ t ∈ Finset.range (s + 1), contrib xs ws f c (hop f c t) j
  | 0, _ => by
    rw [Finset.sum_range_one]
    exact congrFun (part_hop xs ws f c 0) j
  | s + 1, hs => by
    have ih := wire_hop f c j s (by omega)
    rw [Finset.sum_range_succ, ← ih]
    refine Eq.trans ?_ (add_comm _ _)
    refine congrArg₂ (· + ·) (congrFun (part_hop xs ws f c ⟨s + 1, hs⟩) j) ?_
    exact congrFun (congrArg (wire xs ws f s) (src_hop f c ⟨s, by omega⟩)) j

/-- The final sum, over all devices. -/
theorem accOf_sum (f : Fin 4) (c : Dev nD) (j : S256x512.Idx) : accOf xs ws f c j = ∑ d : Fin 16, contrib xs ws f c d j := by
  have e : accOf xs ws f c j = ∑ t ∈ Finset.range 16, contrib xs ws f c (hop f c t) j := by
    rw [Finset.sum_range_succ, ← wire_hop xs ws f c j 14 (by omega), hop_last, ← src_last]
    exact congrArg (_ + ·) (congrFun (congrArg (wireOf f) (prod_off _ _ _ _ _ _ _ (off_own c))) j)
  rw [e, ← Fin.sum_univ_eq_sum_range]
  exact Function.Bijective.sum_comp (hop_bij f c) fun d : Fin 16 => contrib xs ws f c d j

/-- The first column of flow `f`'s quarter. -/
def colOf (f : Fin 4) : ℕ := halfOf (toRight f) + sideOf f

theorem colOf_le (f : Fin 4) : colOf f ≤ 1536 := by revert f; decide

theorem contrib_apply (hx : ∀ c i, ∃ v : ℝ, xs c i = (v : EReal)) (hw : ∀ c i, ∃ v : ℝ, ws c i = (v : EReal)) (f : Fin 4) (c d : Dev nD) (r : Fin 256) (l : Fin 512) :
    contrib xs ws f c d (ix2 r l)
      = rnd ((∑ k : Fin 256, xs d (ix2 (⟨256 * c.val + r.val, by have : c.val < 16 := c.isLt; omega⟩ : Fin 4096) k)
          * ws d (ix2 k (⟨colOf f + l.val, by have := colOf_le f; omega⟩ : Fin 2048))) * ((2048 : ℝ) : EReal)) := by
  unfold contrib
  refine (wireOf_apply f _ r l).trans (congrArg rnd ?_)
  refine (prod_apply (xs d) (ws d) (hx d) (hw d) (256 * c.val) (by have : c.val < 16 := c.isLt; omega) _ (toRight f) r _).trans ?_
  refine congrArg (· * _) (Finset.sum_congr rfl fun k _ => congrArg (_ * ·) ?_)
  refine congrArg (fun n : Fin 2048 => ws d (ix2 k n)) (Fin.ext ?_)
  show halfOf (toRight f) + (sideOf f + l.val) = halfOf (toRight f) + sideOf f + l.val
  omega

end Cert.KernelIdeal.Ring

end
-- ==== Proof.Value.Maxima.lean ====
/- The largest element of an array, as the bodies compute it, bounds the array from above, tightly. -/
module

public import proofs.«01_k».proof.Proof.Value.Scalar

@[expose] public section

noncomputable section

namespace Cert.Quantiser

open Idealize.ShloMosaic

variable {s t u v : Shape} {axes : List (Fin t.rank)}

/-- The largest element of `x`. -/
abbrev maxOf (x : FVec Ideal s .f32) (hst : s.ShapeCasts t) (h : t.Reduces axes u) (hφ : FKind.Formats .f32)
    (hacc : 0xFF800000#32 = FKind.maximumf.neutral .f32 hφ) (huv : u.ShapeCasts v) (pos : Fin v.rank → Nat) (hp : ∀ a, pos a < v.size a) : EReal :=
  extractAt pos (shapeCast v (multiReduction .maximumf axes u (shapeCast t x hst) 0xFF800000#32 h hφ hacc) huv) hp

variable (x : FVec Ideal s .f32) (hst : s.ShapeCasts t) (h : t.Reduces axes u) (hφ : FKind.Formats .f32)
    (hacc : 0xFF800000#32 = FKind.maximumf.neutral .f32 hφ) (huv : u.ShapeCasts v) (pos : Fin v.rank → Nat) (hp : ∀ a, pos a < v.size a)

theorem maxOf_eq (hu : ∀ b, u.size b = 1) :
    maxOf x hst h hφ hacc huv pos hp = (Finset.univ : Finset t.Idx).fold max ⊥ (fun i => x (Shape.reshapeEquiv hst i)) := by
  unfold maxOf extractAt
  show multiReduction .maximumf axes u (shapeCast t x hst) 0xFF800000#32 h hφ hacc _ = _
  rw [multiReduction_maximumf_eq_fold, Finset.filter_true_of_mem fun i _ => funext fun b => Fin.ext (by
    have h1 := (h.drop i b).isLt; have h2 := (Shape.reshapeEquiv huv (fun a => ⟨pos a, hp a⟩) b).isLt; have h3 := hu b; omega)]
  show Finset.fold max (Ideal.ofBits .f32 0xFF800000#32) _ _ = _
  rw [lit_bot]
  rfl

theorem le_maxOf (hu : ∀ b, u.size b = 1) (i : s.Idx) : x i ≤ maxOf x hst h hφ hacc huv pos hp := by
  rw [maxOf_eq x hst h hφ hacc huv pos hp hu, Finset.le_fold_max]
  exact .inr ⟨(Shape.reshapeEquiv hst).symm i, Finset.mem_univ _, by rw [Equiv.apply_symm_apply]⟩

theorem maxOf_le (hu : ∀ b, u.size b = 1) (B : EReal) (hB : ∀ i, x i ≤ B) : maxOf x hst h hφ hacc huv pos hp ≤ B := by
  rw [maxOf_eq x hst h hφ hacc huv pos hp hu, Finset.fold_max_le]
  exact ⟨bot_le, fun i _ => hB _⟩

end Cert.Quantiser

end
-- ==== Proof.Value.Equation.lean ====
/- Both result arrays, element by element: the sum of the rounded slabs over 2048. -/
module

public import proofs.«01_k».proof.Proof.Value.RingSum
public import proofs.«01_k».proof.Proof.Value.Maxima

@[expose] public section

noncomputable section

namespace Cert.Quantiser

open Idealize.ShloMosaic

/-- An extended real between the size of a real and a bound is a real. -/
theorem real_between (x B : ℝ) (A : EReal) (h1 : (x : EReal) ≤ A) (h2 : A ≤ (B : EReal)) : ∃ v : ℝ, A = (v : EReal) := by
  refine ⟨A.toReal, (EReal.coe_toReal ?_ ?_).symm⟩
  · rintro rfl; exact absurd h2 (not_le.2 (EReal.coe_lt_top B))
  · rintro rfl; exact absurd h1 (not_le.2 (EReal.bot_lt_coe x))

/-- The size of a 16-bit integer, as computed. -/
theorem abs_int (a : BitVec 16) : max (((a.toInt : ℝ) : EReal)) (-((a.toInt : ℝ) : EReal)) = ((|(a.toInt : ℝ)| : ℝ) : EReal) :=
  abs_coe _

end Cert.Quantiser

namespace Cert.ReferenceIdeal.Whole

open Idealize.ShloMosaic
open Cert.ReferenceIdeal Cert.ReferenceIdeal.Gen
open Cert.Quantiser

theorem yOf_apply (X : Vec Ideal S4096x4096 .f32) (W : Vec Ideal S4096x2048 .f32) (j : S4096x2048.Idx) :
    yOf X W j = (((acc X W j).toInt / 2048 : ℝ) : EReal) := by
  rw [← div_coe _ _ (by norm_num), ← lit_2048]
  rfl

/-- The reference's result at an element. -/
theorem out_value (X : Vec Ideal S4096x4096 .f32) (W : Vec Ideal S4096x2048 .f32) (j : S4096x2048.Idx) :
    out0_2 X W j = (((acc X W j).toInt / 2048 : ℝ) : EReal) := by
  have hy : ∀ i, absf (yOf X W) i = ((|((acc X W i).toInt / 2048 : ℝ)| : ℝ) : EReal) := fun i => by
    show max (yOf X W i) (-(yOf X W i)) = _
    rw [yOf_apply, abs_coe]
  have hu : ∀ b, S1.size b = 1 := by decide
  have h1 := le_maxOf (absf (yOf X W)) shapeCasts_S4096x2048_S1x4096x2048 reduces_S1x4096x2048_S1 (.inl rfl) rfl shapeCasts_S1_S1x1x1 ![0, 0, 0]
    inpos_S1x1x1_p0_0_0 hu j
  have h2 := maxOf_le (absf (yOf X W)) shapeCasts_S4096x2048_S1x4096x2048 reduces_S1x4096x2048_S1 (.inl rfl) rfl shapeCasts_S1_S1x1x1 ![0, 0, 0]
    inpos_S1x1x1_p0_0_0 hu ((16 : ℝ) : EReal) fun i => by
      rw [hy, EReal.coe_le_coe_iff, abs_div, abs_of_pos (by norm_num : (0 : ℝ) < 2048), div_le_iff₀ (by norm_num)]
      exact (toInt_abs_le _).trans (by norm_num)
  rw [hy j] at h1
  obtain ⟨M, hM⟩ := real_between _ _ _ h1 h2
  rw [hM, EReal.coe_le_coe_iff] at h1
  have hs : scaleOf (yOf X W) = Ideal.div (M : EReal) ((448 : ℝ) : EReal) := by
    rw [← hM, ← lit_448]
    rfl
  rw [out_eq, hs, yOf_apply, lit_448, lit_neg448, reference_quant _ _ h1]

end Cert.ReferenceIdeal.Whole

namespace Cert.KernelIdeal.Ring

open Idealize.ShloMosaic
open Cert.KernelIdeal Cert.KernelIdeal.Gen
open Cert.Quantiser

variable (xs : Dev nD → Vec Ideal S4096x256 .f32) (ws : Dev nD → Vec Ideal S256x2048 .f32)

theorem one_size : ∀ b, S1.size b = 1 := by decide

/-- The largest size in one flow's sum. -/
abbrev flowMax (a : IVec S256x512 16) : EReal :=
  maxOf (absf (sitofp (F := Ideal) .f32 a)) shapeCasts_S256x512_S1x256x512 reduces_S1x256x512_S1 (.inl rfl) rfl shapeCasts_S1_S1x1x1 ![0, 0, 0] inpos_S1x1x1_p0_0_0

theorem le_flowMax (a : IVec S256x512 16) (i : S256x512.Idx) : ((|((a i).toInt : ℝ)| : ℝ) : EReal) ≤ flowMax a := by
  rw [← abs_int]
  exact le_maxOf (absf (sitofp (F := Ideal) .f32 a)) shapeCasts_S256x512_S1x256x512 reduces_S1x256x512_S1 (.inl rfl) rfl shapeCasts_S1_S1x1x1 ![0, 0, 0]
    inpos_S1x1x1_p0_0_0 one_size i

theorem flowMax_le (a : IVec S256x512 16) : flowMax a ≤ ((32768 : ℝ) : EReal) :=
  maxOf_le (absf (sitofp (F := Ideal) .f32 a)) shapeCasts_S256x512_S1x256x512 reduces_S1x256x512_S1 (.inl rfl) rfl shapeCasts_S1_S1x1x1 ![0, 0, 0]
    inpos_S1x1x1_p0_0_0 one_size _ fun i => by
      show max (((a i).toInt : ℝ) : EReal) (-(((a i).toInt : ℝ) : EReal)) ≤ _
      rw [abs_int, EReal.coe_le_coe_iff]
      exact toInt_abs_le _

theorem four_max (x y z w : EReal) (i : S1x128.Idx) :
    shapeCast S1x128 (broadcast (α := Ideal .f32) S1x128 (Scalar.maximumf (F := Ideal) (φ := .f32) (Scalar.maximumf (F := Ideal) (φ := .f32)
      (Scalar.maximumf (F := Ideal) (φ := .f32) x y) z) w)) shapeCasts_S1x128_S1x128 i = max (max (max x y) z) w := by
  rw [shapeCast_self]
  rfl

theorem pay188_apply (a0 a1 a2 a3 : IVec S256x512 16) (i : S1x128.Idx) :
    k0_pay188 (F := Ideal) a0 a1 a2 a3 i = max (max (max (flowMax a0) (flowMax a1)) (flowMax a2)) (flowMax a3) :=
  four_max (flowMax a0) (flowMax a1) (flowMax a2) (flowMax a3) i

theorem le_amaxVal (f : Fin 4) (c : Dev nD) (i : S1x128.Idx) : flowMax (accOf xs ws f c) ≤ amaxVal xs ws c i := by
  show _ ≤ k0_pay188 (F := Ideal) _ _ _ _ i
  rw [pay188_apply]
  match f with
  | 0 => exact le_max_of_le_left (le_max_of_le_left (le_max_left _ _))
  | 1 => exact le_max_of_le_left (le_max_of_le_left (le_max_right _ _))
  | 2 => exact le_max_of_le_left (le_max_right _ _)
  | 3 => exact le_max_right _ _

theorem amaxVal_le (c : Dev nD) (i : S1x128.Idx) : (amaxVal xs ws c i : EReal) ≤ ((32768 : ℝ) : EReal) := by
  show k0_pay188 (F := Ideal) _ _ _ _ i ≤ _
  rw [pay188_apply]
  exact max_le (max_le (max_le (flowMax_le _) (flowMax_le _)) (flowMax_le _)) (flowMax_le _)

theorem outOf_apply (a : IVec S256x512 16) (B : Vec Ideal S16x128 .f32) (j : S256x512.Idx) :
    outOf a B j = ((((a j).toInt : ℝ) : EReal) * Ideal.div (Ideal.ofBits .f32 0x43E00000#32) (k0_pay189 (F := Ideal) B))
      * Ideal.div (k0_pay189 (F := Ideal) B) (Ideal.ofBits .f32 0x49600000#32) := by
  unfold outOf k0_pay192 k0_pay190 k0_pay191
  generalize k0_pay189 (F := Ideal) B = P
  rfl

/-- The kernel's quantised element. -/
theorem outOf_value (f : Fin 4) (c : Dev nD) (j : S256x512.Idx) :
    outOf (accOf xs ws f c) (amaxAll xs ws) j = (((accOf xs ws f c j).toInt / 2048 : ℝ) : EReal) := by
  have h1 : ((|((accOf xs ws f c j).toInt : ℝ)| : ℝ) : EReal) ≤ k0_pay189 (F := Ideal) (amaxAll xs ws) :=
    ((le_flowMax _ j).trans (le_amaxVal xs ws f c _)).trans
      (le_maxOf (amaxAll xs ws) shapeCasts_S16x128_S1x16x128 reduces_S1x16x128_S1 (.inl rfl) rfl shapeCasts_S1_S1x1x1 ![0, 0, 0]
        inpos_S1x1x1_p0_0_0 one_size (ix2 (⟨c.val, c.isLt⟩ : Fin 16) (0 : Fin 128)))
  have h2 : k0_pay189 (F := Ideal) (amaxAll xs ws) ≤ ((32768 : ℝ) : EReal) :=
    maxOf_le (amaxAll xs ws) shapeCasts_S16x128_S1x16x128 reduces_S1x16x128_S1 (.inl rfl) rfl shapeCasts_S1_S1x1x1 ![0, 0, 0]
        inpos_S1x1x1_p0_0_0 one_size _ fun i => amaxVal_le xs ws _ _
  obtain ⟨A, hA⟩ := real_between _ _ _ h1 h2
  rw [hA, EReal.coe_le_coe_iff] at h1
  rw [outOf_apply, hA, lit_448, lit_917504]
  exact kernel_quant _ A h1

/-- The sum a flow ends with is a block of the reference's. -/
theorem accOf_value (hx : ∀ c i, ∃ v : ℝ, xs c i = (v : EReal)) (hw : ∀ c i, ∃ v : ℝ, ws c i = (v : EReal))
    (X : Vec Ideal Cert.ReferenceIdeal.S4096x4096 .f32) (W : Vec Ideal Cert.ReferenceIdeal.S4096x2048 .f32)
    (hX : ∀ (p : Fin 16) (r : Fin 4096) (k : Fin 256), xs p (ix2 r k) = X (ix2 r (⟨256 * p.val + k.val, by omega⟩ : Fin 4096)))
    (hW : ∀ (p : Fin 16) (k : Fin 256) (l : Fin 2048), ws p (ix2 k l) = W (ix2 (⟨256 * p.val + k.val, by omega⟩ : Fin 4096) l))
    (f : Fin 4) (c : Dev nD) (r : Fin 256) (l : Fin 512) :
    accOf xs ws f c (ix2 r l) = Cert.ReferenceIdeal.Whole.acc X W
      (ix2 (⟨256 * c.val + r.val, by have : c.val < 16 := c.isLt; omega⟩ : Fin 4096) (⟨colOf f + l.val, by have := colOf_le f; omega⟩ : Fin 2048)) := by
  rw [accOf_sum]
  refine Finset.sum_congr rfl fun p _ => ?_
  rw [contrib_apply xs ws hx hw]
  unfold Cert.ReferenceIdeal.Whole.term
  rw [lit_2048]
  refine congrArg Cert.ReferenceIdeal.Whole.rnd (congrArg (· * _) (Finset.sum_congr rfl fun k _ => congrArg₂ (· * ·) (hX p _ k) (hW p k _)))

theorem col_split (n : Fin 2048) : colOf (flowOf n.val) + n.val % 512 = n.val := by
  have : n.val < 512 ∨ (512 ≤ n.val ∧ n.val < 1024) ∨ (1024 ≤ n.val ∧ n.val < 1536) ∨ 1536 ≤ n.val := by omega
  rcases this with h | h | h | h
  · rw [show flowOf n.val = 0 by unfold flowOf; rw [if_pos (by omega)]]; show 0 + 0 + _ = _; omega
  · rw [show flowOf n.val = 2 by unfold flowOf; rw [if_neg (by omega), if_pos (by omega)]]; show 0 + 512 + _ = _; omega
  · rw [show flowOf n.val = 1 by unfold flowOf; rw [if_neg (by omega), if_neg (by omega), if_pos (by omega)]]; show 1024 + 0 + _ = _; omega
  · rw [show flowOf n.val = 3 by unfold flowOf; rw [if_neg (by omega), if_neg (by omega), if_neg (by omega)]]; show 1024 + 512 + _ = _; omega

/-- The kernel's result block, element by element, is the reference's. -/
theorem outFin_value (hx : ∀ c i, ∃ v : ℝ, xs c i = (v : EReal)) (hw : ∀ c i, ∃ v : ℝ, ws c i = (v : EReal))
    (X : Vec Ideal Cert.ReferenceIdeal.S4096x4096 .f32) (W : Vec Ideal Cert.ReferenceIdeal.S4096x2048 .f32)
    (hX : ∀ (p : Fin 16) (r : Fin 4096) (k : Fin 256), xs p (ix2 r k) = X (ix2 r (⟨256 * p.val + k.val, by omega⟩ : Fin 4096)))
    (hW : ∀ (p : Fin 16) (k : Fin 256) (l : Fin 2048), ws p (ix2 k l) = W (ix2 (⟨256 * p.val + k.val, by omega⟩ : Fin 4096) l))
    (c : Dev nD) (i : S256x2048.Idx) :
    outFin xs ws c i = Cert.ReferenceIdeal.Gen.out0_2 X W
      (ix2 (⟨256 * c.val + (i (0 : Fin 2)).val, by have : c.val < 16 := c.isLt; have : (i (0 : Fin 2)).val < 256 := (i (0 : Fin 2)).isLt; omega⟩ : Fin 4096)
        (⟨(i (1 : Fin 2)).val, (i (1 : Fin 2)).isLt⟩ : Fin 2048)) := by
  rw [Cert.ReferenceIdeal.Whole.out_value]
  unfold outFin
  rw [outOf_value]
  refine congrArg (fun a : BitVec 16 => ((a.toInt / 2048 : ℝ) : EReal)) ?_
  have eq : quarterIdx i ⟨(i (1 : Fin 2)).val % 512, Nat.mod_lt _ (by decide)⟩
      = ix2 (⟨(i (0 : Fin 2)).val, (i (0 : Fin 2)).isLt⟩ : Fin 256) (⟨(i (1 : Fin 2)).val % 512, Nat.mod_lt _ (by decide)⟩ : Fin 512) := by
    refine funext fun (a : Fin 2) => ?_
    rcases (show a = (0 : Fin 2) ∨ a = (1 : Fin 2) by revert a; decide) with rfl | rfl <;> rfl
  rw [eq, accOf_value xs ws hx hw X W hX hW]
  refine congrArg (fun n : Fin 2048 => Cert.ReferenceIdeal.Whole.acc X W (ix2 _ n)) (Fin.ext ?_)
  exact col_split (⟨(i (1 : Fin 2)).val, (i (1 : Fin 2)).isLt⟩ : Fin 2048)

end Cert.KernelIdeal.Ring

end
-- ==== Proof.Value.Finite.lean ====
/- The precondition read at one element: a finite array has real entries. -/
module

public import proofs.«01_k».proof.Defs
public import proofs.«01_k».proof.Proof.Value.Scalar
public import Idealize.ShloMosaic.Lib.ReduceAll

@[expose] public section

noncomputable section

namespace Cert.Quantiser

open Idealize.ShloMosaic

/-- A number whose size is below infinity is a real. -/
theorem real_of_lt (v : EReal) (h : Ideal.ofBits .f32 0x7F800000#32 > max v (-v)) : ∃ x : ℝ, v = (x : EReal) := by
  rw [lit_top] at h
  refine ⟨v.toReal, (EReal.coe_toReal ?_ ?_).symm⟩
  · rintro rfl; exact absurd h (by simp)
  · rintro rfl; exact absurd h (by simp)

theorem real_of_cmp {s : Shape} (x B : FVec Ideal s .f32) (i : s.Idx) (hB : B i = Ideal.ofBits .f32 0x7F800000#32)
    (h : cmpf .olt (Host.absf x) B i = 1#1) : ∃ v : ℝ, x i = (v : EReal) := by
  refine real_of_lt (x i) ?_
  rw [← hB]
  by_contra hn
  revert h
  show BitVec.ofBool (decide (max (x i) (-(x i)) < B i)) ≠ 1#1
  rw [decide_eq_false hn]
  decide

end Cert.Quantiser

namespace Cert.Pre_finite_KernelIdeal

open Idealize.ShloMosaic

theorem facts : Facts := by constructor <;> decide

attribute [local instance] facts

instance : Subsingleton S_.Idx := ⟨fun a b => funext fun k => k.elim0⟩

theorem real (x : FVec Ideal S4096x256 .f32) (w : FVec Ideal S256x2048 .f32) (h : fn (F := Ideal) x w = fun _ => 1#1) :
    (∀ i, ∃ v : ℝ, x i = (v : EReal)) ∧ ∀ i, ∃ v : ℝ, w i = (v : EReal) := by
  have h0 := congrFun h (fun k => k.elim0)
  obtain ⟨h1, h2⟩ := IntOp.andi_eq_one.1 h0
  exact ⟨fun i => Cert.Quantiser.real_of_cmp _ _ _ rfl (Host.reduce_andi_all _ _ _ _ _ h1 i),
    fun i => Cert.Quantiser.real_of_cmp _ _ _ rfl (Host.reduce_andi_all _ _ _ _ _ h2 i)⟩

end Cert.Pre_finite_KernelIdeal

namespace Cert.Pre_finite_ReferenceIdeal

theorem facts : Facts := by constructor <;> decide

end Cert.Pre_finite_ReferenceIdeal

end
-- ==== Proof.Value.Whole.lean ====
/- The equation of the two programs at the ideal instance. -/
module

public import proofs.«01_k».proof.Defs
public import proofs.«01_k».proof.Proof.Value.Final
public import proofs.«01_k».proof.Proof.Value.RefFinal
public import proofs.«01_k».proof.Proof.Value.Equation
public import proofs.«01_k».proof.Proof.Value.Finite

@[expose] public section

noncomputable section

namespace Cert.KernelIdeal.Ring

open Idealize.ShloMosaic Idealize.ShloMosaic.TcCoe Idealize.SL.Sem
open Cert.KernelIdeal Cert.KernelIdeal.Gen

/-- From the blocks of two arrays, each device's result is its block of the reference's. -/
theorem result_block (m : (ℓ : Loc nD τ sig) → Buf (Elt Ideal) ℓ)
    (X : Vec Ideal Cert.ReferenceIdeal.S4096x4096 .f32) (W : Vec Ideal Cert.ReferenceIdeal.S4096x2048 .f32)
    (hx : ∀ c : Dev nD, ∀ i : S4096x256.Idx, ∃ v : ℝ, m ((c : Thread nD τ).loc main_arg0) i = (v : EReal))
    (hw : ∀ c : Dev nD, ∀ i : S256x2048.Idx, ∃ v : ℝ, m ((c : Thread nD τ).loc main_arg1) i = (v : EReal))
    (hX : ∀ c : Dev nD, m ((c : Thread nD τ).loc main_arg0) = Layout.block ⟨2, ![4096, 256]⟩ ⟨2, ![4096, 4096]⟩ 1 16 c X)
    (hW : ∀ c : Dev nD, m ((c : Thread nD τ).loc main_arg1) = Layout.block ⟨2, ![256, 2048]⟩ ⟨2, ![4096, 2048]⟩ 0 16 c W) (c : Dev nD) :
    outFin (xsOf m) (wsOf m) c = Layout.block ⟨2, ![256, 2048]⟩ ⟨2, ![4096, 2048]⟩ 0 16 c (Cert.ReferenceIdeal.Gen.out0_2 X W) := by
  refine funext fun (i : S256x2048.Idx) => ?_
  refine (outFin_value (xsOf m) (wsOf m) (fun c i => by rw [xsOf_eq]; exact hx c i) (fun c i => by rw [wsOf_eq]; exact hw c i) X W
    (fun p r k => ?_) (fun p k l => ?_) c i).trans ?_
  · rw [xsOf_eq, hX]
    refine congrArg X (funext fun (a : Fin 2) => Fin.ext ?_)
    rcases (show a = (0 : Fin 2) ∨ a = (1 : Fin 2) by revert a; decide) with rfl | rfl
    · rfl
    · show p.val * 256 + k.val = 256 * p.val + k.val; omega
  · rw [wsOf_eq, hW]
    refine congrArg W (funext fun (a : Fin 2) => Fin.ext ?_)
    rcases (show a = (0 : Fin 2) ∨ a = (1 : Fin 2) by revert a; decide) with rfl | rfl
    · show p.val * 256 + k.val = 256 * p.val + k.val; omega
    · rfl
  · generalize Cert.ReferenceIdeal.Gen.out0_2 X W = G
    refine congrArg G (funext fun (a : Fin 2) => Fin.ext ?_)
    rcases (show a = (0 : Fin 2) ∨ a = (1 : Fin 2) by revert a; decide) with rfl | rfl
    · show 256 * c.val + (i (0 : Fin 2)).val = c.val * 256 + (i (0 : Fin 2)).val; omega
    · rfl

set_option maxRecDepth 50000 in
/-- The run, read at the three arrays. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = outFin (xsOf m) (wsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c 2).trans (finalA_2 m ρ c), (h.1 c 0).trans (finalA_0 m ρ c), (h.1 c 1).trans (finalA_1 m ρ c)⟩) (run_main m ρ)

/-- The kernel computes the reference's function. -/
theorem equation : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.facts) := by
  intro m ρ m' ρ' hpre hin
  refine ⟨Cert.ReferenceIdeal.Gen.out0_2 (m' ((((0 : Dev Cert.ReferenceIdeal.nD)).tc : Thread Cert.ReferenceIdeal.nD Cert.ReferenceIdeal.τ).loc Cert.ReferenceIdeal.main_arg0))
    (m' ((((0 : Dev Cert.ReferenceIdeal.nD)).tc : Thread Cert.ReferenceIdeal.nD Cert.ReferenceIdeal.τ).loc Cert.ReferenceIdeal.main_arg1)), ?_, ?_⟩
  · refine (θ_run defs _ _).mono (fun _ h c => ⟨(h c).1.trans ?_, (h c).2⟩) (run_value m ρ)
    exact result_block m _ _ (fun c => (Cert.Pre_finite_KernelIdeal.real _ _ (hpre c)).1) (fun c => (Cert.Pre_finite_KernelIdeal.real _ _ (hpre c)).2)
      (fun c => (hin c).1) (fun c => (hin c).2) c
  · exact (θ_run Cert.ReferenceIdeal.defs _ _).mono (fun _ h => h 0) (Cert.ReferenceIdeal.Whole.run m' ρ')

end Cert.KernelIdeal.Ring

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Ring.Frames
public import proofs.«01_k».proof.Proof.Value.Whole
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.facts, Cert.Pre_finite_ReferenceIdeal.facts, Cert.Kernel.Ring.frame_bits, Cert.KernelIdeal.Ring.frame_ideal,
  fun m ρ _ => Cert.KernelIdeal.Ring.frame_ideal m ρ trivial, fun m ρ _ => Cert.ReferenceIdeal.Gen.frame m ρ,
  fun m ρ _ => Cert.ReferenceIdeal.Gen.frame m ρ, trivial, Cert.KernelIdeal.Ring.equation⟩

end Cert.Proof

end
